-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "s" .f32 0x3DB504F3#32 (((Real.sqrt 128)⁻¹ : ℝ) : EReal)

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S2x128x4096 : Shape := ⟨3, ![2, 128, 4096]⟩
abbrev S2x4096x3 : Shape := ⟨3, ![2, 4096, 3]⟩
abbrev S128x81 : Shape := ⟨2, ![128, 81]⟩
abbrev S128 : Shape := ⟨1, ![128]⟩
abbrev S_ : Shape := ⟨0, ![]⟩
abbrev S64x128 : Shape := ⟨2, ![64, 128]⟩
abbrev S64 : Shape := ⟨1, ![64]⟩
abbrev S64x4 : Shape := ⟨2, ![64, 4]⟩
abbrev S64x64 : Shape := ⟨2, ![64, 64]⟩
abbrev S2x4096x4096 : Shape := ⟨3, ![2, 4096, 4096]⟩
abbrev S2x4096x128 : Shape := ⟨3, ![2, 4096, 128]⟩
abbrev S2 : Shape := ⟨1, ![2]⟩
abbrev S2x1x1 : Shape := ⟨3, ![2, 1, 1]⟩
abbrev S2x4096x128x1 : Shape := ⟨4, ![2, 4096, 128, 1]⟩
abbrev S2x4096x128x2 : Shape := ⟨4, ![2, 4096, 128, 2]⟩
abbrev S2x4096x128x3 : Shape := ⟨4, ![2, 4096, 128, 3]⟩
abbrev S2x4096x1x3 : Shape := ⟨4, ![2, 4096, 1, 3]⟩
abbrev S2x4096x33 : Shape := ⟨3, ![2, 4096, 33]⟩
abbrev S2x4096x1 : Shape := ⟨3, ![2, 4096, 1]⟩
abbrev S2x4096 : Shape := ⟨2, ![2, 4096]⟩

class Facts : Prop where
  bcast_S_S2x4096x4096 : S_.BroadcastsInDim S2x4096x4096 (![] : Fin 0 → Fin S2x4096x4096.rank)
  sliceFits_S2x4096x4096_S2x4096x128 : S2x4096x4096.Slices (fun _ => 0) S2x4096x128
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S_S2x4096x128 : S_.BroadcastsInDim S2x4096x128 (![] : Fin 0 → Fin S2x4096x128.rank)
  bcast_S2x1x1_S2x4096x128_0_1_2 : S2x1x1.BroadcastsInDim S2x4096x128 (![0, 1, 2] : Fin 3 → Fin S2x4096x128.rank)
  bcast_S2x4096x128_S2x4096x128x1_0_1_2 : S2x4096x128.BroadcastsInDim S2x4096x128x1 (![0, 1, 2] : Fin 3 → Fin S2x4096x128x1.rank)
  concatenates_S2x4096x128x1_S2x4096x128x1_S2x4096x128x2_d3 : Shape.Concatenates [S2x4096x128x1, S2x4096x128x1] S2x4096x128x2 3
  bcast_S2x4096x3_S2x4096x1x3_0_1_3 : S2x4096x3.BroadcastsInDim S2x4096x1x3 (![0, 1, 3] : Fin 3 → Fin S2x4096x1x3.rank)
  bcast_S2x4096x1x3_S2x4096x128x3_0_1_2_3 : S2x4096x1x3.BroadcastsInDim S2x4096x128x3 (![0, 1, 2, 3] : Fin 4 → Fin S2x4096x128x3.rank)
  reducesTo_S2x4096x128x3_S2x4096x128_d3 : S2x4096x128x3.ReducesTo [3] S2x4096x128
  h_S_ : 0 < S_.numel
  sliceFits_S2x4096x128_S2x4096x33 : S2x4096x128.Slices (fun _ => 0) S2x4096x33
  slices_S2x4096x33_S2x4096x1_0_0_31 : S2x4096x33.Slices ![0, 0, 31] S2x4096x1
  shapeCasts_S2x4096x1_S2x4096 : S2x4096x1.ShapeCasts S2x4096
  slices_S2x4096x33_S2x4096x1_0_0_32 : S2x4096x33.Slices ![0, 0, 32] S2x4096x1
  bcast_S_S2x128x4096 : S_.BroadcastsInDim S2x128x4096 (![] : Fin 0 → Fin S2x128x4096.rank)
  bcast_S_S128x81 : S_.BroadcastsInDim S128x81 (![] : Fin 0 → Fin S128x81.rank)
  bcast_S_S128 : S_.BroadcastsInDim S128 (![] : Fin 0 → Fin S128.rank)
  bcast_S_S64x4 : S_.BroadcastsInDim S64x4 (![] : Fin 0 → Fin S64x4.rank)
  bcast_S_S64 : S_.BroadcastsInDim S64 (![] : Fin 0 → Fin S64.rank)
  dot_S2x128x4096_S2x128x4096_S2x4096x4096_1_1_2_2_0_0_wf : DotDims.WF S2x128x4096 S2x128x4096 S2x4096x4096 [1] [1] [2] [2] [0] [0]
  gather_S2x4096x3_S2x4096x128x2_S2x4096x128x3_3_01_n_n_01_3_113_wf : GatherDims.WF S2x4096x3 S2x4096x128x2 S2x4096x128x3 [3] [0, 1] [] [0, 1] [] 3 ![1, 1, 3]

variable [Facts]

def dot_S2x128x4096_S2x128x4096_S2x4096x4096_1_1_2_2_0_0 : DotDims S2x128x4096 S2x128x4096 S2x4096x4096 where
  lhsContracting := [1]
  rhsContracting := [1]
  lhsNonContracting := [2]
  rhsNonContracting := [2]
  lhsBatch := [0]
  rhsBatch := [0]
  wf := dot_S2x128x4096_S2x128x4096_S2x4096x4096_1_1_2_2_0_0_wf
def gather_S2x4096x3_S2x4096x128x2_S2x4096x128x3_3_01_n_n_01_3_113 : GatherDims S2x4096x3 S2x4096x128x2 S2x4096x128x3 where
  offsetDims := [3]
  collapsedSliceDims := [0, 1]
  operandBatchingDims := []
  startIndicesBatchingDims := []
  startIndexMap := [0, 1]
  indexVectorDim := 3
  sliceSizes := ![1, 1, 3]
  wf := gather_S2x4096x3_S2x4096x128x2_S2x4096x128x3_3_01_n_n_01_3_113_wf
def fn_part2 {F : FTy → Type} [FloatOps F] (main_arg4 : FVec F S128x81 .f32) (main_arg5 : FVec F S128 .f32) (main_arg11 : FVec F S64x4 .f32) (main_arg12 : FVec F S64 .f32) (main_arg13 : FVec F S64 .f32) (main_arg15 : FVec F S_ .f32) (main_v31 : IVec S2x4096 1) (main_v34 : IVec S2x128x4096 1) (main_v35 : FVec F S2x128x4096 .f32) (main_cst_7 : FVec F S_ .f32) : IVec S2x128x4096 1 × IVec S2x128x4096 1 × IVec S128x81 1 × IVec S128 1 × IVec S64x4 1 × IVec S64 1 × IVec S64 1 × IVec S_ 1 × IVec S2x4096 1 :=
  let main_v36 : FVec F S2x128x4096 .f32 := broadcastInDim S2x128x4096 ![] bcast_S_S2x128x4096 main_cst_7
  let main_v37 : IVec S2x128x4096 1 := cmpf .olt main_v35 main_v36
  let main_v38 : FVec F S128x81 .f32 := Host.absf main_arg4
  let main_cst_8 : FVec F S_ .f32 := constant S_ .f32 0x7F800000#32
  let main_v39 : FVec F S128x81 .f32 := broadcastInDim S128x81 ![] bcast_S_S128x81 main_cst_8
  let main_v40 : IVec S128x81 1 := cmpf .olt main_v38 main_v39
  let main_v41 : FVec F S128 .f32 := Host.absf main_arg5
  let main_cst_9 : FVec F S_ .f32 := constant S_ .f32 0x7F800000#32
  let main_v42 : FVec F S128 .f32 := broadcastInDim S128 ![] bcast_S_S128 main_cst_9
  let main_v43 : IVec S128 1 := cmpf .olt main_v41 main_v42
  let main_v44 : FVec F S64x4 .f32 := Host.absf main_arg11
  let main_cst_10 : FVec F S_ .f32 := constant S_ .f32 0x7F800000#32
  let main_v45 : FVec F S64x4 .f32 := broadcastInDim S64x4 ![] bcast_S_S64x4 main_cst_10
  let main_v46 : IVec S64x4 1 := cmpf .olt main_v44 main_v45
  let main_v47 : FVec F S64 .f32 := Host.absf main_arg12
  let main_cst_11 : FVec F S_ .f32 := constant S_ .f32 0x7F800000#32
  let main_v48 : FVec F S64 .f32 := broadcastInDim S64 ![] bcast_S_S64 main_cst_11
  let main_v49 : IVec S64 1 := cmpf .olt main_v47 main_v48
  let main_cst_12 : FVec F S_ .f32 := constant S_ .f32 0x00000000#32
  let main_v50 : FVec F S64 .f32 := broadcastInDim S64 ![] bcast_S_S64 main_cst_12
  let main_v51 : IVec S64 1 := cmpf .oge main_arg13 main_v50
  let main_cst_13 : FVec F S_ .f32 := constant S_ .f32 0x00000000#32
  let main_v52 : IVec S_ 1 := cmpf .oge main_arg15 main_cst_13
  (main_v34, main_v37, main_v40, main_v43, main_v46, main_v49, main_v51, main_v52, main_v31)

def fn_part1 {F : FTy → Type} [FloatOps F] (main_arg0 : FVec F S2x128x4096 .f32) (main_arg1 : FVec F S2x128x4096 .f32) (main_arg2 : FVec F S2x4096x3 .f32) (main_arg3 : FVec F S2x4096x3 .f32) (main_arg4 : FVec F S128x81 .f32) (main_arg5 : FVec F S128 .f32) (main_arg11 : FVec F S64x4 .f32) (main_arg12 : FVec F S64 .f32) (main_arg13 : FVec F S64 .f32) (main_arg15 : FVec F S_ .f32) (main_v15 : IVec S2x4096x128 32) (main_v16 : IVec S2x4096x128 32) : IVec S2x128x4096 1 × IVec S2x128x4096 1 × IVec S128x81 1 × IVec S128 1 × IVec S64x4 1 × IVec S64 1 × IVec S64 1 × IVec S_ 1 × IVec S2x4096 1 :=
  let main_v17 : IVec S2x4096x128x1 32 := broadcastInDim S2x4096x128x1 ![0, 1, 2] bcast_S2x4096x128_S2x4096x128x1_0_1_2 main_v16
  let main_v18 : IVec S2x4096x128x1 32 := broadcastInDim S2x4096x128x1 ![0, 1, 2] bcast_S2x4096x128_S2x4096x128x1_0_1_2 main_v15
  let main_v19 : IVec S2x4096x128x2 32 := (fun a b => concatenate S2x4096x128x2 3 [⟨S2x4096x128x1, a⟩, ⟨S2x4096x128x1, b⟩] concatenates_S2x4096x128x1_S2x4096x128x1_S2x4096x128x2_d3) main_v17 main_v18
  let main_v20 : FVec F S2x4096x128x3 .f32 := (fun x i => Host.gather gather_S2x4096x3_S2x4096x128x2_S2x4096x128x3_3_01_n_n_01_3_113 x i) main_arg2 main_v19
  let main_v21 : FVec F S2x4096x1x3 .f32 := broadcastInDim S2x4096x1x3 ![0, 1, 3] bcast_S2x4096x3_S2x4096x1x3_0_1_3 main_arg3
  let main_v22 : FVec F S2x4096x128x3 .f32 := broadcastInDim S2x4096x128x3 ![0, 1, 2, 3] bcast_S2x4096x1x3_S2x4096x128x3_0_1_2_3 main_v21
  let main_v23 : FVec F S2x4096x128x3 .f32 := subf main_v20 main_v22
  let main_v24 : FVec F S2x4096x128x3 .f32 := mulf main_v23 main_v23
  let main_cst_3 : FVec F S_ .f32 := constant S_ .f32 0x00000000#32
  let main_v25 : FVec F S2x4096x128 .f32 := (fun x v => Host.reduceAdd x v reducesTo_S2x4096x128x3_S2x4096x128_d3 h_S_) main_v24 main_cst_3
  let main_v26 : FVec F S2x4096x128 .f32 := Host.negf main_v25
  let main_values_4 : FVec F S2x4096x33 .f32 := (fun x => (Host.topK S2x4096x33 2 (FloatOps.cmpfTotal .gt) x sliceFits_S2x4096x128_S2x4096x33).1) main_v26
  let main_indices_5 : IVec S2x4096x33 32 := (fun x => (Host.topK S2x4096x33 2 (FloatOps.cmpfTotal .gt) x sliceFits_S2x4096x128_S2x4096x33).2) main_v26
  let main_v27 : FVec F S2x4096x1 .f32 := (extractStridedSlice S2x4096x1 ![0, 0, 31] · slices_S2x4096x33_S2x4096x1_0_0_31) main_values_4
  let main_v28 : FVec F S2x4096 .f32 := shapeCast S2x4096 main_v27 shapeCasts_S2x4096x1_S2x4096
  let main_v29 : FVec F S2x4096x1 .f32 := (extractStridedSlice S2x4096x1 ![0, 0, 32] · slices_S2x4096x33_S2x4096x1_0_0_32) main_values_4
  let main_v30 : FVec F S2x4096 .f32 := shapeCast S2x4096 main_v29 shapeCasts_S2x4096x1_S2x4096
  let main_v31 : IVec S2x4096 1 := cmpf .ogt main_v28 main_v30
  let main_v32 : FVec F S2x128x4096 .f32 := Host.absf main_arg0
  let main_cst_6 : FVec F S_ .f32 := constant S_ .f32 0x7F800000#32
  let main_v33 : FVec F S2x128x4096 .f32 := broadcastInDim S2x128x4096 ![] bcast_S_S2x128x4096 main_cst_6
  let main_v34 : IVec S2x128x4096 1 := cmpf .olt main_v32 main_v33
  let main_v35 : FVec F S2x128x4096 .f32 := Host.absf main_arg1
  let main_cst_7 : FVec F S_ .f32 := constant S_ .f32 0x7F800000#32
  fn_part2 (F := F) main_arg4 main_arg5 main_arg11 main_arg12 main_arg13 main_arg15 main_v31 main_v34 main_v35 main_cst_7

def fn {F : FTy → Type} [FloatOps F] (main_arg0 : FVec F S2x128x4096 .f32) (main_arg1 : FVec F S2x128x4096 .f32) (main_arg2 : FVec F S2x4096x3 .f32) (main_arg3 : FVec F S2x4096x3 .f32) (main_arg4 : FVec F S128x81 .f32) (main_arg5 : FVec F S128 .f32) (main_arg6 : FVec F S128 .f32) (main_arg7 : FVec F S128 .f32) (main_arg8 : FVec F S_ .f32) (main_arg9 : FVec F S64x128 .f32) (main_arg10 : FVec F S64 .f32) (main_arg11 : FVec F S64x4 .f32) (main_arg12 : FVec F S64 .f32) (main_arg13 : FVec F S64 .f32) (main_arg14 : FVec F S64 .f32) (main_arg15 : FVec F S_ .f32) (main_arg16 : FVec F S64x64 .f32) (main_arg17 : FVec F S64 .f32) : IVec S2x128x4096 1 × IVec S2x128x4096 1 × IVec S128x81 1 × IVec S128 1 × IVec S64x4 1 × IVec S64 1 × IVec S64 1 × IVec S_ 1 × IVec S2x4096 1 :=
  let main_v0 : FVec F S2x4096x4096 .f32 := (fun l r => Host.dotGeneral dot_S2x128x4096_S2x128x4096_S2x4096x4096_1_1_2_2_0_0 none l r) main_arg0 main_arg1
  let main_cst : FVec F S_ .f32 := constant S_ .f32 0x43000000#32
  let main_v1 : FVec F S_ .f32 := Host.sqrt main_cst
  let main_v2 : FVec F S2x4096x4096 .f32 := broadcastInDim S2x4096x4096 ![] bcast_S_S2x4096x4096 main_v1
  let main_v3 : FVec F S2x4096x4096 .f32 := Host.divf main_v0 main_v2
  let main_values : FVec F S2x4096x128 .f32 := (fun x => (Host.topK S2x4096x128 2 (FloatOps.cmpfTotal .gt) x sliceFits_S2x4096x4096_S2x4096x128).1) main_v3
  let main_indices : IVec S2x4096x128 32 := (fun x => (Host.topK S2x4096x128 2 (FloatOps.cmpfTotal .gt) x sliceFits_S2x4096x4096_S2x4096x128).2) main_v3
  let main_v4 : IVec S2 32 := iotaInDim S2 32 0
  let main_v5 : IVec S2x1x1 32 := broadcastInDim S2x1x1 ![0] bcast_S2_S2x1x1_0 main_v4
  let main_c : IVec S_ 32 := constantI S_ 32 0#32
  let main_v6 : IVec S2x1x1 32 := broadcastInDim S2x1x1 ![] bcast_S_S2x1x1 main_c
  let main_v7 : IVec S2x1x1 1 := cmpi .slt main_v5 main_v6
  let main_c_0 : IVec S_ 32 := constantI S_ 32 2#32
  let main_v8 : IVec S2x1x1 32 := broadcastInDim S2x1x1 ![] bcast_S_S2x1x1 main_c_0
  let main_v9 : IVec S2x1x1 32 := addi main_v5 main_v8
  let main_v10 : IVec S2x1x1 32 := select main_v7 main_v9 main_v5
  let main_c_1 : IVec S_ 32 := constantI S_ 32 0#32
  let main_v11 : IVec S2x4096x128 32 := broadcastInDim S2x4096x128 ![] bcast_S_S2x4096x128 main_c_1
  let main_v12 : IVec S2x4096x128 1 := cmpi .slt main_indices main_v11
  let main_c_2 : IVec S_ 32 := constantI S_ 32 4096#32
  let main_v13 : IVec S2x4096x128 32 := broadcastInDim S2x4096x128 ![] bcast_S_S2x4096x128 main_c_2
  let main_v14 : IVec S2x4096x128 32 := addi main_indices main_v13
  let main_v15 : IVec S2x4096x128 32 := select main_v12 main_v14 main_indices
  let main_v16 : IVec S2x4096x128 32 := broadcastInDim S2x4096x128 ![0, 1, 2] bcast_S2x1x1_S2x4096x128_0_1_2 main_v10
  fn_part1 (F := F) main_arg0 main_arg1 main_arg2 main_arg3 main_arg4 main_arg5 main_arg11 main_arg12 main_arg13 main_arg15 main_v15 main_v16
-- ==== Kernel.lean ====
abbrev S2x128x4096 : Shape := ⟨3, ![2, 128, 4096]⟩
abbrev S2x4096x3 : Shape := ⟨3, ![2, 4096, 3]⟩
abbrev S128x81 : Shape := ⟨2, ![128, 81]⟩
abbrev S128 : Shape := ⟨1, ![128]⟩
abbrev S_ : Shape := ⟨0, ![]⟩
abbrev S64x128 : Shape := ⟨2, ![64, 128]⟩
abbrev S64 : Shape := ⟨1, ![64]⟩
abbrev S64x4 : Shape := ⟨2, ![64, 4]⟩
abbrev S64x64 : Shape := ⟨2, ![64, 64]⟩
abbrev S2x3x4096 : Shape := ⟨3, ![2, 3, 4096]⟩
abbrev S2x5x4096 : Shape := ⟨3, ![2, 5, 4096]⟩
abbrev S2x8x4096 : Shape := ⟨3, ![2, 8, 4096]⟩
abbrev S128x47 : Shape := ⟨2, ![128, 47]⟩
abbrev S128x128 : Shape := ⟨2, ![128, 128]⟩
abbrev S64x124 : Shape := ⟨2, ![64, 124]⟩
abbrev S1x128 : Shape := ⟨2, ![1, 128]⟩
abbrev S1x64 : Shape := ⟨2, ![1, 64]⟩
abbrev S2x64x4096 : Shape := ⟨3, ![2, 64, 4096]⟩
abbrev S2x2x128 : Shape := ⟨3, ![2, 2, 128]⟩
abbrev S2x16x128 : Shape := ⟨3, ![2, 16, 128]⟩
abbrev S1x128x256 : Shape := ⟨3, ![1, 128, 256]⟩
abbrev S1x128x4096 : Shape := ⟨3, ![1, 128, 4096]⟩
abbrev S1x8x4096 : Shape := ⟨3, ![1, 8, 4096]⟩
abbrev S1x8x256 : Shape := ⟨3, ![1, 8, 256]⟩
abbrev S1x64x256 : Shape := ⟨3, ![1, 64, 256]⟩
abbrev S1x2x128 : Shape := ⟨3, ![1, 2, 128]⟩
abbrev S1x16x128 : Shape := ⟨3, ![1, 16, 128]⟩
abbrev S128x256 : Shape := ⟨2, ![128, 256]⟩
abbrev S128x4096 : Shape := ⟨2, ![128, 4096]⟩
abbrev S256x4096 : Shape := ⟨2, ![256, 4096]⟩
abbrev S256x4095 : Shape := ⟨2, ![256, 4095]⟩
abbrev S256x1 : Shape := ⟨2, ![256, 1]⟩
abbrev S256 : Shape := ⟨1, ![256]⟩
abbrev S256x128 : Shape := ⟨2, ![256, 128]⟩
abbrev S256x32 : Shape := ⟨2, ![256, 32]⟩
abbrev S32x32 : Shape := ⟨2, ![32, 32]⟩
abbrev S1x256x128 : Shape := ⟨3, ![1, 256, 128]⟩
abbrev S32x256x128 : Shape := ⟨3, ![32, 256, 128]⟩
abbrev S32x256x128x1 : Shape := ⟨4, ![32, 256, 128, 1]⟩
abbrev S1x1x4096 : Shape := ⟨3, ![1, 1, 4096]⟩
abbrev S1x4096 : Shape := ⟨2, ![1, 4096]⟩
abbrev S8x256 : Shape := ⟨2, ![8, 256]⟩
abbrev S256x8 : Shape := ⟨2, ![256, 8]⟩
abbrev S3456x27 : Shape := ⟨2, ![3456, 27]⟩
abbrev S256x3456 : Shape := ⟨2, ![256, 3456]⟩
abbrev S512x3456 : Shape := ⟨2, ![512, 3456]⟩
abbrev S512x27 : Shape := ⟨2, ![512, 27]⟩
abbrev S256x27 : Shape := ⟨2, ![256, 27]⟩
abbrev S256x81 : Shape := ⟨2, ![256, 81]⟩
abbrev S256x47 : Shape := ⟨2, ![256, 47]⟩
abbrev S128x1 : Shape := ⟨2, ![128, 1]⟩
abbrev S256x127 : Shape := ⟨2, ![256, 127]⟩
abbrev S256x2 : Shape := ⟨2, ![256, 2]⟩
abbrev S256x126 : Shape := ⟨2, ![256, 126]⟩
abbrev S256x4 : Shape := ⟨2, ![256, 4]⟩
abbrev S256x124 : Shape := ⟨2, ![256, 124]⟩
abbrev S256x120 : Shape := ⟨2, ![256, 120]⟩
abbrev S256x16 : Shape := ⟨2, ![256, 16]⟩
abbrev S256x112 : Shape := ⟨2, ![256, 112]⟩
abbrev S256x96 : Shape := ⟨2, ![256, 96]⟩
abbrev S256x64 : Shape := ⟨2, ![256, 64]⟩
abbrev S256x128x1 : Shape := ⟨3, ![256, 128, 1]⟩
abbrev S1x1 : Shape := ⟨2, ![1, 1]⟩
abbrev S64x256 : Shape := ⟨2, ![64, 256]⟩
abbrev S2x128 : Shape := ⟨2, ![2, 128]⟩
abbrev S1x256x32 : Shape := ⟨3, ![1, 256, 32]⟩
abbrev S1 : Shape := ⟨1, ![1]⟩
abbrev S1x1x1 : Shape := ⟨3, ![1, 1, 1]⟩
abbrev S16x128 : Shape := ⟨2, ![16, 128]⟩
abbrev S1x64x4096 : Shape := ⟨3, ![1, 64, 4096]⟩
abbrev S64x4096 : Shape := ⟨2, ![64, 4096]⟩
abbrev S64x1 : Shape := ⟨2, ![64, 1]⟩

abbrev nBuf : Space → Nat
  | .hbm => 69
  | .vmem => 42
  | .smem => 0
  | _ => 0

abbrev bufTy : (tb : Table) → Fin (tcTables nBuf tb) → BufTy
  | .hbm, ⟨0, _⟩ => ⟨S2x128x4096, .f32⟩
  | .hbm, ⟨1, _⟩ => ⟨S2x128x4096, .f32⟩
  | .hbm, ⟨2, _⟩ => ⟨S2x4096x3, .f32⟩
  | .hbm, ⟨3, _⟩ => ⟨S2x4096x3, .f32⟩
  | .hbm, ⟨4, _⟩ => ⟨S128x81, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S64x128, .f32⟩
  | .hbm, ⟨10, _⟩ => ⟨S64, .f32⟩
  | .hbm, ⟨11, _⟩ => ⟨S64x4, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64x64, .f32⟩
  | .hbm, ⟨17, _⟩ => ⟨S64, .f32⟩
  | .hbm, ⟨18, _⟩ => ⟨S2x3x4096, .f32⟩
  | .hbm, ⟨19, _⟩ => ⟨S_, .f32⟩
  | .hbm, ⟨20, _⟩ => ⟨S2x5x4096, .f32⟩
  | .hbm, ⟨21, _⟩ => ⟨S2x8x4096, .f32⟩
  | .hbm, ⟨22, _⟩ => ⟨S2x3x4096, .f32⟩
  | .hbm, ⟨23, _⟩ => ⟨S_, .f32⟩
  | .hbm, ⟨24, _⟩ => ⟨S2x5x4096, .f32⟩
  | .hbm, ⟨25, _⟩ => ⟨S2x8x4096, .f32⟩
  | .hbm, ⟨26, _⟩ => ⟨S_, .f32⟩
  | .hbm, ⟨27, _⟩ => ⟨S128x47, .f32⟩
  | .hbm, ⟨28, _⟩ => ⟨S128x128, .f32⟩
  | .hbm, ⟨29, _⟩ => ⟨S_, .f32⟩
  | .hbm, ⟨30, _⟩ => ⟨S64x124, .f32⟩
  | .hbm, ⟨31, _⟩ => ⟨S64x128, .f32⟩
  | .hbm, ⟨32, _⟩ => ⟨S_, .f32⟩
  | .hbm, ⟨33, _⟩ => ⟨S64x64, .f32⟩
  | .hbm, ⟨34, _⟩ => ⟨S64x128, .f32⟩
  | .hbm, ⟨35, _⟩ => ⟨S1x128, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x128, .f32⟩
  | .hbm, ⟨40, _⟩ => ⟨S2x128x4096, .f32⟩
  | .hbm, ⟨41, _⟩ => ⟨S2x64x4096, .f32⟩
  | .hbm, ⟨42, _⟩ => ⟨S2x2x128, .f32⟩
  | .hbm, ⟨43, _⟩ => ⟨S2x16x128, .f32⟩
  | .hbm, ⟨44, _⟩ => ⟨S1x64, .f32⟩
  | .hbm, ⟨45, _⟩ => ⟨S_, .f32⟩
  | .hbm, ⟨46, _⟩ => ⟨S1x64, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x64, .f32⟩
  | .hbm, ⟨52, _⟩ => ⟨S_, .f32⟩
  | .hbm, ⟨53, _⟩ => ⟨S1x64, .f32⟩
  | .hbm, ⟨54, _⟩ => ⟨S1x128, .f32⟩
  | .hbm, ⟨55, _⟩ => ⟨S1x64, .f32⟩
  | .hbm, ⟨56, _⟩ => ⟨S_, .f32⟩
  | .hbm, ⟨57, _⟩ => ⟨S1x64, .f32⟩
  | .hbm, ⟨58, _⟩ => ⟨S1x128, .f32⟩
  | .hbm, ⟨59, _⟩ => ⟨S1x64, .f32⟩
  | .hbm, ⟨60, _⟩ => ⟨S_, .f32⟩
  | .hbm, ⟨61, _⟩ => ⟨S1x64, .f32⟩
  | .hbm, ⟨62, _⟩ => ⟨S1x128, .f32⟩
  | .hbm, ⟨63, _⟩ => ⟨S1x128, .f32⟩
  | .hbm, ⟨64, _⟩ => ⟨S1x64, .f32⟩
  | .hbm, ⟨65, _⟩ => ⟨S_, .f32⟩
  | .hbm, ⟨66, _⟩ => ⟨S1x64, .f32⟩
  | .hbm, ⟨67, _⟩ => ⟨S1x128, .f32⟩
  | .hbm, ⟨68, _⟩ => ⟨S2x64x4096, .f32⟩
  | .local _ .vmem, ⟨0, _⟩ => ⟨S1x128x256, .f32⟩
  | .local _ .vmem, ⟨1, _⟩ => ⟨S1x128x256, .f32⟩
  | .local _ .vmem, ⟨2, _⟩ => ⟨S1x128x4096, .f32⟩
  | .local _ .vmem, ⟨3, _⟩ => ⟨S1x128x4096, .f32⟩
  | .local _ .vmem, ⟨4, _⟩ => ⟨S1x8x4096, .f32⟩
  | .local _ .vmem, ⟨5, _⟩ => ⟨S1x8x4096, .f32⟩
  | .local _ .vmem, ⟨6, _⟩ => ⟨S1x8x256, .f32⟩
  | .local _ .vmem, ⟨7, _⟩ => ⟨S1x8x256, .f32⟩
  | .local _ .vmem, ⟨8, _⟩ => ⟨S128x128, .f32⟩
  | .local _ .vmem, ⟨9, _⟩ => ⟨S1x128, .f32⟩
  | .local _ .vmem, ⟨10, _⟩ => ⟨S64x128, .f32⟩
  | .local _ .vmem, ⟨11, _⟩ => ⟨S1x128, .f32⟩
  | .local _ .vmem, ⟨12, _⟩ => ⟨S1x128x256, .f32⟩
  | .local _ .vmem, ⟨13, _⟩ => ⟨S1x128x256, .f32⟩
  | .local _ .vmem, ⟨14, _⟩ => ⟨S1x64x256, .f32⟩
  | .local _ .vmem, ⟨15, _⟩ => ⟨S1x64x256, .f32⟩
  | .local _ .vmem, ⟨16, _⟩ => ⟨S1x2x128, .f32⟩
  | .local _ .vmem, ⟨17, _⟩ => ⟨S1x2x128, .f32⟩
  | .local _ .vmem, ⟨18, _⟩ => ⟨S1x16x128, .f32⟩
  | .local _ .vmem, ⟨19, _⟩ => ⟨S1x16x128, .f32⟩
  | .local _ .vmem, ⟨20, _⟩ => ⟨S1x128x4096, .f32⟩
  | .local _ .vmem, ⟨21, _⟩ => ⟨S1x128x4096, .f32⟩
  | .local _ .vmem, ⟨22, _⟩ => ⟨S1x64x4096, .f32⟩
  | .local _ .vmem, ⟨23, _⟩ => ⟨S1x64x4096, .f32⟩
  | .local _ .vmem, ⟨24, _⟩ => ⟨S1x2x128, .f32⟩
  | .local _ .vmem, ⟨25, _⟩ => ⟨S1x2x128, .f32⟩
  | .local _ .vmem, ⟨26, _⟩ => ⟨S1x16x128, .f32⟩
  | .local _ .vmem, ⟨27, _⟩ => ⟨S1x16x128, .f32⟩
  | .local _ .vmem, ⟨28, _⟩ => ⟨S64x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S64x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S64x128, .f32⟩
  | .local _ .vmem, ⟨39, _⟩ => ⟨S1x128, .f32⟩
  | .local _ .vmem, ⟨40, _⟩ => ⟨S1x64x4096, .f32⟩
  | .local _ .vmem, ⟨41, _⟩ => ⟨S1x64x4096, .f32⟩
  | _, _ => ⟨S2x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_cst_2 : Ref sig .tc := ⟨.hbm, 29, rfl⟩
abbrev main_v8 : Ref sig .tc := ⟨.hbm, 30, rfl⟩
abbrev main_v9 : Ref sig .tc := ⟨.hbm, 31, rfl⟩
abbrev main_cst_3 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_4 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev main_v16_2 : Ref sig .tc := ⟨.hbm, 42, rfl⟩
abbrev main_v16_3 : Ref sig .tc := ⟨.hbm, 43, rfl⟩
abbrev main_v17 : Ref sig .tc := ⟨.hbm, 44, rfl⟩
abbrev main_cst_5 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_6 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_7 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_8 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_9 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg12_0 : Ref sig .tc := ⟨.vmem, 36, rfl⟩
abbrev cc1_stg13_0 : Ref sig .tc := ⟨.vmem, 37, rfl⟩
abbrev cc1_stg14_0 : Ref sig .tc := ⟨.vmem, 38, rfl⟩
abbrev cc1_stg15_0 : Ref sig .tc := ⟨.vmem, 39, rfl⟩
abbrev cc1_stg16_0 : Ref sig .tc := ⟨.vmem, 40, rfl⟩
abbrev cc1_stg16_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem10_0 : DmaSem sig := 34
abbrev cc1_sem11_0 : DmaSem sig := 35
abbrev cc1_sem12_0 : DmaSem sig := 36
abbrev cc1_sem13_0 : DmaSem sig := 37
abbrev cc1_sem14_0 : DmaSem sig := 38
abbrev cc1_sem15_0 : DmaSem sig := 39
abbrev cc1_sem16_0 : DmaSem sig := 40
abbrev cc1_sem16_1 : DmaSem sig := 41

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_6 : BitVec 32 := 0#32
  let c4096_i32 : BitVec 32 := 4096#32
  let v8 : BitVec 32 := Scalar.addi c0_i32_6 c4096_i32
  let c1_i32 : BitVec 32 := 1#32
  ⟨c0_i32_6, v8, c1_i32⟩
@[reducible] def k0_t2_loop : Scf.Loop 32 :=
  let c0_i32_8 : BitVec 32 := 0#32
  let c32_i32 : BitVec 32 := 32#32
  let v11 : BitVec 32 := Scalar.addi c0_i32_8 c32_i32
  let c1_i32_9 : BitVec 32 := 1#32
  ⟨c0_i32_8, v11, c1_i32_9⟩
@[reducible] def k0_t3_loop : Scf.Loop 32 :=
  let c0_i32_825 : BitVec 32 := 0#32
  let c128_i32_826 : BitVec 32 := 128#32
  let v4005 : BitVec 32 := Scalar.addi c0_i32_825 c128_i32_826
  let c1_i32_827 : BitVec 32 := 1#32
  ⟨c0_i32_825, v4005, c1_i32_827⟩
@[reducible] def k0_t4_loop : Scf.Loop 32 :=
  let c0_i32_829 : BitVec 32 := 0#32
  let c32_i32_830 : BitVec 32 := 32#32
  let v4008 : BitVec 32 := Scalar.addi c0_i32_829 c32_i32_830
  let c1_i32_831 : BitVec 32 := 1#32
  ⟨c0_i32_829, v4008, c1_i32_831⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x16x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S64x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S1x64x4096 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S2x128x4096 : Shape := ⟨3, ![2, 128, 4096]⟩
abbrev S2x4096x3 : Shape := ⟨3, ![2, 4096, 3]⟩
abbrev S128x81 : Shape := ⟨2, ![128, 81]⟩
abbrev S128 : Shape := ⟨1, ![128]⟩
abbrev S_ : Shape := ⟨0, ![]⟩
abbrev S64x128 : Shape := ⟨2, ![64, 128]⟩
abbrev S64 : Shape := ⟨1, ![64]⟩
abbrev S64x4 : Shape := ⟨2, ![64, 4]⟩
abbrev S64x64 : Shape := ⟨2, ![64, 64]⟩
abbrev S2x4096x4096 : Shape := ⟨3, ![2, 4096, 4096]⟩
abbrev S2x4096x128 : Shape := ⟨3, ![2, 4096, 128]⟩
abbrev S2 : Shape := ⟨1, ![2]⟩
abbrev S2x1x1 : Shape := ⟨3, ![2, 1, 1]⟩
abbrev S2x4096x128x1 : Shape := ⟨4, ![2, 4096, 128, 1]⟩
abbrev S2x4096x128x2 : Shape := ⟨4, ![2, 4096, 128, 2]⟩
abbrev S2x4096x128x3 : Shape := ⟨4, ![2, 4096, 128, 3]⟩
abbrev S2x4096x1x3 : Shape := ⟨4, ![2, 4096, 1, 3]⟩
abbrev S27 : Shape := ⟨1, ![27]⟩
abbrev S1x1x1x27 : Shape := ⟨4, ![1, 1, 1, 27]⟩
abbrev S2x4096x128x27 : Shape := ⟨4, ![2, 4096, 128, 27]⟩
abbrev S2x4096x27 : Shape := ⟨3, ![2, 4096, 27]⟩
abbrev S2x27x4096 : Shape := ⟨3, ![2, 27, 4096]⟩
abbrev S2x81x4096 : Shape := ⟨3, ![2, 81, 4096]⟩
abbrev S1x128x1 : Shape := ⟨3, ![1, 128, 1]⟩
abbrev S2x8x16x4096 : Shape := ⟨4, ![2, 8, 16, 4096]⟩
abbrev S2x8 : Shape := ⟨2, ![2, 8]⟩
abbrev S2x8x1x1 : Shape := ⟨4, ![2, 8, 1, 1]⟩
abbrev S2x4096x64 : Shape := ⟨3, ![2, 4096, 64]⟩
abbrev S2x64x4096 : Shape := ⟨3, ![2, 64, 4096]⟩
abbrev S1x64x1 : Shape := ⟨3, ![1, 64, 1]⟩
abbrev S2x4096x32 : Shape := ⟨3, ![2, 4096, 32]⟩
abbrev S4096 : Shape := ⟨1, ![4096]⟩
abbrev S1x4096x1 : Shape := ⟨3, ![1, 4096, 1]⟩
abbrev S2x4096x32x1 : Shape := ⟨4, ![2, 4096, 32, 1]⟩
abbrev S2x4096x32x3 : Shape := ⟨4, ![2, 4096, 32, 3]⟩
abbrev S2x1x4096x32 : Shape := ⟨4, ![2, 1, 4096, 32]⟩
abbrev S2x3x4096x32 : Shape := ⟨4, ![2, 3, 4096, 32]⟩
abbrev S2x3x4096 : Shape := ⟨3, ![2, 3, 4096]⟩
abbrev S2x3x4096x1 : Shape := ⟨4, ![2, 3, 4096, 1]⟩
abbrev S2x4x4096x32 : Shape := ⟨4, ![2, 4, 4096, 32]⟩
abbrev S2x4096x32x64 : Shape := ⟨4, ![2, 4096, 32, 64]⟩
abbrev S2x64x4096x32 : Shape := ⟨4, ![2, 64, 4096, 32]⟩
abbrev S1x64x1x1 : Shape := ⟨4, ![1, 64, 1, 1]⟩
abbrev S2x8x8x4096x32 : Shape := ⟨5, ![2, 8, 8, 4096, 32]⟩
abbrev S2x8x1x1x1 : Shape := ⟨5, ![2, 8, 1, 1, 1]⟩

abbrev nBuf : Space → Nat
  | .hbm => 449
  | .vmem => 0
  | .smem => 0
  | _ => 0

abbrev hbmTy0_0 (i : Nat) : BufTy := match i % 128 with
  | 0 => ⟨S2x128x4096, .f32⟩
  | 1 => ⟨S2x128x4096, .f32⟩
  | 2 => ⟨S2x4096x3, .f32⟩
  | 3 => ⟨S2x4096x3, .f32⟩
  | 4 => ⟨S128x81, .f32⟩
  | 5 => ⟨S128, .f32⟩
  | 6 => ⟨S128, .f32⟩
  | 7 => ⟨S128, .f32⟩
  | 8 => ⟨S_, .f32⟩
  | 9 => ⟨S64x128, .f32⟩
  | 10 => ⟨S64, .f32⟩
  | 11 => ⟨S64x4, .f32⟩
  | 12 => ⟨S64, .f32⟩
  | 13 => ⟨S64, .f32⟩
  | 14 => ⟨S64, .f32⟩
  | 15 => ⟨S_, .f32⟩
  | 16 => ⟨S64x64, .f32⟩
  | 17 => ⟨S64, .f32⟩
  | 18 => ⟨S2x4096x4096, .f32⟩
  | 19 => ⟨S_, .f32⟩
  | 20 => ⟨S_, .f32⟩
  | 21 => ⟨S2x4096x4096, .f32⟩
  | 22 => ⟨S2x4096x4096, .f32⟩
  | 23 => ⟨S2x4096x128, .f32⟩
  | 24 => ⟨S2x4096x128, .i32⟩
  | 25 => ⟨S2, .i32⟩
  | 26 => ⟨S2x1x1, .i32⟩
  | 27 => ⟨S_, .i32⟩
  | 28 => ⟨S2x1x1, .i32⟩
  | 29 => ⟨S2x1x1, .i1⟩
  | 30 => ⟨S_, .i32⟩
  | 31 => ⟨S2x1x1, .i32⟩
  | 32 => ⟨S2x1x1, .i32⟩
  | 33 => ⟨S2x1x1, .i32⟩
  | 34 => ⟨S_, .i32⟩
  | 35 => ⟨S2x4096x128, .i32⟩
  | 36 => ⟨S2x4096x128, .i1⟩
  | 37 => ⟨S_, .i32⟩
  | 38 => ⟨S2x4096x128, .i32⟩
  | 39 => ⟨S2x4096x128, .i32⟩
  | 40 => ⟨S2x4096x128, .i32⟩
  | 41 => ⟨S2x4096x128, .i32⟩
  | 42 => ⟨S2x4096x128x1, .i32⟩
  | 43 => ⟨S2x4096x128x1, .i32⟩
  | 44 => ⟨S2x4096x128x2, .i32⟩
  | 45 => ⟨S2x4096x128x3, .f32⟩
  | 46 => ⟨S2x4096x1x3, .f32⟩
  | 47 => ⟨S2x4096x128x3, .f32⟩
  | 48 => ⟨S2x4096x128x3, .f32⟩
  | 49 => ⟨S_, .f32⟩
  | 50 => ⟨S2x4096x128x3, .f32⟩
  | 51 => ⟨S2x4096x128x3, .f32⟩
  | 52 => ⟨S2x4096x128x3, .f32⟩
  | 53 => ⟨S2x4096x128x3, .f32⟩
  | 54 => ⟨S_, .f32⟩
  | 55 => ⟨S2x4096x128x3, .f32⟩
  | 56 => ⟨S2x4096x128x3, .i1⟩
  | 57 => ⟨S_, .i1⟩
  | 58 => ⟨S2x4096x128, .i1⟩
  | 59 => ⟨S_, .f32⟩
  | 60 => ⟨S2x4096x128x3, .f32⟩
  | 61 => ⟨S2x4096x128x3, .f32⟩
  | 62 => ⟨S2x4096x128x1, .f32⟩
  | 63 => ⟨S2x4096x128, .f32⟩
  | 64 => ⟨S_, .f32⟩
  | 65 => ⟨S2x4096x128, .f32⟩
  | 66 => ⟨S2x4096x128, .f32⟩
  | 67 => ⟨S2x4096x128x1, .f32⟩
  | 68 => ⟨S2x4096x128, .f32⟩
  | 69 => ⟨S_, .f32⟩
  | 70 => ⟨S2x4096x128, .f32⟩
  | 71 => ⟨S2x4096x128, .f32⟩
  | 72 => ⟨S2x4096x128, .f32⟩
  | 73 => ⟨S2x4096x128x1, .f32⟩
  | 74 => ⟨S2x4096x128, .f32⟩
  | 75 => ⟨S2x4096x128, .f32⟩
  | 76 => ⟨S2x4096x128, .i32⟩
  | 77 => ⟨S2x4096x128, .i32⟩
  | 78 => ⟨S2x4096x128, .i32⟩
  | 79 => ⟨S2x4096x128, .f32⟩
  | 80 => ⟨S2x4096x128x1, .i32⟩
  | 81 => ⟨S27, .i32⟩
  | 82 => ⟨S1x1x1x27, .i32⟩
  | 83 => ⟨S2x4096x128x27, .i32⟩
  | 84 => ⟨S2x4096x128x27, .i32⟩
  | 85 => ⟨S2x4096x128x27, .i1⟩
  | 86 => ⟨S2x4096x128, .f32⟩
  | 87 => ⟨S2x4096x128x1, .f32⟩
  | 88 => ⟨S_, .f32⟩
  | 89 => ⟨S_, .f32⟩
  | 90 => ⟨S2x4096x128x27, .f32⟩
  | 91 => ⟨S2x4096x128x27, .f32⟩
  | 92 => ⟨S2x4096x128x27, .f32⟩
  | 93 => ⟨S_, .f32⟩
  | 94 => ⟨S2x4096x27, .f32⟩
  | 95 => ⟨S2x4096x128x1, .f32⟩
  | 96 => ⟨S_, .f32⟩
  | 97 => ⟨S_, .f32⟩
  | 98 => ⟨S2x4096x128x27, .f32⟩
  | 99 => ⟨S2x4096x128x27, .f32⟩
  | 100 => ⟨S2x4096x128x27, .f32⟩
  | 101 => ⟨S_, .f32⟩
  | 102 => ⟨S2x4096x27, .f32⟩
  | 103 => ⟨S_, .f32⟩
  | 104 => ⟨S_, .f32⟩
  | 105 => ⟨S_, .f32⟩
  | 106 => ⟨S2x4096x27, .f32⟩
  | 107 => ⟨S2x4096x27, .f32⟩
  | 108 => ⟨S_, .f32⟩
  | 109 => ⟨S2x4096x27, .f32⟩
  | 110 => ⟨S2x4096x27, .f32⟩
  | 111 => ⟨S2x4096x27, .f32⟩
  | 112 => ⟨S2x27x4096, .f32⟩
  | 113 => ⟨S2x4096x1x3, .f32⟩
  | 114 => ⟨S2x4096x128x3, .f32⟩
  | 115 => ⟨S2x4096x128x3, .f32⟩
  | 116 => ⟨S_, .f32⟩
  | 117 => ⟨S2x4096x128x3, .f32⟩
  | 118 => ⟨S2x4096x128x3, .f32⟩
  | 119 => ⟨S2x4096x128x3, .f32⟩
  | 120 => ⟨S2x4096x128x3, .f32⟩
  | 121 => ⟨S_, .f32⟩
  | 122 => ⟨S2x4096x128x3, .f32⟩
  | 123 => ⟨S2x4096x128x3, .i1⟩
  | 124 => ⟨S_, .i1⟩
  | 125 => ⟨S2x4096x128, .i1⟩
  | 126 => ⟨S_, .f32⟩
  | 127 => ⟨S2x4096x128x3, .f32⟩
  | _ => ⟨S2x128x4096, .f32⟩

abbrev hbmTy0_1 (i : Nat) : BufTy := match i % 128 with
  | 0 => ⟨S2x4096x128x3, .f32⟩
  | 1 => ⟨S2x4096x128x1, .f32⟩
  | 2 => ⟨S2x4096x128, .f32⟩
  | 3 => ⟨S_, .f32⟩
  | 4 => ⟨S2x4096x128, .f32⟩
  | 5 => ⟨S2x4096x128, .f32⟩
  | 6 => ⟨S2x4096x128x1, .f32⟩
  | 7 => ⟨S2x4096x128, .f32⟩
  | 8 => ⟨S_, .f32⟩
  | 9 => ⟨S2x4096x128, .f32⟩
  | 10 => ⟨S2x4096x128, .f32⟩
  | 11 => ⟨S2x4096x128, .f32⟩
  | 12 => ⟨S2x4096x128x1, .f32⟩
  | 13 => ⟨S2x4096x128, .f32⟩
  | 14 => ⟨S2x4096x128, .f32⟩
  | 15 => ⟨S2x4096x128, .i32⟩
  | 16 => ⟨S2x4096x128, .i32⟩
  | 17 => ⟨S2x4096x128, .i32⟩
  | 18 => ⟨S2x4096x128, .f32⟩
  | 19 => ⟨S2x4096x128x1, .i32⟩
  | 20 => ⟨S27, .i32⟩
  | 21 => ⟨S1x1x1x27, .i32⟩
  | 22 => ⟨S2x4096x128x27, .i32⟩
  | 23 => ⟨S2x4096x128x27, .i32⟩
  | 24 => ⟨S2x4096x128x27, .i1⟩
  | 25 => ⟨S2x4096x128, .f32⟩
  | 26 => ⟨S2x4096x128x1, .f32⟩
  | 27 => ⟨S_, .f32⟩
  | 28 => ⟨S_, .f32⟩
  | 29 => ⟨S2x4096x128x27, .f32⟩
  | 30 => ⟨S2x4096x128x27, .f32⟩
  | 31 => ⟨S2x4096x128x27, .f32⟩
  | 32 => ⟨S_, .f32⟩
  | 33 => ⟨S2x4096x27, .f32⟩
  | 34 => ⟨S2x4096x128x1, .f32⟩
  | 35 => ⟨S_, .f32⟩
  | 36 => ⟨S_, .f32⟩
  | 37 => ⟨S2x4096x128x27, .f32⟩
  | 38 => ⟨S2x4096x128x27, .f32⟩
  | 39 => ⟨S2x4096x128x27, .f32⟩
  | 40 => ⟨S_, .f32⟩
  | 41 => ⟨S2x4096x27, .f32⟩
  | 42 => ⟨S_, .f32⟩
  | 43 => ⟨S_, .f32⟩
  | 44 => ⟨S_, .f32⟩
  | 45 => ⟨S2x4096x27, .f32⟩
  | 46 => ⟨S2x4096x27, .f32⟩
  | 47 => ⟨S_, .f32⟩
  | 48 => ⟨S2x4096x27, .f32⟩
  | 49 => ⟨S2x4096x27, .f32⟩
  | 50 => ⟨S2x4096x27, .f32⟩
  | 51 => ⟨S2x27x4096, .f32⟩
  | 52 => ⟨S2x4096x1x3, .f32⟩
  | 53 => ⟨S2x4096x128x3, .f32⟩
  | 54 => ⟨S2x4096x128x3, .f32⟩
  | 55 => ⟨S_, .f32⟩
  | 56 => ⟨S2x4096x128x3, .f32⟩
  | 57 => ⟨S2x4096x128x3, .f32⟩
  | 58 => ⟨S2x4096x128x3, .f32⟩
  | 59 => ⟨S2x4096x128x3, .f32⟩
  | 60 => ⟨S_, .f32⟩
  | 61 => ⟨S2x4096x128x3, .f32⟩
  | 62 => ⟨S2x4096x128x3, .i1⟩
  | 63 => ⟨S_, .i1⟩
  | 64 => ⟨S2x4096x128, .i1⟩
  | 65 => ⟨S_, .f32⟩
  | 66 => ⟨S2x4096x128x3, .f32⟩
  | 67 => ⟨S2x4096x128x3, .f32⟩
  | 68 => ⟨S2x4096x128x1, .f32⟩
  | 69 => ⟨S2x4096x128, .f32⟩
  | 70 => ⟨S_, .f32⟩
  | 71 => ⟨S2x4096x128, .f32⟩
  | 72 => ⟨S2x4096x128, .f32⟩
  | 73 => ⟨S2x4096x128x1, .f32⟩
  | 74 => ⟨S2x4096x128, .f32⟩
  | 75 => ⟨S_, .f32⟩
  | 76 => ⟨S2x4096x128, .f32⟩
  | 77 => ⟨S2x4096x128, .f32⟩
  | 78 => ⟨S2x4096x128, .f32⟩
  | 79 => ⟨S2x4096x128x1, .f32⟩
  | 80 => ⟨S2x4096x128, .f32⟩
  | 81 => ⟨S2x4096x128, .f32⟩
  | 82 => ⟨S2x4096x128, .i32⟩
  | 83 => ⟨S2x4096x128, .i32⟩
  | 84 => ⟨S2x4096x128, .i32⟩
  | 85 => ⟨S2x4096x128, .f32⟩
  | 86 => ⟨S2x4096x128x1, .i32⟩
  | 87 => ⟨S27, .i32⟩
  | 88 => ⟨S1x1x1x27, .i32⟩
  | 89 => ⟨S2x4096x128x27, .i32⟩
  | 90 => ⟨S2x4096x128x27, .i32⟩
  | 91 => ⟨S2x4096x128x27, .i1⟩
  | 92 => ⟨S2x4096x128, .f32⟩
  | 93 => ⟨S2x4096x128x1, .f32⟩
  | 94 => ⟨S_, .f32⟩
  | 95 => ⟨S_, .f32⟩
  | 96 => ⟨S2x4096x128x27, .f32⟩
  | 97 => ⟨S2x4096x128x27, .f32⟩
  | 98 => ⟨S2x4096x128x27, .f32⟩
  | 99 => ⟨S_, .f32⟩
  | 100 => ⟨S2x4096x27, .f32⟩
  | 101 => ⟨S2x4096x128x1, .f32⟩
  | 102 => ⟨S_, .f32⟩
  | 103 => ⟨S_, .f32⟩
  | 104 => ⟨S2x4096x128x27, .f32⟩
  | 105 => ⟨S2x4096x128x27, .f32⟩
  | 106 => ⟨S2x4096x128x27, .f32⟩
  | 107 => ⟨S_, .f32⟩
  | 108 => ⟨S2x4096x27, .f32⟩
  | 109 => ⟨S_, .f32⟩
  | 110 => ⟨S_, .f32⟩
  | 111 => ⟨S_, .f32⟩
  | 112 => ⟨S2x4096x27, .f32⟩
  | 113 => ⟨S2x4096x27, .f32⟩
  | 114 => ⟨S_, .f32⟩
  | 115 => ⟨S2x4096x27, .f32⟩
  | 116 => ⟨S2x4096x27, .f32⟩
  | 117 => ⟨S2x4096x27, .f32⟩
  | 118 => ⟨S2x27x4096, .f32⟩
  | 119 => ⟨S2x81x4096, .f32⟩
  | 120 => ⟨S2x4096x128, .f32⟩
  | 121 => ⟨S2x128x4096, .f32⟩
  | 122 => ⟨S1x128x1, .f32⟩
  | 123 => ⟨S2x128x4096, .f32⟩
  | 124 => ⟨S2x128x4096, .f32⟩
  | 125 => ⟨S2x8x16x4096, .f32⟩
  | 126 => ⟨S_, .f32⟩
  | 127 => ⟨S2x8, .f32⟩
  | _ => ⟨S2x128x4096, .f32⟩

abbrev hbmTy0_2 (i : Nat) : BufTy := match i % 128 with
  | 0 => ⟨S2x8x1x1, .f32⟩
  | 1 => ⟨S_, .f32⟩
  | 2 => ⟨S2x8x1x1, .f32⟩
  | 3 => ⟨S2x8x1x1, .f32⟩
  | 4 => ⟨S_, .i32⟩
  | 5 => ⟨S_, .f32⟩
  | 6 => ⟨S2x8, .f32⟩
  | 7 => ⟨S2x8x1x1, .f32⟩
  | 8 => ⟨S_, .f32⟩
  | 9 => ⟨S2x8x1x1, .f32⟩
  | 10 => ⟨S2x8x1x1, .f32⟩
  | 11 => ⟨S2x8x16x4096, .f32⟩
  | 12 => ⟨S2x8x16x4096, .f32⟩
  | 13 => ⟨S2x8x16x4096, .f32⟩
  | 14 => ⟨S_, .f32⟩
  | 15 => ⟨S_, .f32⟩
  | 16 => ⟨S_, .f32⟩
  | 17 => ⟨S_, .f32⟩
  | 18 => ⟨S2x8, .f32⟩
  | 19 => ⟨S2x8x1x1, .f32⟩
  | 20 => ⟨S2x8x1x1, .f32⟩
  | 21 => ⟨S2x8x1x1, .f32⟩
  | 22 => ⟨S_, .f32⟩
  | 23 => ⟨S_, .i1⟩
  | 24 => ⟨S_, .f32⟩
  | 25 => ⟨S_, .f32⟩
  | 26 => ⟨S2x8x1x1, .f32⟩
  | 27 => ⟨S2x8x1x1, .f32⟩
  | 28 => ⟨S2x8x16x4096, .f32⟩
  | 29 => ⟨S2x8x16x4096, .f32⟩
  | 30 => ⟨S_, .f32⟩
  | 31 => ⟨S2x8x1x1, .f32⟩
  | 32 => ⟨S2x8x1x1, .f32⟩
  | 33 => ⟨S2x8x1x1, .f32⟩
  | 34 => ⟨S2x8x16x4096, .f32⟩
  | 35 => ⟨S2x8x16x4096, .f32⟩
  | 36 => ⟨S2x128x4096, .f32⟩
  | 37 => ⟨S1x128x1, .f32⟩
  | 38 => ⟨S2x128x4096, .f32⟩
  | 39 => ⟨S2x128x4096, .f32⟩
  | 40 => ⟨S1x128x1, .f32⟩
  | 41 => ⟨S2x128x4096, .f32⟩
  | 42 => ⟨S2x128x4096, .f32⟩
  | 43 => ⟨S_, .f32⟩
  | 44 => ⟨S2x128x4096, .f32⟩
  | 45 => ⟨S2x128x4096, .i1⟩
  | 46 => ⟨S2x128x4096, .f32⟩
  | 47 => ⟨S2x128x4096, .f32⟩
  | 48 => ⟨S2x128x4096, .f32⟩
  | 49 => ⟨S2x4096x64, .f32⟩
  | 50 => ⟨S2x64x4096, .f32⟩
  | 51 => ⟨S1x64x1, .f32⟩
  | 52 => ⟨S2x64x4096, .f32⟩
  | 53 => ⟨S2x64x4096, .f32⟩
  | 54 => ⟨S2x4096x1x3, .f32⟩
  | 55 => ⟨S2x4096x128x3, .f32⟩
  | 56 => ⟨S2x4096x128x3, .f32⟩
  | 57 => ⟨S2x4096x128x3, .f32⟩
  | 58 => ⟨S_, .f32⟩
  | 59 => ⟨S2x4096x128, .f32⟩
  | 60 => ⟨S2x4096x128, .f32⟩
  | 61 => ⟨S2x4096x32, .f32⟩
  | 62 => ⟨S2x4096x32, .i32⟩
  | 63 => ⟨S4096, .i32⟩
  | 64 => ⟨S1x4096x1, .i32⟩
  | 65 => ⟨S_, .i32⟩
  | 66 => ⟨S2x1x1, .i32⟩
  | 67 => ⟨S2x1x1, .i1⟩
  | 68 => ⟨S_, .i32⟩
  | 69 => ⟨S2x1x1, .i32⟩
  | 70 => ⟨S2x1x1, .i32⟩
  | 71 => ⟨S2x1x1, .i32⟩
  | 72 => ⟨S_, .i32⟩
  | 73 => ⟨S1x4096x1, .i32⟩
  | 74 => ⟨S1x4096x1, .i1⟩
  | 75 => ⟨S_, .i32⟩
  | 76 => ⟨S1x4096x1, .i32⟩
  | 77 => ⟨S1x4096x1, .i32⟩
  | 78 => ⟨S1x4096x1, .i32⟩
  | 79 => ⟨S_, .i32⟩
  | 80 => ⟨S2x4096x32, .i32⟩
  | 81 => ⟨S2x4096x32, .i1⟩
  | 82 => ⟨S_, .i32⟩
  | 83 => ⟨S2x4096x32, .i32⟩
  | 84 => ⟨S2x4096x32, .i32⟩
  | 85 => ⟨S2x4096x32, .i32⟩
  | 86 => ⟨S2x4096x32, .i32⟩
  | 87 => ⟨S2x4096x32, .i32⟩
  | 88 => ⟨S2x4096x32x1, .i32⟩
  | 89 => ⟨S2x4096x32x1, .i32⟩
  | 90 => ⟨S2x4096x32x1, .i32⟩
  | 91 => ⟨S2x4096x32x3, .i32⟩
  | 92 => ⟨S2x4096x32, .f32⟩
  | 93 => ⟨S2x1x4096x32, .f32⟩
  | 94 => ⟨S_, .i32⟩
  | 95 => ⟨S2x1x1, .i32⟩
  | 96 => ⟨S2x1x1, .i1⟩
  | 97 => ⟨S_, .i32⟩
  | 98 => ⟨S2x1x1, .i32⟩
  | 99 => ⟨S2x1x1, .i32⟩
  | 100 => ⟨S2x1x1, .i32⟩
  | 101 => ⟨S_, .i32⟩
  | 102 => ⟨S1x4096x1, .i32⟩
  | 103 => ⟨S1x4096x1, .i1⟩
  | 104 => ⟨S_, .i32⟩
  | 105 => ⟨S1x4096x1, .i32⟩
  | 106 => ⟨S1x4096x1, .i32⟩
  | 107 => ⟨S1x4096x1, .i32⟩
  | 108 => ⟨S_, .i32⟩
  | 109 => ⟨S2x4096x32, .i32⟩
  | 110 => ⟨S2x4096x32, .i1⟩
  | 111 => ⟨S_, .i32⟩
  | 112 => ⟨S2x4096x32, .i32⟩
  | 113 => ⟨S2x4096x32, .i32⟩
  | 114 => ⟨S2x4096x32, .i32⟩
  | 115 => ⟨S2x4096x32, .i32⟩
  | 116 => ⟨S2x4096x32, .i32⟩
  | 117 => ⟨S2x4096x32x1, .i32⟩
  | 118 => ⟨S2x4096x32x1, .i32⟩
  | 119 => ⟨S2x4096x32x1, .i32⟩
  | 120 => ⟨S2x4096x32x3, .i32⟩
  | 121 => ⟨S2x4096x32x3, .f32⟩
  | 122 => ⟨S2x3x4096x32, .f32⟩
  | 123 => ⟨S2x3x4096, .f32⟩
  | 124 => ⟨S2x3x4096x1, .f32⟩
  | 125 => ⟨S2x3x4096x32, .f32⟩
  | 126 => ⟨S2x3x4096x32, .f32⟩
  | 127 => ⟨S2x4x4096x32, .f32⟩
  | _ => ⟨S2x128x4096, .f32⟩

abbrev hbmTy0_3 (i : Nat) : BufTy := match i % 128 with
  | 0 => ⟨S2x4096x32x64, .f32⟩
  | 1 => ⟨S2x64x4096x32, .f32⟩
  | 2 => ⟨S1x64x1x1, .f32⟩
  | 3 => ⟨S2x64x4096x32, .f32⟩
  | 4 => ⟨S2x64x4096x32, .f32⟩
  | 5 => ⟨S2x8x8x4096x32, .f32⟩
  | 6 => ⟨S_, .f32⟩
  | 7 => ⟨S2x8, .f32⟩
  | 8 => ⟨S2x8x1x1x1, .f32⟩
  | 9 => ⟨S_, .f32⟩
  | 10 => ⟨S2x8x1x1x1, .f32⟩
  | 11 => ⟨S2x8x1x1x1, .f32⟩
  | 12 => ⟨S_, .i32⟩
  | 13 => ⟨S_, .f32⟩
  | 14 => ⟨S2x8, .f32⟩
  | 15 => ⟨S2x8x1x1x1, .f32⟩
  | 16 => ⟨S_, .f32⟩
  | 17 => ⟨S2x8x1x1x1, .f32⟩
  | 18 => ⟨S2x8x1x1x1, .f32⟩
  | 19 => ⟨S2x8x8x4096x32, .f32⟩
  | 20 => ⟨S2x8x8x4096x32, .f32⟩
  | 21 => ⟨S2x8x8x4096x32, .f32⟩
  | 22 => ⟨S_, .f32⟩
  | 23 => ⟨S_, .f32⟩
  | 24 => ⟨S_, .f32⟩
  | 25 => ⟨S_, .f32⟩
  | 26 => ⟨S2x8, .f32⟩
  | 27 => ⟨S2x8x1x1x1, .f32⟩
  | 28 => ⟨S2x8x1x1x1, .f32⟩
  | 29 => ⟨S2x8x1x1x1, .f32⟩
  | 30 => ⟨S_, .f32⟩
  | 31 => ⟨S_, .i1⟩
  | 32 => ⟨S_, .f32⟩
  | 33 => ⟨S_, .f32⟩
  | 34 => ⟨S2x8x1x1x1, .f32⟩
  | 35 => ⟨S2x8x1x1x1, .f32⟩
  | 36 => ⟨S2x8x8x4096x32, .f32⟩
  | 37 => ⟨S2x8x8x4096x32, .f32⟩
  | 38 => ⟨S_, .f32⟩
  | 39 => ⟨S2x8x1x1x1, .f32⟩
  | 40 => ⟨S2x8x1x1x1, .f32⟩
  | 41 => ⟨S2x8x1x1x1, .f32⟩
  | 42 => ⟨S2x8x8x4096x32, .f32⟩
  | 43 => ⟨S2x8x8x4096x32, .f32⟩
  | 44 => ⟨S2x64x4096x32, .f32⟩
  | 45 => ⟨S1x64x1x1, .f32⟩
  | 46 => ⟨S2x64x4096x32, .f32⟩
  | 47 => ⟨S2x64x4096x32, .f32⟩
  | 48 => ⟨S1x64x1x1, .f32⟩
  | 49 => ⟨S2x64x4096x32, .f32⟩
  | 50 => ⟨S2x64x4096x32, .f32⟩
  | 51 => ⟨S_, .f32⟩
  | 52 => ⟨S2x64x4096x32, .f32⟩
  | 53 => ⟨S2x64x4096x32, .i1⟩
  | 54 => ⟨S2x64x4096x32, .f32⟩
  | 55 => ⟨S2x64x4096x32, .f32⟩
  | 56 => ⟨S2x64x4096x32, .f32⟩
  | 57 => ⟨S_, .f32⟩
  | 58 => ⟨S2x64x4096, .f32⟩
  | 59 => ⟨S2x4096x64, .f32⟩
  | 60 => ⟨S2x64x4096, .f32⟩
  | 61 => ⟨S1x64x1, .f32⟩
  | 62 => ⟨S2x64x4096, .f32⟩
  | 63 => ⟨S2x64x4096, .f32⟩
  | 64 => ⟨S2x64x4096, .f32⟩
  | _ => ⟨S2x128x4096, .f32⟩

abbrev hbmTy (i : Nat) : BufTy := match i / 128 with
  | 0 => hbmTy0_0 i
  | 1 => hbmTy0_1 i
  | 2 => hbmTy0_2 i
  | 3 => hbmTy0_3 i
  | _ => ⟨S2x128x4096, .f32⟩

abbrev bufTy : (tb : Table) → Fin (tcTables nBuf tb) → BufTy
  | .hbm, ⟨i, _⟩ => hbmTy i
  | _, _ => ⟨S2x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_values : Ref sig .tc := ⟨.hbm, 23, rfl⟩
abbrev main_indices : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v57 : Ref sig .tc := ⟨.hbm, 92, rfl⟩
abbrev main_cst_10 : Ref sig .tc := ⟨.hbm, 93, rfl⟩
abbrev main_v58 : Ref sig .tc := ⟨.hbm, 94, rfl⟩
abbrev main_v59 : Ref sig .tc := ⟨.hbm, 95, rfl⟩
abbrev main_cst_11 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v60 : Ref sig .tc := ⟨.hbm, 100, rfl⟩
abbrev main_cst_12 : Ref sig .tc := ⟨.hbm, 101, rfl⟩
abbrev main_v61 : Ref sig .tc := ⟨.hbm, 102, rfl⟩
abbrev main_cst_13 : Ref sig .tc := ⟨.hbm, 103, rfl⟩
abbrev main_cst_14 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_15 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_16 : Ref sig .tc := ⟨.hbm, 121, rfl⟩
abbrev main_v72 : Ref sig .tc := ⟨.hbm, 122, rfl⟩
abbrev main_v73 : Ref sig .tc := ⟨.hbm, 123, rfl⟩
abbrev main_c_17 : Ref sig .tc := ⟨.hbm, 124, rfl⟩
abbrev main_v74 : Ref sig .tc := ⟨.hbm, 125, rfl⟩
abbrev main_cst_18 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_19 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_20 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_21 : Ref sig .tc := ⟨.hbm, 155, rfl⟩
abbrev main_call5_v0 : Ref sig .tc := ⟨.hbm, 156, rfl⟩
abbrev main_call5_v1 : Ref sig .tc := ⟨.hbm, 157, rfl⟩
abbrev main_call5_v2 : Ref sig .tc := ⟨.hbm, 158, rfl⟩
abbrev main_v101 : Ref sig .tc := ⟨.hbm, 159, rfl⟩
abbrev main_cst_22 : Ref sig .tc := ⟨.hbm, 160, rfl⟩
abbrev main_v102 : Ref sig .tc := ⟨.hbm, 161, rfl⟩
abbrev main_v103 : Ref sig .tc := ⟨.hbm, 162, rfl⟩
abbrev main_cst_23 : Ref sig .tc := ⟨.hbm, 163, rfl⟩
abbrev main_call6_v0 : Ref sig .tc := ⟨.hbm, 164, rfl⟩
abbrev main_call6_v1 : Ref sig .tc := ⟨.hbm, 165, rfl⟩
abbrev main_call6_v2 : Ref sig .tc := ⟨.hbm, 166, rfl⟩
abbrev main_v104 : Ref sig .tc := ⟨.hbm, 167, rfl⟩
abbrev main_cst_24 : Ref sig .tc := ⟨.hbm, 168, rfl⟩
abbrev main_v105 : Ref sig .tc := ⟨.hbm, 169, rfl⟩
abbrev main_cst_25 : Ref sig .tc := ⟨.hbm, 170, rfl⟩
abbrev main_cst_26 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_call7_v3 : Ref sig .tc := ⟨.hbm, 175, rfl⟩
abbrev main_call7_v4 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_cst_27 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_cst_28 : Ref sig .tc := ⟨.hbm, 188, rfl⟩
abbrev main_v116 : Ref sig .tc := ⟨.hbm, 189, rfl⟩
abbrev main_v117 : Ref sig .tc := ⟨.hbm, 190, rfl⟩
abbrev main_c_29 : Ref sig .tc := ⟨.hbm, 191, rfl⟩
abbrev main_v118 : Ref sig .tc := ⟨.hbm, 192, rfl⟩
abbrev main_cst_30 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_cst_31 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_cst_32 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_cst_33 : Ref sig .tc := ⟨.hbm, 222, rfl⟩
abbrev main_call9_v0 : Ref sig .tc := ⟨.hbm, 223, rfl⟩
abbrev main_call9_v1 : Ref sig .tc := ⟨.hbm, 224, rfl⟩
abbrev main_call9_v2 : Ref sig .tc := ⟨.hbm, 225, rfl⟩
abbrev main_v145 : Ref sig .tc := ⟨.hbm, 226, rfl⟩
abbrev main_cst_34 : Ref sig .tc := ⟨.hbm, 227, rfl⟩
abbrev main_v146 : Ref sig .tc := ⟨.hbm, 228, rfl⟩
abbrev main_v147 : Ref sig .tc := ⟨.hbm, 229, rfl⟩
abbrev main_cst_35 : Ref sig .tc := ⟨.hbm, 230, rfl⟩
abbrev main_call10_v0 : Ref sig .tc := ⟨.hbm, 231, rfl⟩
abbrev main_call10_v1 : Ref sig .tc := ⟨.hbm, 232, rfl⟩
abbrev main_call10_v2 : Ref sig .tc := ⟨.hbm, 233, rfl⟩
abbrev main_v148 : Ref sig .tc := ⟨.hbm, 234, rfl⟩
abbrev main_cst_36 : Ref sig .tc := ⟨.hbm, 235, rfl⟩
abbrev main_v149 : Ref sig .tc := ⟨.hbm, 236, rfl⟩
abbrev main_cst_37 : Ref sig .tc := ⟨.hbm, 237, rfl⟩
abbrev main_cst_38 : Ref sig .tc := ⟨.hbm, 238, rfl⟩
abbrev main_call11_v0 : Ref sig .tc := ⟨.hbm, 239, rfl⟩
abbrev main_call11_v1 : Ref sig .tc := ⟨.hbm, 240, rfl⟩
abbrev main_call11_v2 : Ref sig .tc := ⟨.hbm, 241, rfl⟩
abbrev main_call11_v3 : Ref sig .tc := ⟨.hbm, 242, rfl⟩
abbrev main_call11_v4 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_cst_39 : Ref sig .tc := ⟨.hbm, 254, rfl⟩
abbrev main_v160 : Ref sig .tc := ⟨.hbm, 255, rfl⟩
abbrev main_v161 : Ref sig .tc := ⟨.hbm, 256, rfl⟩
abbrev main_cst_40 : Ref sig .tc := ⟨.hbm, 257, rfl⟩
abbrev main_v162 : Ref sig .tc := ⟨.hbm, 258, rfl⟩
abbrev main_v163 : Ref sig .tc := ⟨.hbm, 259, rfl⟩
abbrev main_c_41 : Ref sig .tc := ⟨.hbm, 260, rfl⟩
abbrev main_call12_cst : Ref sig .tc := ⟨.hbm, 261, rfl⟩
abbrev main_call12_v0 : Ref sig .tc := ⟨.hbm, 262, rfl⟩
abbrev main_call12_v1 : Ref sig .tc := ⟨.hbm, 263, rfl⟩
abbrev main_call12_cst_0 : Ref sig .tc := ⟨.hbm, 264, rfl⟩
abbrev main_call12_v2 : Ref sig .tc := ⟨.hbm, 265, rfl⟩
abbrev main_call12_v3 : Ref sig .tc := ⟨.hbm, 266, rfl⟩
abbrev main_call12_v4 : Ref sig .tc := ⟨.hbm, 267, rfl⟩
abbrev main_call12_v5 : Ref sig .tc := ⟨.hbm, 268, rfl⟩
abbrev main_call12_v6 : Ref sig .tc := ⟨.hbm, 269, rfl⟩
abbrev main_call12_v7 : Ref sig .tc := ⟨.hbm, 270, rfl⟩
abbrev main_call12_cst_1 : Ref sig .tc := ⟨.hbm, 271, rfl⟩
abbrev main_call12_v8 : Ref sig .tc := ⟨.hbm, 272, rfl⟩
abbrev main_call12_cst_2 : Ref sig .tc := ⟨.hbm, 273, rfl⟩
abbrev main_call12_v9 : Ref sig .tc := ⟨.hbm, 274, rfl⟩
abbrev main_call12_v10 : Ref sig .tc := ⟨.hbm, 275, rfl⟩
abbrev main_call12_v11 : Ref sig .tc := ⟨.hbm, 276, rfl⟩
abbrev main_call12_v12 : Ref sig .tc := ⟨.hbm, 277, rfl⟩
abbrev main_call12_cst_3 : Ref sig .tc := ⟨.hbm, 278, rfl⟩
abbrev main_call12_v13 : Ref sig .tc := ⟨.hbm, 279, rfl⟩
abbrev main_call12_cst_4 : Ref sig .tc := ⟨.hbm, 280, rfl⟩
abbrev main_call12_call0_v0 : Ref sig .tc := ⟨.hbm, 281, rfl⟩
abbrev main_call12_call0_v1 : Ref sig .tc := ⟨.hbm, 282, rfl⟩
abbrev main_v164 : Ref sig .tc := ⟨.hbm, 283, rfl⟩
abbrev main_v165 : Ref sig .tc := ⟨.hbm, 284, rfl⟩
abbrev main_v166 : Ref sig .tc := ⟨.hbm, 285, rfl⟩
abbrev main_cst_42 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_cst_43 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_cst_44 : Ref sig .tc := ⟨.hbm, 314, rfl⟩
abbrev main_v193 : Ref sig .tc := ⟨.hbm, 315, rfl⟩
abbrev main_v194 : Ref sig .tc := ⟨.hbm, 316, rfl⟩
abbrev main_values_45 : Ref sig .tc := ⟨.hbm, 317, rfl⟩
abbrev main_indices_46 : Ref sig .tc := ⟨.hbm, 318, rfl⟩
abbrev main_v195 : Ref sig .tc := ⟨.hbm, 319, rfl⟩
abbrev main_v196 : Ref sig .tc := ⟨.hbm, 320, rfl⟩
abbrev main_c_47 : Ref sig .tc := ⟨.hbm, 321, rfl⟩
abbrev main_v197 : Ref sig .tc := ⟨.hbm, 322, rfl⟩
abbrev main_v198 : Ref sig .tc := ⟨.hbm, 323, rfl⟩
abbrev main_c_48 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_c_49 : Ref sig .tc := ⟨.hbm, 328, rfl⟩
abbrev main_v202 : Ref sig .tc := ⟨.hbm, 329, rfl⟩
abbrev main_v203 : Ref sig .tc := ⟨.hbm, 330, rfl⟩
abbrev main_c_50 : Ref sig .tc := ⟨.hbm, 331, rfl⟩
abbrev main_v204 : Ref sig .tc := ⟨.hbm, 332, rfl⟩
abbrev main_v205 : Ref sig .tc := ⟨.hbm, 333, rfl⟩
abbrev main_v206 : Ref sig .tc := ⟨.hbm, 334, rfl⟩
abbrev main_c_51 : Ref sig .tc := ⟨.hbm, 335, rfl⟩
abbrev main_v207 : Ref sig .tc := ⟨.hbm, 336, rfl⟩
abbrev main_v208 : Ref sig .tc := ⟨.hbm, 337, rfl⟩
abbrev main_c_52 : Ref sig .tc := ⟨.hbm, 338, rfl⟩
abbrev main_v209 : Ref sig .tc := ⟨.hbm, 339, rfl⟩
abbrev main_v210 : Ref sig .tc := ⟨.hbm, 340, rfl⟩
abbrev main_v211 : Ref sig .tc := ⟨.hbm, 341, rfl⟩
abbrev main_v212 : Ref sig .tc := ⟨.hbm, 342, rfl⟩
abbrev main_v213 : Ref sig .tc := ⟨.hbm, 343, rfl⟩
abbrev main_v214 : Ref sig .tc := ⟨.hbm, 344, rfl⟩
abbrev main_v215 : Ref sig .tc := ⟨.hbm, 345, rfl⟩
abbrev main_v216 : Ref sig .tc := ⟨.hbm, 346, rfl⟩
abbrev main_v217 : Ref sig .tc := ⟨.hbm, 347, rfl⟩
abbrev main_v218 : Ref sig .tc := ⟨.hbm, 348, rfl⟩
abbrev main_v219 : Ref sig .tc := ⟨.hbm, 349, rfl⟩
abbrev main_c_53 : Ref sig .tc := ⟨.hbm, 350, rfl⟩
abbrev main_v220 : Ref sig .tc := ⟨.hbm, 351, rfl⟩
abbrev main_v221 : Ref sig .tc := ⟨.hbm, 352, rfl⟩
abbrev main_c_54 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_c_55 : Ref sig .tc := ⟨.hbm, 357, rfl⟩
abbrev main_v225 : Ref sig .tc := ⟨.hbm, 358, rfl⟩
abbrev main_v226 : Ref sig .tc := ⟨.hbm, 359, rfl⟩
abbrev main_c_56 : Ref sig .tc := ⟨.hbm, 360, rfl⟩
abbrev main_v227 : Ref sig .tc := ⟨.hbm, 361, rfl⟩
abbrev main_v228 : Ref sig .tc := ⟨.hbm, 362, rfl⟩
abbrev main_v229 : Ref sig .tc := ⟨.hbm, 363, rfl⟩
abbrev main_c_57 : Ref sig .tc := ⟨.hbm, 364, rfl⟩
abbrev main_v230 : Ref sig .tc := ⟨.hbm, 365, rfl⟩
abbrev main_v231 : Ref sig .tc := ⟨.hbm, 366, rfl⟩
abbrev main_c_58 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_v241 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_v245 : Ref sig .tc := ⟨.hbm, 381, rfl⟩
abbrev main_v246 : Ref sig .tc := ⟨.hbm, 382, rfl⟩
abbrev main_v247 : Ref sig .tc := ⟨.hbm, 383, rfl⟩
abbrev main_v248 : Ref sig .tc := ⟨.hbm, 384, rfl⟩
abbrev main_v249 : Ref sig .tc := ⟨.hbm, 385, rfl⟩
abbrev main_v250 : Ref sig .tc := ⟨.hbm, 386, rfl⟩
abbrev main_v251 : Ref sig .tc := ⟨.hbm, 387, rfl⟩
abbrev main_v252 : Ref sig .tc := ⟨.hbm, 388, rfl⟩
abbrev main_v253 : Ref sig .tc := ⟨.hbm, 389, rfl⟩
abbrev main_cst_59 : Ref sig .tc := ⟨.hbm, 390, rfl⟩
abbrev main_v254 : Ref sig .tc := ⟨.hbm, 391, rfl⟩
abbrev main_v255 : Ref sig .tc := ⟨.hbm, 392, rfl⟩
abbrev main_cst_60 : Ref sig .tc := ⟨.hbm, 393, rfl⟩
abbrev main_v256 : Ref sig .tc := ⟨.hbm, 394, rfl⟩
abbrev main_v257 : Ref sig .tc := ⟨.hbm, 395, rfl⟩
abbrev main_c_61 : Ref sig .tc := ⟨.hbm, 396, rfl⟩
abbrev main_call14_cst : Ref sig .tc := ⟨.hbm, 397, rfl⟩
abbrev main_call14_v0 : Ref sig .tc := ⟨.hbm, 398, rfl⟩
abbrev main_call14_v1 : Ref sig .tc := ⟨.hbm, 399, rfl⟩
abbrev main_call14_cst_0 : Ref sig .tc := ⟨.hbm, 400, rfl⟩
abbrev main_call14_v2 : Ref sig .tc := ⟨.hbm, 401, rfl⟩
abbrev main_call14_v3 : Ref sig .tc := ⟨.hbm, 402, rfl⟩
abbrev main_call14_v4 : Ref sig .tc := ⟨.hbm, 403, rfl⟩
abbrev main_call14_v5 : Ref sig .tc := ⟨.hbm, 404, rfl⟩
abbrev main_call14_v6 : Ref sig .tc := ⟨.hbm, 405, rfl⟩
abbrev main_call14_v7 : Ref sig .tc := ⟨.hbm, 406, rfl⟩
abbrev main_call14_cst_1 : Ref sig .tc := ⟨.hbm, 407, rfl⟩
abbrev main_call14_v8 : Ref sig .tc := ⟨.hbm, 408, rfl⟩
abbrev main_call14_cst_2 : Ref sig .tc := ⟨.hbm, 409, rfl⟩
abbrev main_call14_v9 : Ref sig .tc := ⟨.hbm, 410, rfl⟩
abbrev main_call14_v10 : Ref sig .tc := ⟨.hbm, 411, rfl⟩
abbrev main_call14_v11 : Ref sig .tc := ⟨.hbm, 412, rfl⟩
abbrev main_call14_v12 : Ref sig .tc := ⟨.hbm, 413, rfl⟩
abbrev main_call14_cst_3 : Ref sig .tc := ⟨.hbm, 414, rfl⟩
abbrev main_call14_v13 : Ref sig .tc := ⟨.hbm, 415, rfl⟩
abbrev main_call14_cst_4 : Ref sig .tc := ⟨.hbm, 416, rfl⟩
abbrev main_call14_call0_v0 : Ref sig .tc := ⟨.hbm, 417, rfl⟩
abbrev main_call14_call0_v1 : Ref sig .tc := ⟨.hbm, 418, rfl⟩
abbrev main_v258 : Ref sig .tc := ⟨.hbm, 419, rfl⟩
abbrev main_v259 : Ref sig .tc := ⟨.hbm, 420, rfl⟩
abbrev main_v260 : Ref sig .tc := ⟨.hbm, 421, rfl⟩
abbrev main_cst_62 : Ref sig .tc := ⟨.hbm, 422, rfl⟩
abbrev main_v261 : Ref sig .tc := ⟨.hbm, 423, rfl⟩
abbrev main_v262 : Ref sig .tc := ⟨.hbm, 424, rfl⟩
abbrev main_v263 : Ref sig .tc := ⟨.hbm, 425, rfl⟩
abbrev main_v264 : Ref sig .tc := ⟨.hbm, 426, rfl⟩
abbrev main_v265 : Ref sig .tc := ⟨.hbm, 427, rfl⟩
abbrev main_v266 : Ref sig .tc := ⟨.hbm, 428, rfl⟩
abbrev main_v267 : Ref sig .tc := ⟨.hbm, 429, rfl⟩
abbrev main_v268 : Ref sig .tc := ⟨.hbm, 430, rfl⟩
abbrev main_v269 : Ref sig .tc := ⟨.hbm, 431, rfl⟩
abbrev main_v270 : Ref sig .tc := ⟨.hbm, 432, rfl⟩
abbrev main_v271 : Ref sig .tc := ⟨.hbm, 433, rfl⟩
abbrev main_v272 : Ref sig .tc := ⟨.hbm, 434, rfl⟩
abbrev main_cst_63 : Ref sig .tc := ⟨.hbm, 435, rfl⟩
abbrev main_v273 : Ref sig .tc := ⟨.hbm, 436, rfl⟩
abbrev main_v274 : Ref sig .tc := ⟨.hbm, 437, rfl⟩
abbrev main_v275 : Ref sig .tc := ⟨.hbm, 438, rfl⟩
abbrev main_v276 : Ref sig .tc := ⟨.hbm, 439, rfl⟩
abbrev main_v277 : Ref sig .tc := ⟨.hbm, 440, rfl⟩
abbrev main_cst_64 : Ref sig .tc := ⟨.hbm, 441, rfl⟩
abbrev main_v278 : Ref sig .tc := ⟨.hbm, 442, rfl⟩
abbrev main_v279 : Ref sig .tc := ⟨.hbm, 443, rfl⟩
abbrev main_v280 : Ref sig .tc := ⟨.hbm, 444, rfl⟩
abbrev main_v281 : Ref sig .tc := ⟨.hbm, 445, rfl⟩
abbrev main_v282 : Ref sig .tc := ⟨.hbm, 446, rfl⟩
abbrev main_v283 : Ref sig .tc := ⟨.hbm, 447, rfl⟩
abbrev main_v284 : Ref sig .tc := ⟨.hbm, 448, rfl⟩

abbrev nD : Nat := 1
abbrev τ : Topo := Topo.v7x

variable {F : FTy → Type} [FloatOps F]
-- ==== Proof.Block.lean ====
/-
  What one grid point of the kernel computes, as a functional program over its loaded blocks: a row block of 256 points
  against all 4096 candidates. The text follows the kernel's steps with the unrolled runs of operations folded back into
  functions (a window of 128 columns, a prefix count, a chain of selects, a stack of windows), one definition per step.
  Tie.lean shows that the values the kernel stores are these.
-/
module

public import proofs.«01_k».proof.Proof.Gen.KernelIdeal.Skeleton
public import Idealize.ShloMosaic.Lib.Exec
public import Idealize.ShloMosaic.Lib.Pipeline.ValueKit

@[expose] public section

set_option maxRecDepth 8192

noncomputable section

namespace Cert.Block

open Idealize.ShloMosaic Cert.KernelIdeal Cert.KernelIdeal.Gen

variable {F : FTy → Type} [FloatOps F] [Named F] {α : Type}

/-- `n` steps, the `i`-th applied to the result of the first `i`. -/
def steps {β : Type} (n : ℕ) (init : β) (f : ℕ → β → β) : β := Nat.rec (motive := fun _ => β) init f n

/-! ## Windows, stacks and chains -/

theorem slices_window (n : ℕ) : S256x4096.Slices ![0, 128 * (n % 32)] S256x128 := by
  refine ⟨rfl, fun a => ?_⟩
  have : n % 32 < 32 := Nat.mod_lt _ (by decide)
  match a with
  | ⟨0, _⟩ => exact (by decide : 0 + 256 ≤ 256)
  | ⟨1, _⟩ => exact (by omega : 128 * (n % 32) + 128 ≤ 4096)

/-- Columns `128 n … 128 n + 127` of a row block. -/
def window (x : S256x4096.Idx → α) (n : ℕ) : S256x128.Idx → α :=
  extractStridedSlice S256x128 ![0, 128 * (n % 32)] x (slices_window n)

theorem slices_column (n : ℕ) : S256x32.Slices ![0, n % 32] S256x1 := by
  refine ⟨rfl, fun a => ?_⟩
  have : n % 32 < 32 := Nat.mod_lt _ (by decide)
  match a with
  | ⟨0, _⟩ => exact (by decide : 0 + 256 ≤ 256)
  | ⟨1, _⟩ => exact (by omega : n % 32 + 1 ≤ 32)

/-- Column `n` of a table of one value per window. -/
def column (x : S256x32.Idx → α) (n : ℕ) : S256x1.Idx → α :=
  extractStridedSlice S256x1 ![0, n % 32] x (slices_column n)

theorem slices_plane (n : ℕ) : S32x256x128.Slices ![n % 32, 0, 0] S1x256x128 := by
  refine ⟨rfl, fun a => ?_⟩
  have : n % 32 < 32 := Nat.mod_lt _ (by decide)
  match a with
  | ⟨0, _⟩ => exact (by omega : n % 32 + 1 ≤ 32)
  | ⟨1, _⟩ => exact (by decide : 0 + 256 ≤ 256)
  | ⟨2, _⟩ => exact (by decide : 0 + 128 ≤ 128)

/-- Plane `n` of a stack of 32. -/
def plane (x : S32x256x128.Idx → α) (n : ℕ) : S256x128.Idx → α :=
  shapeCast S256x128 (extractStridedSlice S1x256x128 ![n % 32, 0, 0] x (slices_plane n)) shapeCasts_S1x256x128_S256x128

/-- Where the word is `i < 32`, the `i`-th of 32 matrices; elsewhere `init`. -/
def choose (idx : IVec S256x128 32) (g : ℕ → S256x128.Idx → α) (init : S256x128.Idx → α) : S256x128.Idx → α :=
  steps 32 init fun i acc => select (cmpi .eq idx (broadcast S256x128 (BitVec.ofNat 32 i))) (g i) acc

theorem concatenates_stack : ∀ g : Fin 32 → S1x256x128.Idx → α,
    Shape.Concatenates ((List.ofFn fun i : Fin 32 => (⟨S1x256x128, g i⟩ : (s : Shape) × (s.Idx → α))).map (·.1))
      S32x256x128 0 := by
  intro g; rw [List.map_ofFn]
  exact (by decide : Shape.Concatenates (List.ofFn fun _ : Fin 32 => S1x256x128) S32x256x128 0)

/-- 32 matrices as one stack. -/
def stack (g : ℕ → S256x128.Idx → α) : S32x256x128.Idx → α :=
  concatenate S32x256x128 0
    (List.ofFn fun i : Fin 32 => ⟨S1x256x128, shapeCast S1x256x128 (g i) shapeCasts_S256x128_S1x256x128⟩)
    (concatenates_stack fun i => shapeCast S1x256x128 (g i) shapeCasts_S256x128_S1x256x128)

theorem concatenates_columns : ∀ g : Fin 32 → S256x1.Idx → α,
    Shape.Concatenates ((List.ofFn fun i : Fin 32 => (⟨S256x1, g i⟩ : (s : Shape) × (s.Idx → α))).map (·.1))
      S256x32 1 := by
  intro g; rw [List.map_ofFn]
  exact (by decide : Shape.Concatenates (List.ofFn fun _ : Fin 32 => S256x1) S256x32 1)

theorem concatenates_windows : ∀ g : Fin 32 → S256x128.Idx → α,
    Shape.Concatenates ((List.ofFn fun i : Fin 32 => (⟨S256x128, g i⟩ : (s : Shape) × (s.Idx → α))).map (·.1))
      S256x4096 1 := by
  intro g; rw [List.map_ofFn]
  exact (by decide : Shape.Concatenates (List.ofFn fun _ : Fin 32 => S256x128) S256x4096 1)

theorem concatenates_spread : ∀ g : Fin 27 → S256x128.Idx → α,
    Shape.Concatenates ((List.ofFn fun i : Fin 27 => (⟨S256x128, g i⟩ : (s : Shape) × (s.Idx → α))).map (·.1))
      S256x3456 1 := by
  intro g; rw [List.map_ofFn]
  exact (by decide : Shape.Concatenates (List.ofFn fun _ : Fin 27 => S256x128) S256x3456 1)

/-! ## Prefix counts -/

/-- The upper triangle of ones, diagonal included. -/
def triangle : FVec F S128x128 .f32 :=
  sitofp .f32 (extui 32 (cmpi .sle (iota .tc S128x128 32 [0] iota_S128x128_d0_w32)
    (iota .tc S128x128 32 [1] iota_S128x128_d1_w32)) natLt_1_32)

/-- The upper triangle of ones, diagonal left out. -/
def triangleStrict : FVec F S32x32 .f32 :=
  sitofp .f32 (extui 32 (cmpi .slt (iota .tc S32x32 32 [0] iota_S32x32_d0_w32)
    (iota .tc S32x32 32 [1] iota_S32x32_d1_w32)) natLt_1_32)

/-- The running sums inside window `n`. -/
def running (x : FVec F S256x4096 .f32) (n : ℕ) : FVec F S256x128 .f32 :=
  matmul dot_S256x128_S128x128_S256x128_1_0_0_1_n_n none (window x n) (triangle (F := F))
    (constant S256x128 .f32 0x00000000#32)

/-- The sum of each window. -/
def totals (x : FVec F S256x4096 .f32) : FVec F S256x32 .f32 :=
  concatenate S256x32 1
    (List.ofFn fun i : Fin 32 => ⟨S256x1, extractStridedSlice S256x1 ![0, 127] (running x i) slices_S256x128_o0_127_S256x1⟩)
    (concatenates_columns fun i => extractStridedSlice S256x1 ![0, 127] (running x i) slices_S256x128_o0_127_S256x1)

/-- The sum of all the windows before each. -/
def before (x : FVec F S256x4096 .f32) : FVec F S256x32 .f32 :=
  matmul dot_S256x32_S32x32_S256x32_1_0_0_1_n_n none (totals x) (triangleStrict (F := F))
    (constant S256x32 .f32 0x00000000#32)

/-! ## The mask of the 128 greatest -/

/-- The scaled products of a point with every candidate. -/
def corr (x0 : Vec F S1x128x256 .f32) (x1 : Vec F S1x128x4096 .f32) : FVec F S256x4096 .f32 := k0_pay5 x0 x1

/-- The rank keys: the number of strictly smaller products of the row, counted over all rotations of the row. -/
def keys (x0 : Vec F S1x128x256 .f32) (x1 : Vec F S1x128x4096 .f32) : IVec S256x4096 32 :=
  (Scf.fold (fun (_ : Fin k0_t1_loop.trips) (a : FVec F S256x4096 .f32 × IVec S256x4096 32) =>
    (k0_pay7 a.1, k0_pay8 x0 x1 a.1 a.2)) (k0_pay5 x0 x1, k0_pay6)).2

/-- The threshold of the 128 greatest keys, found bit by bit. -/
def threshold (key : IVec S256x4096 32) : IVec S256x1 32 :=
  Scf.fold (fun (k : Fin k0_t2_loop.trips) (t : IVec S256x1 32) => k0_pay10 key k t) k0_pay9

/-- A mask as numbers 0 and 1. -/
def asNum {s : Shape} (x : IVec s 1) : FVec F s .f32 := sitofp .f32 (extui 32 x natLt_1_32)

/-- The mask: above the threshold, or at the threshold among the first that are still wanted. -/
def mask (gt eq : IVec S256x4096 1) (r : FVec F S256x1 .f32) (eqf : FVec F S256x4096 .f32) : IVec S256x4096 1 :=
  concatenate S256x4096 1
    (List.ofFn fun i : Fin 32 => ⟨S256x128, ori (window gt i) (andi (window eq i)
      (cmpf .ole (addf (running eqf i) (broadcastTo S256x128 (column (before eqf) i) broadcasts_S256x1_S256x128))
        (broadcastTo S256x128 r broadcasts_S256x1_S256x128)))⟩)
    (concatenates_windows fun i => ori (window gt i) (andi (window eq i)
      (cmpf .ole (addf (running eqf i) (broadcastTo S256x128 (column (before eqf) i) broadcasts_S256x1_S256x128))
        (broadcastTo S256x128 r broadcasts_S256x1_S256x128))))

/-- The mask of the 128 greatest products as numbers. -/
def chosen (key : IVec S256x4096 32) (t : IVec S256x1 32) : FVec F S256x4096 .f32 :=
  asNum (mask (k0_pay11 key t) (k0_pay12 key t) (k0_pay13 (F := F) key t) (k0_pay14 (F := F) key t))

/-! ## The positions of the chosen -/

/-- The slots 0 … 127. -/
def slots : FVec F S256x128 .f32 := sitofp .f32 (iota .tc S256x128 32 [1] iota_S256x128_d1_w32)

/-- The window of each slot: the number of windows that end at or before the slot. -/
def windowOf (x : FVec F S256x4096 .f32) : IVec S256x128 32 :=
  steps 32 (broadcast S256x128 0#32) fun i acc =>
    addi acc (extui 32 (cmpf .ole (broadcastTo S256x128 (column (addf (before x) (totals x)) i) broadcasts_S256x1_S256x128)
      (slots (F := F))) natLt_1_32)

/-- The slot's number inside its window. -/
def slotIn (x : FVec F S256x4096 .f32) : FVec F S256x128 .f32 :=
  subf (slots (F := F)) (choose (windowOf x)
    (fun i => broadcastTo S256x128 (shapeCast S256x1 (column (before x) i) shapeCasts_S256x1_S256x1) broadcasts_S256x1_S256x128)
    (broadcast S256x128 (Scalar.ofBits .f32 0x00000000#32)))

/-- A column number of each slot, the same in all 32 planes. -/
def lanes (loc : IVec S256x128 32) : IVec S32x256x128 32 :=
  let x := broadcastTo S32x256x128 (shapeCast S1x256x128 (shapeCast S1x256x128 loc shapeCasts_S256x128_S1x256x128)
    shapeCasts_S1x256x128_S1x256x128) broadcasts_S1x256x128_S32x256x128
  shapeCast S32x256x128 (shapeCast S32x256x128x1
    (select (cmpi .slt x (broadcast S32x256x128 0#32)) (addi x (broadcast S32x256x128 128#32)) x)
    shapeCasts_S32x256x128_S32x256x128x1) shapeCasts_S32x256x128x1_S32x256x128

/-- Per slot the entry at column `loc` of plane `win`. -/
def pick (st : FVec F S32x256x128 .f32) (win loc : IVec S256x128 32) : FVec F S256x128 .f32 :=
  choose win (fun i => plane (dynamicGather 2 st (lanes loc)) i) (broadcast S256x128 (Scalar.ofBits .f32 0x00000000#32))

/-- One step of the search for a slot's column: set bit `b` where the running sum there is still at most the slot's number. -/
def searchStep (st : FVec F S32x256x128 .f32) (win : IVec S256x128 32) (num : FVec F S256x128 .f32) (b : ℕ)
    (loc : IVec S256x128 32) : IVec S256x128 32 :=
  select (cmpf .ole (pick st win (ori loc (broadcast S256x128 (BitVec.ofNat 32 (2 ^ b))))) num)
    (ori loc (broadcast S256x128 (BitVec.ofNat 32 (2 ^ b)))) loc

/-- The search over the seven bits. -/
def search (st : FVec F S32x256x128 .f32) (win : IVec S256x128 32) (num : FVec F S256x128 .f32) : IVec S256x128 32 :=
  steps 7 (broadcast S256x128 0#32) fun i loc => searchStep st win num (6 - i) loc

/-- The column of each slot. -/
def columnOf (st : FVec F S32x256x128 .f32) (win : IVec S256x128 32) (num : FVec F S256x128 .f32) : IVec S256x128 32 :=
  addi (search st win num) (extui 32 (cmpf .ole (pick st win (search st win num)) num) natLt_1_32)

/-- Per slot the entry of its candidate in a row block. -/
def take (x : FVec F S256x4096 .f32) (win loc : IVec S256x128 32) : FVec F S256x128 .f32 :=
  pick (stack (window x)) win loc

/-- One coordinate of the candidates, the same in every row. -/
def coordRow (x : Vec F S1x1x4096 .f32) : FVec F S256x4096 .f32 :=
  broadcastTo S256x4096 (shapeCast S1x4096 (shapeCast S1x4096 x shapeCasts_S1x1x4096_S1x4096) shapeCasts_S1x4096_S1x4096)
    broadcasts_S1x4096_S256x4096

/-! ## The histogram of one level -/

/-- The rounded offset of one coordinate at cell size `r`. -/
def offset (r : BitVec 32) (t : FVec F S256x128 .f32) (c : FVec F S256x1 .f32) : FVec F S256x128 .f32 :=
  roundeven (divf (subf t (broadcastTo S256x128 c broadcasts_S256x1_S256x128)) (broadcast S256x128 (Scalar.ofBits .f32 r)))

/-- Whether an offset is at most one in size. -/
def near (d : FVec F S256x128 .f32) : IVec S256x128 1 :=
  cmpf .ole (absf d) (broadcast S256x128 (Scalar.ofBits .f32 0x3F800000#32))

/-- Whether all three are. -/
def valid (dx dy dz : FVec F S256x128 .f32) : IVec S256x128 1 := andi (andi (near dx) (near dy)) (near dz)

/-- The number of the cell, 0 where not valid. -/
def cell (dx dy dz : FVec F S256x128 .f32) : IVec S256x128 32 :=
  select (valid dx dy dz)
    (fptosi 32 (addf (addf
      (mulf (addf dx (broadcast S256x128 (Scalar.ofBits .f32 0x3F800000#32))) (broadcast S256x128 (Scalar.ofBits .f32 0x41100000#32)))
      (mulf (addf dy (broadcast S256x128 (Scalar.ofBits .f32 0x3F800000#32))) (broadcast S256x128 (Scalar.ofBits .f32 0x40400000#32))))
      (addf dz (broadcast S256x128 (Scalar.ofBits .f32 0x3F800000#32)))))
    (broadcast S256x128 0#32)

/-- 27 copies side by side, copy `c` kept where the cell is `c`. -/
def spread (cell : IVec S256x128 32) (w : FVec F S256x128 .f32) : FVec F S256x3456 .f32 :=
  concatenate S256x3456 1
    (List.ofFn fun i : Fin 27 => ⟨S256x128, select (cmpi .eq cell (broadcast S256x128 (BitVec.ofNat 32 i))) w
      (broadcast S256x128 (Scalar.ofBits .f32 0x00000000#32))⟩)
    (concatenates_spread fun i => select (cmpi .eq cell (broadcast S256x128 (BitVec.ofNat 32 i))) w
      (broadcast S256x128 (Scalar.ofBits .f32 0x00000000#32)))

/-- The sums per cell of the weights (rows 0 … 255) and of the indicators (rows 256 … 511). -/
def sums (cell : IVec S256x128 32) (w v : FVec F S256x128 .f32) : FVec F S512x27 .f32 :=
  matmul dot_S512x3456_S3456x27_S512x27_1_0_0_1_n_n none
    (concatenate S512x3456 0 [⟨S256x3456, spread cell w⟩, ⟨S256x3456, spread cell v⟩] concatenates_S256x3456_S256x3456_S512x3456_d0)
    (k0_pay395 (F := F)) (constant S512x27 .f32 0x00000000#32)

/-- The mean per cell. -/
def means (s : FVec F S512x27 .f32) : FVec F S256x27 .f32 :=
  divf (extractStridedSlice S256x27 ![0, 0] s slices_S512x27_o0_0_S256x27)
    (minimumf (broadcast S256x27 (Scalar.ofBits .f32 0x45800000#32))
      (maximumf (broadcast S256x27 (Scalar.ofBits .f32 0x3F800000#32))
        (extractStridedSlice S256x27 ![256, 0] s slices_S512x27_o256_0_S256x27)))

/-- The features of one level. -/
def level (r : BitVec 32) (vals tx ty tz : FVec F S256x128 .f32) (cx cy cz : FVec F S256x1 .f32) : FVec F S256x27 .f32 :=
  means (sums (cell (offset r tx cx) (offset r ty cy) (offset r tz cz))
    (mulf vals (asNum (valid (offset r tx cx) (offset r ty cy) (offset r tz cz))))
    (asNum (valid (offset r tx cx) (offset r ty cy) (offset r tz cz))))

/-! ## The block's values -/

/-- The three levels side by side, padded to 128 columns. -/
def features (l0 l1 l2 : FVec F S256x27 .f32) : FVec F S256x128 .f32 :=
  concatenate S256x128 1 [⟨S256x81, concatenate S256x81 1 [⟨S256x27, l0⟩, ⟨S256x27, l1⟩, ⟨S256x27, l2⟩]
    concatenates_S256x27_S256x27_S256x27_S256x81_d1⟩, ⟨S256x47, broadcast S256x47 (Scalar.ofBits .f32 0x00000000#32)⟩]
    concatenates_S256x81_S256x47_S256x128_d1

/-- The first layer of the features, channels first. -/
def layer (vox : FVec F S256x128 .f32) (x4 : Vec F S128x128 .f32) (x5 : Vec F S1x128 .f32) : FVec F S128x256 .f32 :=
  addf (transpose S128x256 [1, 0]
      (matmul dot_S256x128_S128x128_S256x128_1_1_0_0_n_n none vox (shapeCast S128x128 x4 shapeCasts_S128x128_S128x128)
        (constant S256x128 .f32 0x00000000#32)) transposes_S256x128_p1_0_S128x256)
    (broadcastTo S128x256 (transpose S128x1 [1, 0] (shapeCast S1x128 x5 shapeCasts_S1x128_S1x128) transposes_S1x128_p1_0_S128x1)
      broadcasts_S128x1_S128x256)

/-- The features of a row block from the mask, the products, the candidates' coordinates and the points' coordinates. -/
def voxels (m c : FVec F S256x4096 .f32) (xr yr zr : Vec F S1x1x4096 .f32) (x3 : Vec F S1x8x256 .f32) : FVec F S256x128 .f32 :=
  let win := windowOf m
  let loc := columnOf (stack (running m)) win (slotIn m)
  let vals := take c win loc
  let tx := take (coordRow xr) win loc
  let ty := take (coordRow yr) win loc
  let tz := take (coordRow zr) win loc
  features (level 0x3E800000#32 vals tx ty tz (k0_pay392 x3) (k0_pay393 x3) (k0_pay394 x3))
    (level 0x3F000000#32 vals tx ty tz (k0_pay392 x3) (k0_pay393 x3) (k0_pay394 x3))
    (level 0x3F800000#32 vals tx ty tz (k0_pay392 x3) (k0_pay393 x3) (k0_pay394 x3))

/-- The features of a row block from the loaded blocks. -/
def blockFeatures (x0 : Vec F S1x128x256 .f32) (x1 : Vec F S1x128x4096 .f32) (xr yr zr : Vec F S1x1x4096 .f32)
    (x3 : Vec F S1x8x256 .f32) : FVec F S256x128 .f32 :=
  voxels (chosen (keys x0 x1) (threshold (keys x0 x1))) (corr x0 x1) xr yr zr x3

theorem inb_row (k : Fin 8) : ∀ a, (![0, k.val, 0] : Fin 3 → ℕ) a + S1x1x4096.size a ≤ S1x8x4096.size a := by
  revert k; decide

/-- Row `k` of the padded coordinate block. -/
def row (x2 : Vec F S1x8x4096 .f32) (k : Fin 8) : Vec F S1x1x4096 .f32 :=
  View.ld (Val := Elt F) (S := S1x8x4096) x2 (Rect.unit ![0, k.val, 0] S1x1x4096.size (inb_row k))

/-- The first layer of a row block. -/
def blockH (x0 : Vec F S1x128x256 .f32) (x1 : Vec F S1x128x4096 .f32) (x2 : Vec F S1x8x4096 .f32) (x3 : Vec F S1x8x256 .f32)
    (x4 : Vec F S128x128 .f32) (x5 : Vec F S1x128 .f32) : FVec F S128x256 .f32 :=
  layer (blockFeatures x0 x1 (row x2 0) (row x2 1) (row x2 2) x3) x4 x5

end Cert.Block

end
-- ==== Proof.Reads.lean ====
/-
  The block's building blocks read at an index: windows, columns, planes, stacks, chains of selects, and the gather by
  columns.
-/
module

public import proofs.«01_k».proof.Proof.Block
public import Idealize.ShloMosaic.Lib.Pointwise

@[expose] public section

set_option maxRecDepth 16384

noncomputable section

namespace Cert.Reads

open Idealize.ShloMosaic Cert.KernelIdeal Cert.KernelIdeal.Gen Cert.Block

variable {α : Type}

theorem steps_succ {β : Type} (n : ℕ) (init : β) (f : ℕ → β → β) : steps (n + 1) init f = f n (steps n init f) := rfl

theorem steps_zero {β : Type} (init : β) (f : ℕ → β → β) : steps 0 init f = init := rfl

theorem window_apply (x : S256x4096.Idx → α) (n : ℕ) (r : Fin 256) (l : Fin 128) (hn : n < 32) :
    window x n (ix2 r l) = x (ix2 r ⟨128 * n + l.val, by omega⟩) := by
  unfold window extractStridedSlice
  refine congrArg x (funext fun a => Fin.ext ?_)
  match a with
  | ⟨0, _⟩ => exact Nat.zero_add _
  | ⟨1, _⟩ => exact congrArg (fun k => 128 * k + l.val) (Nat.mod_eq_of_lt hn)

theorem column_apply (x : S256x32.Idx → α) (n : ℕ) (r : Fin 256) (l : Fin 1) (hn : n < 32) :
    column x n (ix2 r l) = x (ix2 r ⟨n, hn⟩) := by
  unfold column extractStridedSlice
  refine congrArg x (funext fun a => Fin.ext ?_)
  match a with
  | ⟨0, _⟩ => exact Nat.zero_add _
  | ⟨1, _⟩ =>
    have : l.val = 0 := by omega
    show n % 32 + l.val = n
    rw [this, Nat.mod_eq_of_lt hn, Nat.add_zero]

theorem plane_apply (x : S32x256x128.Idx → α) (n : ℕ) (r : Fin 256) (l : Fin 128) (hn : n < 32) :
    plane x n (ix2 r l) = x (ix3 ⟨n, hn⟩ r l) := by
  unfold plane
  rw [show shapeCast S256x128 (extractStridedSlice S1x256x128 ![n % 32, 0, 0] x (slices_plane n)) shapeCasts_S1x256x128_S256x128 (ix2 r l)
    = extractStridedSlice S1x256x128 ![n % 32, 0, 0] x (slices_plane n) (ix3 0 r l) from by pointwise]
  unfold extractStridedSlice
  refine congrArg x (funext fun a => Fin.ext ?_)
  match a with
  | ⟨0, _⟩ => exact (Nat.mod_eq_of_lt hn)
  | ⟨1, _⟩ => exact Nat.zero_add _
  | ⟨2, _⟩ => exact Nat.zero_add _

theorem stack_apply (g : ℕ → S256x128.Idx → α) (n : Fin 32) (r : Fin 256) (l : Fin 128) :
    stack g (ix3 n r l) = g n.val (ix2 r l) := by
  unfold stack
  rw [concatenate_ofFn_apply (t := S32x256x128) (s₁ := S1x256x128) (0 : Fin 3) (fun i : Fin 32 => shapeCast S1x256x128 (g i) shapeCasts_S256x128_S1x256x128) _ rfl 1 rfl
    (ix3 n r l) n (Nat.div_one _) (ix3 0 r l) (Nat.mod_one _).symm ?_]
  · pointwise
  · intro b hb
    match b with
    | ⟨0, _⟩ => exact absurd rfl hb
    | ⟨1, _⟩ => rfl
    | ⟨2, _⟩ => rfl

theorem columns_apply (g : Fin 32 → S256x1.Idx → α) (h) (r : Fin 256) (n : Fin 32) :
    concatenate S256x32 1 (List.ofFn fun i : Fin 32 => ⟨S256x1, g i⟩) h (ix2 r n) = g n (ix2 r 0) := by
  rw [concatenate_ofFn_apply (t := S256x32) (s₁ := S256x1) (1 : Fin 2) g _ rfl 1 rfl (ix2 r n) n (Nat.div_one _) (ix2 r 0) (Nat.mod_one _).symm ?_]
  intro b hb
  match b with
  | ⟨0, _⟩ => rfl
  | ⟨1, _⟩ => exact absurd rfl hb

theorem windows_apply (g : Fin 32 → S256x128.Idx → α) (h) (r : Fin 256) (m : Fin 4096) :
    concatenate S256x4096 1 (List.ofFn fun i : Fin 32 => ⟨S256x128, g i⟩) h (ix2 r m)
      = g ⟨m.val / 128, by omega⟩ (ix2 r ⟨m.val % 128, by omega⟩) := by
  rw [concatenate_ofFn_apply (t := S256x4096) (s₁ := S256x128) (1 : Fin 2) g _ rfl 128 rfl (ix2 r m) ⟨m.val / 128, by omega⟩ rfl (ix2 r ⟨m.val % 128, by omega⟩) rfl ?_]
  intro b hb
  match b with
  | ⟨0, _⟩ => rfl
  | ⟨1, _⟩ => exact absurd rfl hb

theorem spread_pieces_apply (g : Fin 27 → S256x128.Idx → α) (h) (r : Fin 256) (m : Fin 3456) :
    concatenate S256x3456 1 (List.ofFn fun i : Fin 27 => ⟨S256x128, g i⟩) h (ix2 r m)
      = g ⟨m.val / 128, by omega⟩ (ix2 r ⟨m.val % 128, by omega⟩) := by
  rw [concatenate_ofFn_apply (t := S256x3456) (s₁ := S256x128) (1 : Fin 2) g _ rfl 128 rfl (ix2 r m) ⟨m.val / 128, by omega⟩ rfl (ix2 r ⟨m.val % 128, by omega⟩) rfl ?_]
  intro b hb
  match b with
  | ⟨0, _⟩ => rfl
  | ⟨1, _⟩ => exact absurd rfl hb

/-- A chain of selects reads the matrix its word names. -/
theorem choose_apply (idx : IVec S256x128 32) (g : ℕ → S256x128.Idx → α) (init : S256x128.Idx → α) (j : S256x128.Idx)
    (n : ℕ) (hn : n < 32) (h : idx j = BitVec.ofNat 32 n) : choose idx g init j = g n j := by
  have key : ∀ k ≤ 32, steps k init (fun i acc => select (cmpi .eq idx (broadcast S256x128 (BitVec.ofNat 32 i))) (g i) acc) j
      = if n < k then g n j else init j := by
    intro k
    induction k with
    | zero => intro _; rfl
    | succ k ih =>
      intro hk
      rw [steps_succ]
      show Scalar.select (IntOp.cmpi .eq (idx j) (BitVec.ofNat 32 k)) (g k j) _ = _
      rw [ih (by omega), h]
      by_cases e : n = k
      · subst e
        rw [if_pos (Nat.lt_succ_self n)]
        simp [IntOp.cmpi, Scalar.select]
      · have hne : BitVec.ofNat 32 n ≠ BitVec.ofNat 32 k := by
          intro h'
          have := congrArg BitVec.toNat h'
          simp only [BitVec.toNat_ofNat] at this
          omega
        have e1 : IntOp.cmpi .eq (BitVec.ofNat 32 n) (BitVec.ofNat 32 k) = 0#1 := by
          show BitVec.ofBool (_ == _) = 0#1
          rw [beq_eq_false_iff_ne.mpr hne]
          rfl
        rw [e1]
        change (if n < k then g n j else init j) = _
        by_cases hlt : n < k
        · rw [if_pos hlt, if_pos (by omega)]
        · rw [if_neg hlt, if_neg (by omega)]
  have := key 32 le_rfl
  rw [if_pos hn] at this
  exact this

theorem lanes_apply (loc : IVec S256x128 32) (c : Fin 32) (r : Fin 256) (k : Fin 128) (l : ℕ) (hl : l < 128)
    (h : loc (ix2 r k) = BitVec.ofNat 32 l) : lanes loc (ix3 c r k) = BitVec.ofNat 32 l := by
  unfold lanes
  pointwise
  rw [h]
  have e : IntOp.cmpi .slt (BitVec.ofNat 32 l) 0#32 = 0#1 := by
    have h1 : (BitVec.ofNat 32 l).toInt = l := by
      rw [BitVec.toInt_eq_toNat_cond, BitVec.toNat_ofNat]
      omega
    show BitVec.ofBool (decide ((BitVec.ofNat 32 l).toInt < 0)) = 0#1
    rw [h1, decide_eq_false (by omega)]
    rfl
  rw [e]
  rfl

/-- The gather by columns reads the stack at the word's column. -/
theorem pick_apply (st : FVec Ideal S32x256x128 .f32) (win loc : IVec S256x128 32) (r : Fin 256) (k : Fin 128) (w l : ℕ)
    (hw : w < 32) (hl : l < 128) (ew : win (ix2 r k) = BitVec.ofNat 32 w) (el : loc (ix2 r k) = BitVec.ofNat 32 l) :
    pick st win loc (ix2 r k) = st (ix3 ⟨w, hw⟩ r ⟨l, hl⟩) := by
  unfold pick
  rw [choose_apply win _ _ (ix2 r k) w hw ew, plane_apply _ w r k hw]
  unfold dynamicGather
  refine congrArg st (funext fun a => Fin.ext ?_)
  match a with
  | ⟨0, _⟩ => rfl
  | ⟨1, _⟩ => rfl
  | ⟨2, _⟩ =>
    show (lanes loc (ix3 ⟨w, hw⟩ r k)).toNat % 128 = l
    rw [lanes_apply loc _ r k l hl el, BitVec.toNat_ofNat]
    omega

theorem take_apply (x : FVec Ideal S256x4096 .f32) (win loc : IVec S256x128 32) (r : Fin 256) (k : Fin 128) (w l : ℕ)
    (hw : w < 32) (hl : l < 128) (ew : win (ix2 r k) = BitVec.ofNat 32 w) (el : loc (ix2 r k) = BitVec.ofNat 32 l) :
    take x win loc (ix2 r k) = x (ix2 r ⟨128 * w + l, by omega⟩) := by
  unfold take
  rw [pick_apply _ win loc r k w l hw hl ew el, stack_apply, window_apply x w r ⟨l, hl⟩ hw]

end Cert.Reads

end
-- ==== Proof.Order.lean ====
/-
  The K greatest entries of a row, ties by position: the place of an entry in the decreasing order, the stable sort by
  it, the same entries by ranks and a threshold, and sums over them.
-/
module

public import Idealize.ShloMosaic.Lib.SortPrefix
public import Idealize.ShloMosaic.Lib.SortFacts
public import Mathlib.Data.Nat.Count
public import Mathlib.Algebra.BigOperators.Fin
public import Mathlib.Order.Interval.Finset.Fin

@[expose] public section

noncomputable section

namespace Cert.Order

open Idealize.ShloMosaic

variable {n : ℕ} {α : Type} [LinearOrder α]

/-- Entry `l` comes before entry `m`: it is greater, or equal and earlier. -/
def Before (x : Fin n → α) (l m : Fin n) : Prop := x m < x l ∨ (x l = x m ∧ l < m)

instance (x : Fin n → α) (l m : Fin n) : Decidable (Before x l m) := by unfold Before; infer_instance

/-- How many entries come before entry `m`. -/
def place (x : Fin n → α) (m : Fin n) : ℕ := (Finset.univ.filter fun l => Before x l m).card

/-! ## The stable sort -/

/-- The positions in decreasing order of their entries, equal entries in order of position. -/
def sorted (x : Fin n → α) : Fin n → Fin n := sortedFrom fun k k' => decide (x k' < x k)

theorem strictTotal (x : Fin n → α) : StrictTotalBefore fun k k' : Fin n => decide (Before x k k') := by
  have h := StrictTotalBefore.of_key_then_position (fun a b : α => decide (b < a)) x (fun a => by simp)
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)
  have e : (fun k k' : Fin n => decide (Before x k k'))
      = fun k k' : Fin n => decide (x k' < x k) || (decide (x k = x k') && decide (k < k')) := by
    funext k k'
    rw [Bool.eq_iff_iff, decide_eq_true_iff]
    simp [Before]
  rw [e]
  exact h

/-- Sorting an increasing list of positions stably by the entries alone is sorting it by the order with positions. -/
theorem stableSort_eq (x : Fin n → α) (l : List (Fin n)) (hl : l.Pairwise (· < ·)) :
    stableSort (fun k k' => decide (x k' < x k)) l = stableSort (fun k k' => decide (Before x k k')) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have : ¬ b < a := not_lt.mpr (le_of_lt (hl.1 b hb'))
    simp [Before, this]

theorem sorted_eq (x : Fin n → α) : sorted x = sortedFrom fun k k' => decide (Before x k k') := by
  funext k
  unfold sorted sortedFrom
  have h : sortPositions n (fun k k' => decide (x k' < x k)) = sortPositions n fun k k' => decide (Before x k k') :=
    stableSort_eq x _ (List.pairwise_lt_finRange n)
  rw [List.get_of_eq h]
  rfl

theorem sorted_bijective (x : Fin n → α) : Function.Bijective (sorted x) :=
  ⟨sortedFrom_injective _, sortedFrom_surjective _⟩

theorem before_sorted_iff (x : Fin n → α) (i j : Fin n) : Before x (sorted x i) (sorted x j) ↔ i < j := by
  have hB := strictTotal x
  have key : ∀ i j : Fin n, i < j → ¬ Before x (sorted x j) (sorted x i) := by
    intro i j hij
    have h := sortedFrom_noInversion (fun k k' => decide (Before x k k')) (fun k k' => decide (Before x k k'))
      (fun a b h => hB.asymm a b h) (fun a b h => h) (fun a b c h₁ h₂ => hB.negTrans a b c h₁ h₂) i j hij
    rw [sorted_eq]
    simpa using h
  constructor
  · intro h
    rcases lt_trichotomy i j with h' | h' | h'
    · exact h'
    · subst h'
      have := hB.irrefl (sorted x i)
      simp only [decide_eq_false_iff_not] at this
      exact absurd h this
    · exact absurd h (key j i h')
  · intro h
    have hne : sorted x i ≠ sorted x j := fun e => (ne_of_lt h) ((sorted_bijective x).1 e)
    rcases hB.total _ _ hne with h' | h'
    · simpa using h'
    · exact absurd (by simpa using h') (key i j h)

theorem place_sorted (x : Fin n → α) (i : Fin n) : place x (sorted x i) = i.val := by
  have e : (Finset.univ.filter fun l => Before x l (sorted x i)) = (Finset.univ.filter fun k : Fin n => k < i).image (sorted x) := by
    ext l
    simp only [Finset.mem_filter, Finset.mem_univ, true_and, Finset.mem_image]
    constructor
    · intro h
      obtain ⟨k, rfl⟩ := (sorted_bijective x).2 l
      exact ⟨k, (before_sorted_iff x k i).mp h, rfl⟩
    · rintro ⟨k, hk, rfl⟩
      exact (before_sorted_iff x k i).mpr hk
  unfold place
  rw [e, Finset.card_image_of_injective _ (sorted_bijective x).1]
  have e' : (Finset.univ.filter fun k : Fin n => k < i) = Finset.Iio i := by ext k; simp
  rw [e', Fin.card_Iio]

/-! ## Sums over the K greatest -/

/-- Position `m` is a position of the row and among the `K` greatest. -/
def Chosen (x : Fin n → α) (K m : ℕ) : Prop := ∃ h : m < n, place x ⟨m, h⟩ < K

instance (x : Fin n → α) (K : ℕ) : DecidablePred (Chosen x K) := fun m => by unfold Chosen; infer_instance

theorem chosen_sorted (x : Fin n → α) (K : ℕ) (i : Fin n) : Chosen x K (sorted x i).val ↔ i.val < K := by
  constructor
  · rintro ⟨_, h⟩
    rwa [Fin.eta, place_sorted] at h
  · intro h
    exact ⟨(sorted x i).isLt, by rwa [Fin.eta, place_sorted]⟩

/-- The chosen positions, as a finite set. -/
def chosenSet (x : Fin n → α) (K : ℕ) : Finset (Fin n) := Finset.univ.filter fun m => Chosen x K m.val

theorem chosenSet_eq (x : Fin n → α) (K : ℕ) (hK : K ≤ n) :
    chosenSet x K = (Finset.univ : Finset (Fin K)).image fun k => sorted x (k.castLE hK) := by
  ext m
  simp only [chosenSet, Finset.mem_filter, Finset.mem_univ, true_and, Finset.mem_image]
  constructor
  · intro h
    obtain ⟨i, rfl⟩ := (sorted_bijective x).2 m
    exact ⟨⟨i.val, (chosen_sorted x K i).mp h⟩, rfl⟩
  · rintro ⟨k, rfl⟩
    exact (chosen_sorted x K _).mpr k.isLt

theorem sorted_castLE_injective (x : Fin n → α) (K : ℕ) (hK : K ≤ n) :
    Function.Injective fun k : Fin K => sorted x (k.castLE hK) := fun a b h =>
  Fin.castLE_injective hK ((sorted_bijective x).1 h)

/-- The sum over the first `K` of the sort is the sum over the chosen. -/
theorem sum_sorted {M : Type} [AddCommMonoid M] (x : Fin n → α) (K : ℕ) (hK : K ≤ n) (f : Fin n → M) :
    ∑ k : Fin K, f (sorted x (k.castLE hK)) = ∑ m ∈ chosenSet x K, f m := by
  rw [chosenSet_eq x K hK, Finset.sum_image fun a _ b _ h => sorted_castLE_injective x K hK h]

theorem card_chosenSet (x : Fin n → α) (K : ℕ) (hK : K ≤ n) : (chosenSet x K).card = K := by
  rw [chosenSet_eq x K hK, Finset.card_image_of_injective _ (sorted_castLE_injective x K hK)]
  simp

theorem count_eq_card (p : ℕ → Prop) [DecidablePred p] (m : ℕ) (hm : m ≤ n) :
    Nat.count p m = (Finset.univ.filter fun l : Fin n => l.val < m ∧ p l.val).card := by
  rw [Nat.count_eq_card_filter_range]
  refine Finset.card_bij' (fun a ha => ⟨a, lt_of_lt_of_le (Finset.mem_range.mp (Finset.mem_filter.mp ha).1) hm⟩) (fun b _ => b.val)
    ?_ ?_ ?_ ?_
  · intro a ha
    simp only [Finset.mem_filter, Finset.mem_range] at ha
    simp [ha]
  · intro b hb
    simp only [Finset.mem_filter, Finset.mem_univ, true_and] at hb
    simp [hb]
  · intros; rfl
  · intros; rfl

theorem count_chosen (x : Fin n → α) (K : ℕ) (hK : K ≤ n) : Nat.count (Chosen x K) n = K := by
  rw [count_eq_card (n := n) (Chosen x K) n le_rfl]
  have e : (Finset.univ.filter fun l : Fin n => l.val < n ∧ Chosen x K l.val) = chosenSet x K := by
    ext l
    simp [chosenSet]
  rw [e, card_chosenSet x K hK]

theorem exists_of_lt_count (p : ℕ → Prop) [DecidablePred p] (N k : ℕ) (h : k < Nat.count p N) :
    ∃ m, p m ∧ Nat.count p m = k := by
  induction N with
  | zero => simp at h
  | succ N ih =>
    rw [Nat.count_succ] at h
    by_cases hk : k < Nat.count p N
    · exact ih hk
    · by_cases hp : p N
      · rw [if_pos hp] at h
        exact ⟨N, hp, by omega⟩
      · rw [if_neg hp] at h
        omega

open Classical in
/-- The `k`-th chosen position, in order of position. -/
def kth (x : Fin n → α) (K k : ℕ) : ℕ :=
  if h : ∃ m, Chosen x K m ∧ Nat.count (Chosen x K) m = k then h.choose else 0

theorem kth_facts (x : Fin n → α) (K : ℕ) (hK : K ≤ n) (k : ℕ) (hk : k < K) :
    Chosen x K (kth x K k) ∧ kth x K k < n ∧ Nat.count (Chosen x K) (kth x K k) = k := by
  have h := exists_of_lt_count (Chosen x K) n k (by rw [count_chosen x K hK]; exact hk)
  unfold kth
  rw [dif_pos h]
  exact ⟨h.choose_spec.1, h.choose_spec.1.1, h.choose_spec.2⟩

/-- The sum over the chosen in order of position is the sum over the chosen. -/
theorem sum_kth {M : Type} [AddCommMonoid M] (x : Fin n → α) (K : ℕ) (hK : K ≤ n) (f : ℕ → M) :
    ∑ k : Fin K, f (kth x K k.val) = ∑ m ∈ chosenSet x K, f m.val := by
  have hinj : Function.Injective fun k : Fin K => (⟨kth x K k.val, (kth_facts x K hK k.val k.isLt).2.1⟩ : Fin n) := by
    intro a b h
    have h' : kth x K a.val = kth x K b.val := congrArg Fin.val h
    have ha := (kth_facts x K hK a.val a.isLt).2.2
    have hb := (kth_facts x K hK b.val b.isLt).2.2
    rw [h'] at ha
    exact Fin.ext (ha.symm.trans hb)
  have e : chosenSet x K
      = (Finset.univ : Finset (Fin K)).image fun k : Fin K => (⟨kth x K k.val, (kth_facts x K hK k.val k.isLt).2.1⟩ : Fin n) := by
    symm
    refine Finset.eq_of_subset_of_card_le ?_ ?_
    · intro m hm
      simp only [Finset.mem_image, Finset.mem_univ, true_and] at hm
      obtain ⟨k, rfl⟩ := hm
      simp only [chosenSet, Finset.mem_filter, Finset.mem_univ, true_and]
      exact (kth_facts x K hK k.val k.isLt).1
    · rw [card_chosenSet x K hK, Finset.card_image_of_injective _ hinj]
      simp
  rw [e, Finset.sum_image fun a _ b _ h => hinj h]

/-- So the two enumerations give the same sums. -/
theorem sum_kth_eq_sum_sorted {M : Type} [AddCommMonoid M] (x : Fin n → α) (K : ℕ) (hK : K ≤ n) (f : ℕ → M) :
    ∑ k : Fin K, f (kth x K k.val) = ∑ k : Fin K, f (sorted x (k.castLE hK)).val := by
  rw [sum_kth x K hK f, sum_sorted x K hK fun m => f m.val]

/-! ## Ranks and the threshold -/

/-- How many entries are strictly smaller. -/
def rank (x : Fin n → α) (m : Fin n) : ℕ := (Finset.univ.filter fun l => x l < x m).card

theorem rank_le (x : Fin n → α) (m : Fin n) : rank x m ≤ n := by
  have := Finset.card_filter_le (Finset.univ : Finset (Fin n)) fun l => x l < x m
  simpa [rank] using this

theorem rank_mono (x : Fin n → α) {l m : Fin n} (h : x l ≤ x m) : rank x l ≤ rank x m :=
  Finset.card_le_card fun a ha => by
    simp only [Finset.mem_filter, Finset.mem_univ, true_and] at ha ⊢
    exact lt_of_lt_of_le ha h

theorem rank_strict (x : Fin n → α) {l m : Fin n} (h : x l < x m) : rank x l < rank x m := by
  refine Finset.card_lt_card ⟨fun a ha => ?_, fun hs => ?_⟩
  · simp only [Finset.mem_filter, Finset.mem_univ, true_and] at ha ⊢
    exact lt_trans ha h
  · have : l ∈ Finset.univ.filter fun a => x a < x l := hs (by simp [h])
    simp at this

theorem rank_lt_iff (x : Fin n → α) (l m : Fin n) : rank x l < rank x m ↔ x l < x m :=
  ⟨fun h => not_le.mp fun h' => absurd (rank_mono x h') (not_le.mpr h), rank_strict x⟩

theorem rank_eq_iff (x : Fin n → α) (l m : Fin n) : rank x l = rank x m ↔ x l = x m := by
  constructor
  · intro h
    rcases lt_trichotomy (x l) (x m) with h' | h' | h'
    · exact absurd h (ne_of_lt (rank_strict x h'))
    · exact h'
    · exact absurd h.symm (ne_of_lt (rank_strict x h'))
  · intro h
    exact le_antisymm (rank_mono x h.le) (rank_mono x h.ge)

/-- An entry is among the `K` greatest exactly when its rank is above the threshold `T`, or at it and among the first
    that are still wanted: `T` is the rank with at least `K` at or above it and fewer than `K` above it. -/
theorem place_lt_iff (x : Fin n → α) (K T : ℕ) (hge : K ≤ (Finset.univ.filter fun l => T ≤ rank x l).card)
    (hgt : (Finset.univ.filter fun l => T < rank x l).card < K) (m : Fin n) :
    place x m < K ↔ T < rank x m ∨ (rank x m = T
      ∧ (Finset.univ.filter fun l => l ≤ m ∧ rank x l = T).card + (Finset.univ.filter fun l => T < rank x l).card ≤ K) := by
  have hb : ∀ l, Before x l m ↔ rank x m < rank x l ∨ (rank x l = rank x m ∧ l < m) := fun l => by
    unfold Before
    rw [rank_lt_iff, rank_eq_iff]
  unfold place
  simp only [hb]
  rcases lt_trichotomy T (rank x m) with h | h | h
  · simp only [h, true_or, iff_true]
    refine lt_of_le_of_lt (Finset.card_le_card fun l hl => ?_) hgt
    simp only [Finset.mem_filter, Finset.mem_univ, true_and] at hl ⊢
    omega
  · subst h
    simp only [lt_irrefl, false_or, true_and]
    have e1 : (Finset.univ.filter fun l => rank x m < rank x l ∨ (rank x l = rank x m ∧ l < m))
        = (Finset.univ.filter fun l => rank x m < rank x l) ∪ (Finset.univ.filter fun l => rank x l = rank x m ∧ l < m) := by
      rw [Finset.filter_or]
    have e2 : (Finset.univ.filter fun l => l ≤ m ∧ rank x l = rank x m)
        = insert m (Finset.univ.filter fun l => rank x l = rank x m ∧ l < m) := by
      ext l
      simp only [Finset.mem_filter, Finset.mem_univ, true_and, Finset.mem_insert]
      constructor
      · rintro ⟨h1, h2⟩
        rcases eq_or_lt_of_le h1 with h | h
        · exact Or.inl h
        · exact Or.inr ⟨h2, h⟩
      · rintro (h | ⟨h1, h2⟩)
        · subst h; exact ⟨le_rfl, rfl⟩
        · exact ⟨le_of_lt h2, h1⟩
    rw [e1, e2, Finset.card_union_of_disjoint, Finset.card_insert_of_notMem]
    · omega
    · simp
    · rw [Finset.disjoint_left]
      intro l h1 h2
      simp only [Finset.mem_filter, Finset.mem_univ, true_and] at h1 h2
      omega
  · have h1 : ¬ T < rank x m := by omega
    have h2 : ¬ rank x m = T := by omega
    simp only [h1, h2, false_or, false_and, iff_false, not_lt]
    refine le_trans hge (Finset.card_le_card fun l hl => ?_)
    simp only [Finset.mem_filter, Finset.mem_univ, true_and] at hl ⊢
    omega

end Cert.Order

end
-- ==== Proof.Keys.lean ====
/-
  The rank keys and their threshold at an index: the key of a candidate is the number of strictly smaller products of its
  row, and the threshold is the greatest number that at least 128 keys of the row reach.
-/
module

public import proofs.«01_k».proof.Proof.Reads
public import proofs.«01_k».proof.Proof.Order
public import Idealize.ShloMosaic.Lib.WordSum

@[expose] public section

set_option maxRecDepth 16384

noncomputable section

namespace Cert.Keys

open Idealize.ShloMosaic Cert.KernelIdeal Cert.KernelIdeal.Gen Cert.Block Cert.Order

/-- What holds at the start and is kept by each step holds at the end. -/
theorem fold_inv {β : Type} : ∀ {n : ℕ} (g : Fin n → β → β) (init : β) (P : ℕ → β → Prop) (_ : P 0 init)
    (_ : ∀ (k : Fin n) (a : β), P k.val a → P (k.val + 1) (g k a)), P n (Scf.fold g init) := by
  intro n
  induction n with
  | zero => intro g init P h0 _; rw [Scf.fold_eq]; exact h0
  | succ n ih =>
    intro g init P h0 hs
    rw [Scf.fold_eq, List.finRange_succ_last, List.foldl_append, List.foldl_map]
    have := ih (fun k a => g k.castSucc a) init P h0 (fun k a h => hs k.castSucc a h)
    rw [Scf.fold_eq] at this
    exact hs (Fin.last n) _ this

/-- One row of a row block. -/
def rowOf {α : Type} (x : S256x4096.Idx → α) (r : Fin 256) : Fin 4096 → α := fun m => x (ix2 r m)

theorem rotate_apply (a : FVec Ideal S256x4096 .f32) (r : Fin 256) (m : Fin 4096) :
    k0_pay7 a (ix2 r m) = a (ix2 r ⟨(m.val + 1) % 4096, Nat.mod_lt _ (by decide)⟩) := by
  unfold k0_pay7
  pointwise
  split
  · refine congrArg a (congrArg (ix2 r) ?_)
    exact Fin.ext (by show 1 + m.val = (m.val + 1) % 4096; omega)
  · refine congrArg a (congrArg (ix2 r) ?_)
    exact Fin.ext (by show m.val - 4095 = (m.val + 1) % 4096; omega)

theorem count_apply (x0 : Vec Ideal S1x128x256 .f32) (x1 : Vec Ideal S1x128x4096 .f32) (a : FVec Ideal S256x4096 .f32)
    (q : IVec S256x4096 32) (j : S256x4096.Idx) :
    k0_pay8 x0 x1 a q j = q j + if (a j : EReal) < corr x0 x1 j then 1#32 else 0#32 := by
  show q j + BitVec.setWidth 32 (BitVec.ofBool (decide ((a j : EReal) < corr x0 x1 j))) = _
  by_cases h : (a j : EReal) < corr x0 x1 j
  · rw [if_pos h, decide_eq_true h]; rfl
  · rw [if_neg h, decide_eq_false h]; rfl

/-- The number of the row's candidates below candidate `m`, counted over rotations of the row. -/
theorem card_rotations {α : Type} [LinearOrder α] (x : Fin 4096 → α) (m : Fin 4096) :
    ((Finset.range 4096).filter fun i => x ⟨(m.val + i) % 4096, Nat.mod_lt _ (by decide)⟩ < x m).card = rank x m := by
  unfold rank
  refine Finset.card_nbij' (fun i => ⟨(m.val + i) % 4096, Nat.mod_lt _ (by decide)⟩)
    (fun l => (l.val + 4096 - m.val) % 4096) ?_ ?_ ?_ ?_
  · intro i hi
    simp only [Finset.coe_filter, Set.mem_setOf_eq, Finset.mem_filter, Finset.mem_univ, true_and] at hi ⊢
    exact hi.2
  · intro l hl
    simp only [Finset.coe_filter, Set.mem_setOf_eq, Finset.mem_filter, Finset.mem_univ, true_and, Finset.mem_range] at hl ⊢
    refine ⟨by omega, ?_⟩
    convert hl using 2
    exact Fin.ext (by show (m.val + (l.val + 4096 - m.val) % 4096) % 4096 = l.val; omega)
  · intro i hi
    simp only [Finset.coe_filter, Set.mem_setOf_eq, Finset.mem_range] at hi
    show ((m.val + i) % 4096 + 4096 - m.val) % 4096 = i
    omega
  · intro l _
    exact Fin.ext (by show (m.val + (l.val + 4096 - m.val) % 4096) % 4096 = l.val; omega)

/-- The key of a candidate is its rank in the row. -/
theorem keys_apply (x0 : Vec Ideal S1x128x256 .f32) (x1 : Vec Ideal S1x128x4096 .f32) (r : Fin 256) (m : Fin 4096) :
    keys x0 x1 (ix2 r m) = BitVec.ofNat 32 (rank (α := EReal) (rowOf (corr x0 x1) r) m) := by
  have key := fold_inv (n := k0_t1_loop.trips)
    (fun (_ : Fin k0_t1_loop.trips) (a : FVec Ideal S256x4096 .f32 × IVec S256x4096 32) => (k0_pay7 a.1, k0_pay8 x0 x1 a.1 a.2))
    (k0_pay5 x0 x1, k0_pay6)
    (fun i a => ∀ (r : Fin 256) (m : Fin 4096), a.1 (ix2 r m) = corr x0 x1 (ix2 r ⟨(m.val + i) % 4096, Nat.mod_lt _ (by decide)⟩)
      ∧ a.2 (ix2 r m) = BitVec.ofNat 32 ((Finset.range i).filter fun j =>
        ((corr x0 x1 (ix2 r ⟨(m.val + j) % 4096, Nat.mod_lt _ (by decide)⟩) : EReal) < corr x0 x1 (ix2 r m))).card)
    ?_ ?_
  · have h := (key r m).2
    rw [show k0_t1_loop.trips = 4096 from rfl] at h
    rw [← card_rotations]
    exact h
  · intro r m
    refine ⟨?_, rfl⟩
    show corr x0 x1 (ix2 r m) = _
    congr 2
    exact Fin.ext (by show m.val = (m.val + 0) % 4096; omega)
  · intro k a h r m
    refine ⟨?_, ?_⟩
    · show k0_pay7 a.1 (ix2 r m) = _
      rw [rotate_apply, (h r _).1]
      congr 2
      exact Fin.ext (by show ((m.val + 1) % 4096 + k.val) % 4096 = (m.val + (k.val + 1)) % 4096; omega)
    · show k0_pay8 x0 x1 a.1 a.2 (ix2 r m) = _
      rw [count_apply, (h r m).1, (h r m).2, Finset.range_add_one, Finset.filter_insert]
      by_cases hlt : (corr x0 x1 (ix2 r ⟨(m.val + k.val) % 4096, Nat.mod_lt _ (by decide)⟩) : EReal) < corr x0 x1 (ix2 r m)
      · rw [if_pos hlt, if_pos hlt, Finset.card_insert_of_notMem (by simp), BitVec.ofNat_add]
      · rw [if_neg hlt, if_neg hlt]
        exact BitVec.add_zero _

/-! ## The threshold -/

/-- A sum of flags is the number of flags set. -/
theorem fold_flags {ι : Type} [DecidableEq ι] (S : Finset ι) (f : ι → BitVec 32) (p : ι → Prop) [DecidablePred p]
    (hf : ∀ i, f i = if p i then 1#32 else 0#32) (hS : S.card < 2 ^ 32) :
    (S.fold IntOp.addi 0#32 f).toNat = (S.filter p).card := by
  induction S using Finset.induction_on with
  | empty => rfl
  | insert a S ha ih =>
    rw [Finset.card_insert_of_notMem ha] at hS
    rw [Finset.fold_insert ha, Finset.filter_insert]
    have h := ih (by omega)
    have hc := Finset.card_filter_le S p
    show (f a + _).toNat = _
    rw [hf]
    by_cases hp : p a
    · rw [if_pos hp, if_pos hp, Finset.card_insert_of_notMem (by simp [ha]), BitVec.toNat_add, h,
        show (1#32).toNat = 1 from rfl, Nat.mod_eq_of_lt (by omega)]
      omega
    · rw [if_neg hp, if_neg hp, BitVec.toNat_add, h, show (0#32).toNat = 0 from rfl, Nat.mod_eq_of_lt (by omega)]
      omega

theorem select_flag {α : Type} (b : Bool) (x y : α) : Scalar.select (BitVec.ofBool b) x y = if b = true then x else y := by
  cases b <;> rfl

theorem flag_of (b : Bool) : BitVec.setWidth 32 (BitVec.ofBool b) = if b = true then 1#32 else 0#32 := by
  cases b <;> rfl

/-- The number of keys of a row that reach a word, as the kernel counts them. -/
theorem reach_apply (key : IVec S256x4096 32) (t : IVec S256x1 32) (r : Fin 256) :
    (shapeCast S256x1 (multiReductionI .add [1] S256 (extui 32 (cmpi .uge key (broadcastTo S256x4096 t broadcasts_S256x1_S256x4096)) natLt_1_32)
      0#32 reduces_S256x4096_S256 rfl) shapeCasts_S256_S256x1 (ix2 r 0)).toNat
      = (Finset.univ.filter fun m : Fin 4096 => (t (ix2 r 0)).toNat ≤ (key (ix2 r m)).toNat).card := by
  rw [← fold_flags Finset.univ (fun m : Fin 4096 => (extui 32 (cmpi .uge key (broadcastTo S256x4096 t broadcasts_S256x1_S256x4096)) natLt_1_32) (ix2 r m))
    _ (fun m => ?_) (by rw [Finset.card_univ, Fintype.card_fin]; decide)]
  · refine congrArg BitVec.toNat ?_
    pointwise
  · rw [show (extui 32 (cmpi .uge key (broadcastTo S256x4096 t broadcasts_S256x1_S256x4096)) natLt_1_32) (ix2 r m)
      = BitVec.setWidth 32 (BitVec.ofBool ((t (ix2 r 0)).ule (key (ix2 r m)))) from by pointwise; rfl, flag_of]
    simp only [BitVec.ule, decide_eq_true_eq]

theorem above_apply (key : IVec S256x4096 32) (t : IVec S256x1 32) (r : Fin 256) :
    (shapeCast S256x1 (multiReductionI .add [1] S256 (extui 32 (k0_pay11 key t) natLt_1_32)
      0#32 reduces_S256x4096_S256 rfl) shapeCasts_S256_S256x1 (ix2 r 0)).toNat
      = (Finset.univ.filter fun m : Fin 4096 => (t (ix2 r 0)).toNat < (key (ix2 r m)).toNat).card := by
  rw [← fold_flags Finset.univ (fun m : Fin 4096 => (extui 32 (k0_pay11 key t) natLt_1_32) (ix2 r m))
    _ (fun m => ?_) (by rw [Finset.card_univ, Fintype.card_fin]; decide)]
  · refine congrArg BitVec.toNat ?_
    pointwise
  · rw [show (extui 32 (k0_pay11 key t) natLt_1_32) (ix2 r m)
      = BitVec.setWidth 32 (BitVec.ofBool ((t (ix2 r 0)).ult (key (ix2 r m)))) from by unfold k0_pay11; pointwise; rfl, flag_of]
    simp only [BitVec.ult, decide_eq_true_eq]

/-- Setting the next bit of a word whose lower bits are zero. -/
theorem set_bit (i T : ℕ) (hi : i < 32) (hT : T % 2 ^ (32 - i) = 0) (hb : T < 2 ^ 32) :
    (BitVec.ofNat 32 T ||| (1#32 <<< (31 - i))).toNat = T + 2 ^ (31 - i) := by
  have e : 2 ^ (32 - i) = 2 ^ (31 - i) * 2 := by rw [← pow_succ]; congr 1; omega
  obtain ⟨q, hq⟩ := Nat.dvd_of_mod_eq_zero hT
  have hlt : 2 ^ (31 - i) < 2 ^ (32 - i) := Nat.pow_lt_pow_right (by decide) (by omega)
  have hlt' : 2 ^ (31 - i) < 2 ^ 32 := Nat.pow_lt_pow_right (by decide) (by omega)
  rw [BitVec.toNat_or, BitVec.toNat_shiftLeft, BitVec.toNat_ofNat, Nat.mod_eq_of_lt hb, hq]
  rw [Nat.two_pow_add_eq_or_of_lt hlt q]
  congr 1
  rw [Nat.shiftLeft_eq, show (1#32).toNat = 1 from rfl, one_mul, Nat.mod_eq_of_lt hlt']

theorem ori_broadcast (t : IVec S256x1 32) (v : BitVec 32) (j : S256x1.Idx) : ori t (broadcast S256x1 v) j = t j ||| v := rfl

theorem reached (c : BitVec 32) (h : c.toNat ≤ 4096) : IntOp.cmpi .sge c 128#32 = BitVec.ofBool (decide (128 ≤ c.toNat)) := by
  have h1 : c.toInt = c.toNat := by
    rw [BitVec.toInt_eq_toNat_cond]
    omega
  show BitVec.ofBool (decide ((128 : ℤ) ≤ c.toInt)) = _
  rw [h1]
  congr 1
  exact decide_eq_decide.mpr (by omega)

/-- One step of the search for the threshold: the next bit is kept where at least 128 keys still reach the word. -/
theorem radix_step (key : IVec S256x4096 32) (k : Fin k0_t2_loop.trips) (t : IVec S256x1 32) (r : Fin 256) :
    k0_pay10 key k t (ix2 r 0) = Scalar.select (IntOp.cmpi .sge
      (shapeCast S256x1 (multiReductionI .add [1] S256 (extui 32 (cmpi .uge key (broadcastTo S256x4096
        (ori t (broadcast S256x1 (Scalar.shli 1#32 (Scalar.subi 31#32 (Scf.iv 0#32 1#32 k))))) broadcasts_S256x1_S256x4096)) natLt_1_32)
        0#32 reduces_S256x4096_S256 rfl) shapeCasts_S256_S256x1 (ix2 r 0)) 128#32)
      (ori t (broadcast S256x1 (Scalar.shli 1#32 (Scalar.subi 31#32 (Scf.iv 0#32 1#32 k)))) (ix2 r 0)) (t (ix2 r 0)) := rfl

/-- The threshold of a row: at least 128 keys reach it, fewer than 128 exceed it. -/
theorem threshold_apply (key : IVec S256x4096 32) (r : Fin 256) :
    128 ≤ (Finset.univ.filter fun m : Fin 4096 => (threshold key (ix2 r 0)).toNat ≤ (key (ix2 r m)).toNat).card
      ∧ (Finset.univ.filter fun m : Fin 4096 => (threshold key (ix2 r 0)).toNat < (key (ix2 r m)).toNat).card < 128 := by
  have key := fold_inv (n := k0_t2_loop.trips) (fun (k : Fin k0_t2_loop.trips) (t : IVec S256x1 32) => k0_pay10 key k t) k0_pay9
    (fun i t => (t (ix2 r 0)).toNat % 2 ^ (32 - i) = 0
      ∧ 128 ≤ (Finset.univ.filter fun m : Fin 4096 => (t (ix2 r 0)).toNat ≤ (key (ix2 r m)).toNat).card
      ∧ (Finset.univ.filter fun m : Fin 4096 => (t (ix2 r 0)).toNat + 2 ^ (32 - i) ≤ (key (ix2 r m)).toNat).card < 128)
    ?_ ?_
  · exact ⟨key.2.1, key.2.2⟩
  · have z : ((k0_pay9 (ix2 r 0)).toNat) = 0 := rfl
    rw [z]
    refine ⟨Nat.zero_mod _, ?_, ?_⟩
    · rw [Finset.filter_true_of_mem (fun m _ => Nat.zero_le _), Finset.card_univ, Fintype.card_fin]; decide
    · rw [Finset.filter_false_of_mem (fun m _ => ?_)]
      · decide
      · have := (key (ix2 r m)).isLt
        show ¬ (0 + 2 ^ 32 ≤ _)
        omega
  · intro k t ⟨h0, h1, h2⟩
    have hk : k.val < 32 := k.isLt
    have hiv : Scalar.shli 1#32 (Scalar.subi 31#32 (Scf.iv 0#32 1#32 k)) = 1#32 <<< (31 - k.val) := by
      have h : ∀ k : Fin 32, Scalar.shli 1#32 (Scalar.subi 31#32 (Scf.iv 0#32 1#32 k)) = 1#32 <<< (31 - k.val) := by decide
      exact h ⟨k.val, hk⟩
    have hset := set_bit k.val _ hk h0 (t (ix2 r 0)).isLt
    rw [BitVec.ofNat_toNat, BitVec.setWidth_eq] at hset
    have hval : k0_pay10 key k t (ix2 r 0) = if 128 ≤ (Finset.univ.filter fun m : Fin 4096 =>
        (t (ix2 r 0)).toNat + 2 ^ (31 - k.val) ≤ (key (ix2 r m)).toNat).card then t (ix2 r 0) ||| (1#32 <<< (31 - k.val)) else t (ix2 r 0) := by
      have hr := reach_apply key (ori t (broadcast S256x1 (Scalar.shli 1#32 (Scalar.subi 31#32 (Scf.iv 0#32 1#32 k))))) r
      rw [ori_broadcast, hiv, hset] at hr
      rw [← hr, ← hiv]
      refine (radix_step key k t r).trans ?_
      rw [reached, select_flag]
      · simp only [decide_eq_true_eq]; rfl
      · rw [hiv, hr]
        exact (Finset.card_filter_le _ _).trans_eq (by rw [Finset.card_univ, Fintype.card_fin])
    have e : 2 ^ (32 - k.val) = 2 ^ (31 - k.val) * 2 := by
      rw [← pow_succ, show 31 - k.val + 1 = 32 - k.val by omega]
    have e' : 32 - (k.val + 1) = 31 - k.val := by omega
    rw [hval, e']
    have hdiv : 2 ^ (31 - k.val) ∣ (t (ix2 r 0)).toNat := Dvd.dvd.trans ⟨2, e⟩ (Nat.dvd_of_mod_eq_zero h0)
    split
    · rename_i hc
      rw [hset]
      refine ⟨Nat.mod_eq_zero_of_dvd (Nat.dvd_add hdiv dvd_rfl), hc, ?_⟩
      rw [add_assoc, ← mul_two, ← e]
      exact h2
    · rename_i hc
      exact ⟨Nat.mod_eq_zero_of_dvd hdiv, h1, not_le.mp hc⟩

end Cert.Keys

end
-- ==== Proof.Counts.lean ====
/-
  The prefix counts of a row of zeros and ones at an index: the running sums inside a window of 128 columns, the sums of the
  windows, and the sums of all windows before each, as counts of a predicate on column numbers.
-/
module

public import proofs.«01_k».proof.Proof.Keys

@[expose] public section

set_option maxRecDepth 16384

noncomputable section

namespace Cert.Counts

open Idealize.ShloMosaic Cert.KernelIdeal Cert.KernelIdeal.Gen Cert.Block Cert.Order Cert.Keys Cert.Reads

/-- A number of things as a value. -/
def num (n : ℕ) : EReal := ((n : ℝ) : EReal)

theorem num_zero : num 0 = 0 := by simp [num]

theorem num_one : num 1 = 1 := by simp [num]

theorem num_add (a b : ℕ) : num a + num b = num (a + b) := by
  unfold num; rw [← EReal.coe_add, Nat.cast_add]

theorem num_le (a b : ℕ) : num a ≤ num b ↔ a ≤ b := by
  unfold num; rw [EReal.coe_le_coe_iff, Nat.cast_le]

theorem num_sub (a b : ℕ) (h : b ≤ a) : num a - num b = num (a - b) := by
  unfold num; rw [← EReal.coe_sub, Nat.cast_sub h]

theorem flag_le (a b : EReal) : BitVec.ofBool (decide (a ≤ b)) = 1#1 ↔ a ≤ b := by
  by_cases h : a ≤ b
  · rw [decide_eq_true h]; exact ⟨fun _ => h, fun _ => rfl⟩
  · rw [decide_eq_false h]; exact ⟨fun e => absurd e (by decide), fun e => absurd e h⟩

theorem sum_flags {ι : Type} [DecidableEq ι] (S : Finset ι) (p : ι → Prop) [DecidablePred p] :
    ∑ i ∈ S, (if p i then (1 : EReal) else 0) = num (S.filter p).card := by
  induction S using Finset.induction_on with
  | empty => rw [Finset.sum_empty, Finset.filter_empty, Finset.card_empty, num_zero]
  | insert a S ha ih =>
    rw [Finset.sum_insert ha, Finset.filter_insert, ih]
    by_cases hp : p a
    · rw [if_pos hp, if_pos hp, Finset.card_insert_of_notMem (by simp [ha]), ← num_one, num_add, add_comm]
    · rw [if_neg hp, if_neg hp, zero_add]

theorem sum_num {ι : Type} [DecidableEq ι] (S : Finset ι) (f : ι → ℕ) : ∑ i ∈ S, num (f i) = num (∑ i ∈ S, f i) := by
  induction S using Finset.induction_on with
  | empty => rw [Finset.sum_empty, Finset.sum_empty, num_zero]
  | insert a S ha ih => rw [Finset.sum_insert ha, Finset.sum_insert ha, ih, num_add]

theorem asNum_apply {s : Shape} (x : IVec s 1) (j : s.Idx) :
    (asNum (F := Ideal) x j : EReal) = if x j = 1#1 then 1 else 0 := by
  show (((BitVec.setWidth 32 (x j)).toInt : ℝ) : EReal) = _
  have h : ∀ b : BitVec 1, (BitVec.setWidth 32 b).toInt = if b = 1#1 then 1 else 0 := by decide
  rw [h]
  split <;> simp

theorem toInt_ofNat (a : ℕ) (ha : a < 2 ^ 31) : (BitVec.ofNat 32 a).toInt = a := by
  rw [BitVec.toInt_eq_toNat_cond, BitVec.toNat_ofNat, Nat.mod_eq_of_lt (by omega), if_pos (by omega)]

theorem word_le (a b : ℕ) (ha : a < 2 ^ 31) (hb : b < 2 ^ 31) :
    IntOp.cmpi .sle (BitVec.ofNat 32 a) (BitVec.ofNat 32 b) = 1#1 ↔ a ≤ b := by
  show BitVec.ofBool (decide ((BitVec.ofNat 32 a).toInt ≤ (BitVec.ofNat 32 b).toInt)) = 1#1 ↔ _
  rw [toInt_ofNat a ha, toInt_ofNat b hb]
  by_cases h : a ≤ b
  · rw [decide_eq_true (by omega)]; exact ⟨fun _ => h, fun _ => rfl⟩
  · rw [decide_eq_false (by omega)]; exact ⟨fun e => absurd e (by decide), fun e => absurd e h⟩

theorem word_lt (a b : ℕ) (ha : a < 2 ^ 31) (hb : b < 2 ^ 31) :
    IntOp.cmpi .slt (BitVec.ofNat 32 a) (BitVec.ofNat 32 b) = 1#1 ↔ a < b := by
  show BitVec.ofBool (decide ((BitVec.ofNat 32 a).toInt < (BitVec.ofNat 32 b).toInt)) = 1#1 ↔ _
  rw [toInt_ofNat a ha, toInt_ofNat b hb]
  by_cases h : a < b
  · rw [decide_eq_true (by omega)]; exact ⟨fun _ => h, fun _ => rfl⟩
  · rw [decide_eq_false (by omega)]; exact ⟨fun e => absurd e (by decide), fun e => absurd e h⟩

theorem triangle_apply (a b : Fin 128) : (triangle (F := Ideal) (ix2 a b) : EReal) = if a ≤ b then 1 else 0 := by
  refine (asNum_apply _ _).trans ?_
  refine if_congr ?_ rfl rfl
  pointwise
  exact (word_le _ _ (by omega) (by omega)).trans Fin.le_def.symm

theorem triangleStrict_apply (a b : Fin 32) : (triangleStrict (F := Ideal) (ix2 a b) : EReal) = if a < b then 1 else 0 := by
  refine (asNum_apply _ _).trans ?_
  refine if_congr ?_ rfl rfl
  pointwise
  exact (word_lt _ _ (by omega) (by omega)).trans Fin.lt_def.symm

/-- A row of zeros and ones that marks the columns with `p`. -/
def Marks (x : FVec Ideal S256x4096 .f32) (r : Fin 256) (p : ℕ → Prop) [DecidablePred p] : Prop :=
  ∀ m : Fin 4096, (x (ix2 r m) : EReal) = if p m.val then 1 else 0

variable {x : FVec Ideal S256x4096 .f32} {r : Fin 256} {p : ℕ → Prop} [DecidablePred p]

/-- The number of marked columns among the first `j` of window `n`. -/
abbrev inWindow (p : ℕ → Prop) [DecidablePred p] (n j : ℕ) : ℕ := Nat.count (fun k => p (128 * n + k)) j

theorem count_window (p : ℕ → Prop) [DecidablePred p] (n j : ℕ) : Nat.count p (128 * n + j) = Nat.count p (128 * n) + inWindow p n j :=
  Nat.count_add p (128 * n) j

theorem running_apply (hx : Marks x r p) (n : ℕ) (hn : n < 32) (l : Fin 128) :
    (running x n (ix2 r l) : EReal) = num (inWindow p n (l.val + 1)) := by
  have h1 : (running x n (ix2 r l) : EReal) = ∑ k : Fin 128, if p (128 * n + k.val) ∧ k ≤ l then (1 : EReal) else 0 := by
    unfold running
    pointwise
    refine Finset.sum_congr rfl fun k _ => ?_
    rw [window_apply x n r k hn, triangle_apply, hx]
    by_cases ha : p (128 * n + k.val) <;> by_cases hb : k ≤ l <;> simp [ha, hb]
  rw [h1, sum_flags]
  unfold inWindow
  rw [count_eq_card _ (l.val + 1) (n := 128) (by omega)]
  congr 2
  ext k
  simp only [Finset.mem_filter, Finset.mem_univ, true_and, Fin.le_def]
  exact ⟨fun h => ⟨Nat.lt_succ_of_le h.2, h.1⟩, fun h => ⟨h.2, Nat.le_of_lt_succ h.1⟩⟩

theorem totals_apply (hx : Marks x r p) (n : Fin 32) : (totals x (ix2 r n) : EReal) = num (inWindow p n.val 128) := by
  unfold totals
  rw [columns_apply _ _ r n]
  rw [show (extractStridedSlice S256x1 ![0, 127] (running x n.val) slices_S256x128_o0_127_S256x1) (ix2 r 0)
    = running x n.val (ix2 r 127) from by pointwise, running_apply hx n.val n.isLt]
  rfl

theorem sum_inWindow (p : ℕ → Prop) [DecidablePred p] (n : ℕ) :
    ∑ k ∈ Finset.range n, inWindow p k 128 = Nat.count p (128 * n) := by
  induction n with
  | zero => rfl
  | succ n ih => rw [Finset.sum_range_succ, ih, ← count_window p n 128]; rfl

theorem before_apply (hx : Marks x r p) (n : Fin 32) : (before x (ix2 r n) : EReal) = num (Nat.count p (128 * n.val)) := by
  have h1 : (before x (ix2 r n) : EReal) = ∑ k : Fin 32, if k < n then num (inWindow p k.val 128) else 0 := by
    unfold before
    pointwise
    refine Finset.sum_congr rfl fun k _ => ?_
    rw [totals_apply hx, triangleStrict_apply]
    by_cases hb : k < n <;> simp [hb]
  rw [h1, ← Finset.sum_filter, sum_num, ← sum_inWindow]
  congr 1
  refine Finset.sum_bij (fun k _ => k.val) ?_ ?_ ?_ ?_
  · intro k hk; exact Finset.mem_range.mpr (Finset.mem_filter.mp hk).2
  · intro a _ b _ h; exact Fin.ext h
  · intro b hb
    have hb' : b < n.val := Finset.mem_range.mp hb
    exact ⟨⟨b, by omega⟩, Finset.mem_filter.mpr ⟨Finset.mem_univ _, hb'⟩, rfl⟩
  · intro k _; rfl

end Cert.Counts

end
-- ==== Proof.Select.lean ====
/-
  The mask at an index: it marks exactly the 128 candidates of a row that come first when the row's products are sorted
  from the greatest, equal ones by column.
-/
module

public import proofs.«01_k».proof.Proof.Counts

@[expose] public section

set_option maxRecDepth 16384

noncomputable section

namespace Cert.Select

open Idealize.ShloMosaic Cert.KernelIdeal Cert.KernelIdeal.Gen Cert.Block Cert.Order Cert.Keys Cert.Reads Cert.Counts

variable (key : IVec S256x4096 32) (t : IVec S256x1 32) (r : Fin 256) (m : Fin 4096)

theorem gt_apply : k0_pay11 key t (ix2 r m) = 1#1 ↔ (t (ix2 r 0)).toNat < (key (ix2 r m)).toNat := by
  unfold k0_pay11
  pointwise
  show BitVec.ofBool ((t (ix2 r 0)).ult (key (ix2 r m))) = 1#1 ↔ _
  rw [BitVec.ult]
  by_cases h : (t (ix2 r 0)).toNat < (key (ix2 r m)).toNat
  · rw [decide_eq_true h]; exact ⟨fun _ => h, fun _ => rfl⟩
  · rw [decide_eq_false h]; exact ⟨fun e => absurd e (by decide), fun e => absurd e h⟩

theorem eq_apply : k0_pay12 key t (ix2 r m) = 1#1 ↔ (key (ix2 r m)).toNat = (t (ix2 r 0)).toNat := by
  unfold k0_pay12
  pointwise
  show BitVec.ofBool (key (ix2 r m) == t (ix2 r 0)) = 1#1 ↔ _
  rw [← BitVec.toNat_inj.symm]
  by_cases h : key (ix2 r m) = t (ix2 r 0)
  · rw [beq_iff_eq.mpr h]; exact ⟨fun _ => h, fun _ => rfl⟩
  · rw [beq_eq_false_iff_ne.mpr h]; exact ⟨fun e => absurd e (by decide), fun e => absurd e h⟩

/-- How many of the keys at the threshold are still wanted. -/
theorem wanted_apply (h : (Finset.univ.filter fun m : Fin 4096 => (t (ix2 r 0)).toNat < (key (ix2 r m)).toNat).card < 128) :
    (k0_pay13 (F := Ideal) key t (ix2 r 0) : EReal)
      = num (128 - (Finset.univ.filter fun m : Fin 4096 => (t (ix2 r 0)).toNat < (key (ix2 r m)).toNat).card) := by
  have hc := above_apply key t r
  show ((BitVec.toInt (128#32 - shapeCast S256x1 (multiReductionI .add [1] S256 (extui 32 (k0_pay11 key t) natLt_1_32)
      0#32 reduces_S256x4096_S256 rfl) shapeCasts_S256_S256x1 (ix2 r 0)) : ℝ) : EReal) = _
  rw [← hc] at h ⊢
  generalize shapeCast S256x1 _ _ _ = c at h ⊢
  have : (128#32 - c).toInt = ((128 - c.toNat : ℕ) : ℤ) := by
    have e : 128#32 - c = BitVec.ofNat 32 (128 - c.toNat) := by
      apply BitVec.eq_of_toNat_eq
      rw [BitVec.toNat_sub, BitVec.toNat_ofNat, BitVec.toNat_ofNat]
      omega
    rw [e, toInt_ofNat _ (by omega)]
  rw [this]
  unfold num
  simp

/-- The keys at the threshold as zeros and ones. -/
theorem marks_eq : Marks (k0_pay14 (F := Ideal) key t) r
    (fun l => ∃ h : l < 4096, (key (ix2 r ⟨l, h⟩)).toNat = (t (ix2 r 0)).toNat) := by
  intro m
  refine (asNum_apply (k0_pay12 key t) (ix2 r m)).trans (if_congr ?_ rfl rfl)
  rw [eq_apply]
  exact ⟨fun h => ⟨m.isLt, h⟩, fun ⟨_, h⟩ => h⟩

theorem flags_or (a b : BitVec 1) : a ||| b = 1#1 ↔ a = 1#1 ∨ b = 1#1 := by revert a b; decide

theorem flags_and (a b : BitVec 1) : a &&& b = 1#1 ↔ a = 1#1 ∧ b = 1#1 := by revert a b; decide

/-- The mask at a column: above the threshold, or at the threshold while the count up to the column is still wanted. -/
theorem mask_apply (gt eq : IVec S256x4096 1) (rest : FVec Ideal S256x1 .f32) (eqf : FVec Ideal S256x4096 .f32)
    (p : ℕ → Prop) [DecidablePred p] (hx : Marks eqf r p) (K : ℕ) (hK : (rest (ix2 r 0) : EReal) = num K) :
    mask gt eq rest eqf (ix2 r m) = 1#1 ↔ gt (ix2 r m) = 1#1 ∨ (eq (ix2 r m) = 1#1 ∧ Nat.count p (m.val + 1) ≤ K) := by
  have hn : m.val / 128 < 32 := by omega
  have hm : 128 * (m.val / 128) + m.val % 128 = m.val := Nat.div_add_mod _ _
  have hm' : (⟨128 * (m.val / 128) + m.val % 128, by omega⟩ : Fin 4096) = m := Fin.ext hm
  unfold mask
  rw [windows_apply]
  show (window gt (m.val / 128) (ix2 r _) ||| (window eq (m.val / 128) (ix2 r _) &&& BitVec.ofBool (decide
    ((running eqf (m.val / 128) (ix2 r ⟨m.val % 128, _⟩) : EReal)
      + broadcastTo S256x128 (column (before eqf) (m.val / 128)) broadcasts_S256x1_S256x128 (ix2 r ⟨m.val % 128, _⟩)
      ≤ broadcastTo S256x128 rest broadcasts_S256x1_S256x128 (ix2 r ⟨m.val % 128, _⟩))))) = 1#1 ↔ _
  rw [flags_or, flags_and, flag_le, window_apply _ _ _ _ hn, window_apply _ _ _ _ hn]
  rw [show ∀ y : FVec Ideal S256x1 .f32, broadcastTo S256x128 y broadcasts_S256x1_S256x128 (ix2 r ⟨m.val % 128, Nat.mod_lt _ (by decide)⟩)
    = y (ix2 r 0) from fun y => by pointwise]
  rw [show ∀ y : FVec Ideal S256x1 .f32, broadcastTo S256x128 y broadcasts_S256x1_S256x128 (ix2 r ⟨m.val % 128, Nat.mod_lt _ (by decide)⟩)
    = y (ix2 r 0) from fun y => by pointwise]
  rw [column_apply _ _ _ _ hn, before_apply hx, running_apply hx _ hn, hK, num_add, num_le]
  simp only [hm']
  rw [add_comm, ← count_window, ← add_assoc, hm]

/-- The mask marks the 128 candidates that come first. -/
theorem chosen_apply (x0 : Vec Ideal S1x128x256 .f32) (x1 : Vec Ideal S1x128x4096 .f32) (r : Fin 256) :
    Marks (chosen (keys x0 x1) (threshold (keys x0 x1))) r (Chosen (α := EReal) (rowOf (corr x0 x1) r) 128) := by
  intro m
  refine (asNum_apply _ _).trans (if_congr ?_ rfl rfl)
  have ht := threshold_apply (keys x0 x1) r
  have hkey : ∀ m, (keys x0 x1 (ix2 r m)).toNat = rank (α := EReal) (rowOf (corr x0 x1) r) m := fun m => by
    rw [keys_apply, BitVec.toNat_ofNat, Nat.mod_eq_of_lt]
    exact lt_of_le_of_lt (rank_le _ _) (by decide)
  rw [mask_apply r m _ _ _ _ _ (marks_eq _ _ r) _ (wanted_apply _ _ r ht.2), gt_apply, eq_apply]
  generalize (threshold (keys x0 x1) (ix2 r 0)).toNat = T at ht ⊢
  simp only [hkey] at ht ⊢
  rw [count_eq_card _ (m.val + 1) (n := 4096) (by omega)]
  have hplace := place_lt_iff (α := EReal) (rowOf (corr x0 x1) r) 128 T ht.1 ht.2 m
  have hch : Chosen (α := EReal) (rowOf (corr x0 x1) r) 128 m.val ↔ place (α := EReal) (rowOf (corr x0 x1) r) m < 128 :=
    ⟨fun ⟨_, h⟩ => h, fun h => ⟨m.isLt, h⟩⟩
  rw [hch, hplace]
  refine or_congr Iff.rfl (and_congr Iff.rfl ?_)
  have e : (Finset.univ.filter fun l : Fin 4096 => l.val < m.val + 1 ∧ ∃ h : l.val < 4096, rank (α := EReal) (rowOf (corr x0 x1) r) ⟨l.val, h⟩ = T)
      = Finset.univ.filter fun l : Fin 4096 => l ≤ m ∧ rank (α := EReal) (rowOf (corr x0 x1) r) l = T := by
    ext l
    simp only [Finset.mem_filter, Finset.mem_univ, true_and, Fin.le_def]
    exact ⟨fun h => ⟨Nat.le_of_lt_succ h.1, h.2.2⟩, fun h => ⟨Nat.lt_succ_of_le h.1, l.isLt, h.2⟩⟩
  rw [e]
  have := ht.2
  omega

end Cert.Select

end
-- ==== Proof.Places.lean ====
/-
  The positions of the chosen candidates: slot `k` of a row finds the window and the column of the `k`-th chosen candidate
  in column order, so that the gather reads that candidate's entry.
-/
module

public import proofs.«01_k».proof.Proof.Counts

@[expose] public section

set_option maxRecDepth 16384

noncomputable section

namespace Cert.Places

open Idealize.ShloMosaic Cert.KernelIdeal Cert.KernelIdeal.Gen Cert.Block Cert.Order Cert.Keys Cert.Reads Cert.Counts

/-! ## Numbers -/

/-- One step of the search for a column below 128: the bit is kept where the column is not yet passed. -/
def bitStep (L b loc : ℕ) : ℕ := if loc ||| 2 ^ b < L then loc ||| 2 ^ b else loc

/-- The search over the seven bits and the last step find the column. -/
theorem bits_find (L : ℕ) (hL : L < 128) :
    let loc := steps 7 0 fun i loc => bitStep L (6 - i) loc
    loc < 128 ∧ loc + (if loc < L then 1 else 0) = L := by
  revert L; decide

theorem bits_lt (b loc : ℕ) (hb : b < 7) (hloc : loc < 128) : loc ||| 2 ^ b < 128 :=
  Nat.or_lt_two_pow (n := 7) hloc (Nat.pow_lt_pow_right (by decide) hb)

theorem bitStep_lt (L b loc : ℕ) (hb : b < 7) (hloc : loc < 128) : bitStep L b loc < 128 := by
  unfold bitStep
  split
  · exact bits_lt b loc hb hloc
  · exact hloc

variable (p : ℕ → Prop) [DecidablePred p] {q k : ℕ}

/-- A prefix holds at most `k` marked columns exactly when it ends at or before the `k`-th. -/
theorem count_le_iff (hp : p q) (hq : Nat.count p q = k) (m : ℕ) : Nat.count p m ≤ k ↔ m ≤ q := by
  constructor
  · intro h
    by_contra hlt
    have h1 : Nat.count p (q + 1) ≤ Nat.count p m := Nat.count_monotone p (by omega)
    rw [Nat.count_succ, if_pos hp] at h1
    omega
  · intro h
    rw [← hq]
    exact Nat.count_monotone p h

/-- The number of windows that end at or before `q`, among the first `n`. -/
theorem windows_ended (hp : p q) (hq : Nat.count p q = k) (n : ℕ) (hn : n ≤ 32) (hq' : q < 4096) :
    steps n 0 (fun i acc => acc + if Nat.count p (128 * (i + 1)) ≤ k then 1 else 0) = min n (q / 128) := by
  induction n with
  | zero => exact (Nat.zero_min _).symm
  | succ n ih =>
    rw [steps_succ, ih (by omega)]
    simp only [count_le_iff p hp hq]
    split <;> omega

/-- The `k`-th marked column inside its window. -/
theorem inWindow_le_iff (hp : p q) (hq : Nat.count p q = k) (j : ℕ) :
    inWindow p (q / 128) j ≤ k - Nat.count p (128 * (q / 128)) ↔ j ≤ q % 128 := by
  have h1 := count_window p (q / 128) j
  have h2 : Nat.count p (128 * (q / 128)) ≤ k := (count_le_iff p hp hq _).mpr (by omega)
  have h3 := count_le_iff p hp hq (128 * (q / 128) + j)
  omega

/-! ## The positions -/

variable {x : FVec Ideal S256x4096 .f32} {r : Fin 256} {p} (kk : Fin 128)

theorem slots_apply (r : Fin 256) (kk : Fin 128) : (slots (F := Ideal) (ix2 r kk) : EReal) = num kk.val := by
  show (((iota .tc S256x128 32 [1] iota_S256x128_d1_w32 (ix2 r kk)).toInt : ℝ) : EReal) = _
  rw [show iota .tc S256x128 32 [1] iota_S256x128_d1_w32 (ix2 r kk) = BitVec.ofNat 32 kk.val from by pointwise, toInt_ofNat _ (by omega)]
  unfold num; simp

theorem flag_num (a b : ℕ) : BitVec.setWidth 32 (BitVec.ofBool (decide (num a ≤ num b))) = BitVec.ofNat 32 (if a ≤ b then 1 else 0) := by
  by_cases h : a ≤ b
  · rw [decide_eq_true ((num_le a b).mpr h), if_pos h]; rfl
  · rw [decide_eq_false (fun e => h ((num_le a b).mp e)), if_neg h]; rfl

/-- The window of a slot. -/
theorem windowOf_apply (hx : Marks x r p) (hp : p q) (hq : Nat.count p q = kk.val) (hq' : q < 4096) :
    windowOf x (ix2 r kk) = BitVec.ofNat 32 (q / 128) := by
  have key : ∀ n ≤ 32, steps n (broadcast S256x128 0#32) (fun i acc =>
      addi acc (extui 32 (cmpf .ole (broadcastTo S256x128 (column (addf (before x) (totals x)) i) broadcasts_S256x1_S256x128)
        (slots (F := Ideal))) natLt_1_32)) (ix2 r kk)
      = BitVec.ofNat 32 (steps n 0 (fun i acc => acc + if Nat.count p (128 * (i + 1)) ≤ kk.val then 1 else 0)) := by
    intro n hn
    induction n with
    | zero => rfl
    | succ n ih =>
      rw [steps_succ, steps_succ, BitVec.ofNat_add, ← ih (by omega), ← flag_num]
      show _ + BitVec.setWidth 32 (BitVec.ofBool (decide ((broadcastTo S256x128 (column (addf (before x) (totals x)) n)
        broadcasts_S256x1_S256x128 (ix2 r kk) : EReal) ≤ slots (F := Ideal) (ix2 r kk)))) = _
      have hb : (broadcastTo S256x128 (column (addf (before x) (totals x)) n) broadcasts_S256x1_S256x128 (ix2 r kk) : EReal)
          = num (Nat.count p (128 * (n + 1))) := by
        rw [show broadcastTo S256x128 (column (addf (before x) (totals x)) n) broadcasts_S256x1_S256x128 (ix2 r kk)
          = column (addf (before x) (totals x)) n (ix2 r 0) from by pointwise, column_apply _ _ _ _ (by omega)]
        show (before x (ix2 r ⟨n, _⟩) : EReal) + totals x (ix2 r ⟨n, _⟩) = _
        rw [before_apply hx, totals_apply hx, num_add, ← count_window]
        rfl
      rw [hb, slots_apply]
  refine (key 32 le_rfl).trans ?_
  rw [windows_ended p hp hq 32 le_rfl hq', Nat.min_eq_right (by omega)]

/-- The number of a slot inside its window. -/
theorem slotIn_apply (hx : Marks x r p) (hp : p q) (hq : Nat.count p q = kk.val) (hq' : q < 4096) :
    (slotIn x (ix2 r kk) : EReal) = num (kk.val - Nat.count p (128 * (q / 128))) := by
  have hle : Nat.count p (128 * (q / 128)) ≤ kk.val := (count_le_iff p hp hq _).mpr (by omega)
  have hw : q / 128 < 32 := by omega
  rw [← num_sub _ _ hle]
  show (slots (F := Ideal) (ix2 r kk) : EReal) - choose _ _ _ (ix2 r kk) = _
  rw [slots_apply, choose_apply _ _ _ _ (q / 128) hw (windowOf_apply kk hx hp hq hq')]
  refine congrArg (num kk.val - ·) ?_
  have hb : broadcastTo S256x128 (shapeCast S256x1 (column (before x) (q / 128)) shapeCasts_S256x1_S256x1) broadcasts_S256x1_S256x128 (ix2 r kk)
    = column (before x) (q / 128) (ix2 r 0) := by pointwise
  refine hb.trans ?_
  rw [column_apply _ _ _ _ hw]
  exact before_apply hx ⟨q / 128, hw⟩

/-- The running sum of a slot's window at a column. -/
theorem pick_running (hx : Marks x r p) (hp : p q) (hq : Nat.count p q = kk.val) (hq' : q < 4096) (loc : IVec S256x128 32)
    (l : ℕ) (hl : l < 128) (el : loc (ix2 r kk) = BitVec.ofNat 32 l) :
    (pick (stack (running x)) (windowOf x) loc (ix2 r kk) : EReal) = num (inWindow p (q / 128) (l + 1)) := by
  have hw : q / 128 < 32 := by omega
  rw [pick_apply _ _ _ _ _ (q / 128) l hw hl (windowOf_apply kk hx hp hq hq') el, stack_apply]
  exact running_apply hx (q / 128) hw ⟨l, hl⟩

theorem searchStep_at (st : FVec Ideal S32x256x128 .f32) (win : IVec S256x128 32) (nums : FVec Ideal S256x128 .f32) (b : ℕ)
    (loc : IVec S256x128 32) (j : S256x128.Idx) : searchStep st win nums b loc j
      = Scalar.select (BitVec.ofBool (decide ((pick st win (ori loc (broadcast S256x128 (BitVec.ofNat 32 (2 ^ b)))) j : EReal) ≤ nums j)))
        (ori loc (broadcast S256x128 (BitVec.ofNat 32 (2 ^ b))) j) (loc j) := rfl

theorem ori_word (loc : IVec S256x128 32) (j : S256x128.Idx) (l b : ℕ) (el : loc j = BitVec.ofNat 32 l) :
    ori loc (broadcast S256x128 (BitVec.ofNat 32 b)) j = BitVec.ofNat 32 (l ||| b) :=
  (congrArg (· ||| BitVec.ofNat 32 b) el).trans BitVec.ofNat_or.symm

theorem searchStep_apply (hx : Marks x r p) (hp : p q) (hq : Nat.count p q = kk.val) (hq' : q < 4096) (loc : IVec S256x128 32)
    (b l : ℕ) (hb : b < 7) (hl : l < 128) (el : loc (ix2 r kk) = BitVec.ofNat 32 l) :
    searchStep (stack (running x)) (windowOf x) (slotIn x) b loc (ix2 r kk) = BitVec.ofNat 32 (bitStep (q % 128) b l) := by
  have hor := ori_word loc (ix2 r kk) l (2 ^ b) el
  rw [searchStep_at, select_flag, pick_running kk hx hp hq hq' _ _ (bits_lt b l hb hl) hor, slotIn_apply kk hx hp hq hq', hor, el]
  unfold bitStep
  rw [apply_ite (BitVec.ofNat 32)]
  refine if_congr ?_ rfl rfl
  rw [decide_eq_true_eq, num_le, inWindow_le_iff p hp hq, Nat.succ_le_iff]

theorem columnOf_at (st : FVec Ideal S32x256x128 .f32) (win : IVec S256x128 32) (nums : FVec Ideal S256x128 .f32) (j : S256x128.Idx) :
    columnOf st win nums j = search st win nums j
      + BitVec.setWidth 32 (BitVec.ofBool (decide ((pick st win (search st win nums) j : EReal) ≤ nums j))) := rfl

theorem search_apply (hx : Marks x r p) (hp : p q) (hq : Nat.count p q = kk.val) (hq' : q < 4096) :
    search (stack (running x)) (windowOf x) (slotIn x) (ix2 r kk)
      = BitVec.ofNat 32 (steps 7 0 fun i loc => bitStep (q % 128) (6 - i) loc) := by
  have key : ∀ n ≤ 7, steps n 0 (fun i loc => bitStep (q % 128) (6 - i) loc) < 128 ∧
      steps n (broadcast S256x128 0#32) (fun i loc => searchStep (stack (running x)) (windowOf x) (slotIn x) (6 - i) loc) (ix2 r kk)
        = BitVec.ofNat 32 (steps n 0 fun i loc => bitStep (q % 128) (6 - i) loc) := by
    intro n hn
    induction n with
    | zero => exact ⟨Nat.zero_lt_succ _, rfl⟩
    | succ n ih =>
      obtain ⟨h1, h2⟩ := ih (by omega)
      rw [steps_succ, steps_succ]
      exact ⟨bitStep_lt _ _ _ (by omega) h1, searchStep_apply kk hx hp hq hq' _ (6 - n) _ (by omega) h1 h2⟩
  exact (key 7 le_rfl).2

/-- The column of a slot. -/
theorem columnOf_apply (hx : Marks x r p) (hp : p q) (hq : Nat.count p q = kk.val) (hq' : q < 4096) :
    columnOf (stack (running x)) (windowOf x) (slotIn x) (ix2 r kk) = BitVec.ofNat 32 (q % 128) := by
  have hs := search_apply kk hx hp hq hq'
  have hf := bits_find (q % 128) (Nat.mod_lt _ (by decide))
  generalize steps 7 0 (fun i loc => bitStep (q % 128) (6 - i) loc) = l at hs hf
  rw [columnOf_at, pick_running kk hx hp hq hq' _ _ hf.1 hs, slotIn_apply kk hx hp hq hq', flag_num, hs, ← BitVec.ofNat_add]
  simp only [inWindow_le_iff p hp hq, Nat.succ_le_iff]
  exact congrArg (BitVec.ofNat 32) hf.2

/-- The gather reads the `k`-th chosen candidate's entry. -/
theorem take_chosen (hx : Marks x r p) (hp : p q) (hq : Nat.count p q = kk.val) (hq' : q < 4096) (y : FVec Ideal S256x4096 .f32) :
    take y (windowOf x) (columnOf (stack (running x)) (windowOf x) (slotIn x)) (ix2 r kk) = y (ix2 r ⟨q, hq'⟩) := by
  rw [take_apply y _ _ r kk (q / 128) (q % 128) (by omega) (Nat.mod_lt _ (by decide)) (windowOf_apply kk hx hp hq hq')
    (columnOf_apply kk hx hp hq hq')]
  exact congrArg y (congrArg (ix2 r) (Fin.ext (Nat.div_add_mod _ _)))

end Cert.Places

end
-- ==== Proof.Model.lean ====
/-
  The mathematics of the first layer, in plain terms: a point has 128 chosen candidates, each with a product and a position;
  the candidates near the point fall into 27 cells, and a feature is the mean product of a cell, at three cell sizes.
-/
module

public import proofs.«01_k».proof.Proof.Order
public import Idealize.ShloMosaic.PureOps.Ideal

@[expose] public section

noncomputable section

namespace Cert.Model

open Idealize.ShloMosaic Cert.Order

/-- A float constant's value. -/
def lit (b : BitVec 32) : EReal := Ideal.ofBits .f32 b

/-- A point or a candidate's position. -/
structure Place where
  x : EReal
  y : EReal
  z : EReal

/-- A candidate: its product with the point and its position. -/
structure Entry where
  val : EReal
  at' : Place

/-- The rounded offset of one coordinate, in cells. -/
def off (size t c : EReal) : EReal := Ideal.liftRound Ideal.roundHalfEven (Ideal.div (t - c) size)

/-- An offset of at most one cell. -/
def Near (d : EReal) : Prop := max d (-d) ≤ 1

/-- All three offsets are at most one cell. -/
def Ok (dx dy dz : EReal) : Prop := Near dx ∧ Near dy ∧ Near dz

/-- The number of the cell of an offset. -/
def number (dx dy dz : EReal) : BitVec 32 :=
  Ideal.fptosi 32 ((dx + 1) * lit 0x41100000#32 + (dy + 1) * lit 0x40400000#32
    + (dz + 1))

open Classical in
/-- A candidate's weight from its offsets: one if it is near, else nothing. -/
def weightAt (dx dy dz : EReal) : EReal := if Ok dx dy dz then 1 else 0

open Classical in
/-- A candidate's cell from its offsets, 0 if it is not near. -/
def cellAt (dx dy dz : EReal) : BitVec 32 := if Ok dx dy dz then number dx dy dz else 0#32

/-- A candidate's weight at a point. -/
def weight (size : EReal) (c : Place) (e : Entry) : EReal := weightAt (off size e.at'.x c.x) (off size e.at'.y c.y) (off size e.at'.z c.z)

/-- A candidate's cell at a point. -/
def cellOf (size : EReal) (c : Place) (e : Entry) : BitVec 32 := cellAt (off size e.at'.x c.x) (off size e.at'.y c.y) (off size e.at'.z c.z)

/-- What a candidate adds to the sum of products of cell `o`. -/
def share (size : EReal) (c : Place) (o : ℕ) (e : Entry) : EReal :=
  if cellOf size c e = BitVec.ofNat 32 o then e.val * weight size c e else 0

/-- What a candidate adds to the count of cell `o`. -/
def tally (size : EReal) (c : Place) (o : ℕ) (e : Entry) : EReal :=
  if cellOf size c e = BitVec.ofNat 32 o then weight size c e else 0

/-- The mean product of cell `o`, the count taken between 1 and 4096. -/
def mean (size : EReal) (c : Place) (es : Fin 128 → Entry) (o : ℕ) : EReal :=
  Ideal.div (∑ k, share size c o (es k)) (min (lit 0x45800000#32) (max 1 (∑ k, tally size c o (es k))))

/-- The 81 features of a point, and zeros after them. -/
def feature (c : Place) (es : Fin 128 → Entry) (f : ℕ) : EReal :=
  if f < 27 then mean (lit 0x3E800000#32) c es f
  else if f < 54 then mean (lit 0x3F000000#32) c es (f - 27)
  else if f < 81 then mean (lit 0x3F800000#32) c es (f - 54)
  else 0

/-- The features do not depend on the order of the candidates: in column order or in sorted order they are the same. -/
theorem feature_order (x : Fin 4096 → EReal) (c : Place) (e : ℕ → Entry) (f : ℕ) :
    feature c (fun k => e (kth x 128 k.val)) f = feature c (fun k => e (sorted x (k.castLE (by decide))).val) f := by
  have h : ∀ size o, mean size c (fun k => e (kth x 128 k.val)) o = mean size c (fun k => e (sorted x (k.castLE (by decide))).val) o := by
    intro size o
    unfold mean
    rw [sum_kth_eq_sum_sorted x 128 (by decide) (fun m => share size c o (e m)),
      sum_kth_eq_sum_sorted x 128 (by decide) (fun m => tally size c o (e m))]
  unfold feature
  rw [h, h, h]

/-! ## The first layer of the arrays -/

/-- The arrays the first layer depends on: two batches of 4096 points and candidates with 128 channels each, their
    positions, and the layer's weights. -/
structure Arrays where
  f1 : Fin 2 → Fin 128 → Fin 4096 → EReal
  f2 : Fin 2 → Fin 128 → Fin 4096 → EReal
  xyz : Fin 2 → Fin 4096 → Fin 3 → EReal
  crd : Fin 2 → Fin 4096 → Fin 3 → EReal
  w : Fin 128 → Fin 81 → EReal
  b : Fin 128 → EReal

variable (I : Arrays) (b : Fin 2) (n : Fin 4096)

/-- The scaled products of point `n` with all candidates. -/
def score : Fin 4096 → EReal := fun m => (∑ k, I.f1 b k n * I.f2 b k m) * ((Real.sqrt 128)⁻¹ : ℝ)

/-- Candidate `m` as point `n` sees it. -/
def candidate (m : Fin 4096) : Entry := ⟨score I b n m, ⟨I.xyz b m 0, I.xyz b m 1, I.xyz b m 2⟩⟩

/-- The `k`-th candidate of point `n`, the greatest product first. -/
def best (k : Fin 128) : Fin 4096 := sorted (score I b n) (k.castLE (by decide))

/-- Feature `f` of point `n`. -/
def featureOf (f : ℕ) : EReal :=
  feature ⟨I.crd b n 0, I.crd b n 1, I.crd b n 2⟩ (fun k => candidate I b n (best I b n k)) f

/-- Channel `ch` of the first layer at point `n`. -/
def first (ch : Fin 128) : EReal := ∑ f : Fin 81, featureOf I b n f.val * I.w ch f + I.b ch

/-- The sum over the points of channel `ch` of the first layer (`s = 0`), or of its square. -/
def total (s : Fin 2) (ch : Fin 128) : EReal :=
  ∑ n : Fin 4096, if s.val = 0 then first I b n ch else first I b n ch * first I b n ch

end Cert.Model

end
-- ==== Proof.Level.lean ====
/-
  One level of a row block at an index: the sums per cell, taken as a product with the table of bins, are the sums over the
  slots whose cell it is, and their quotient is the mean of the cell.
-/
module

public import proofs.«01_k».proof.Proof.Counts
public import proofs.«01_k».proof.Proof.Model

@[expose] public section

set_option maxRecDepth 16384

noncomputable section

namespace Cert.Level

open Idealize.ShloMosaic Cert.KernelIdeal Cert.KernelIdeal.Gen Cert.Block Cert.Reads Cert.Counts Cert.Keys Cert.Model

theorem select_eq {α : Type} (a b : BitVec 32) (x y : α) : Scalar.select (IntOp.cmpi .eq a b) x y = if a = b then x else y := by
  show Scalar.select (BitVec.ofBool (a == b)) x y = _
  rw [select_flag]
  exact if_congr beq_iff_eq rfl rfl

theorem word_inj (a b : ℕ) (ha : a < 2 ^ 32) (hb : b < 2 ^ 32) : BitVec.ofNat 32 a = BitVec.ofNat 32 b ↔ a = b := by
  refine ⟨fun h => ?_, fun h => by rw [h]⟩
  have := congrArg BitVec.toNat h
  rwa [BitVec.toNat_ofNat, BitVec.toNat_ofNat, Nat.mod_eq_of_lt ha, Nat.mod_eq_of_lt hb] at this

/-! ## Cells of a slot -/

theorem offset_apply (b : BitVec 32) (t : FVec Ideal S256x128 .f32) (c : FVec Ideal S256x1 .f32) (r : Fin 256) (k : Fin 128) :
    (offset b t c (ix2 r k) : EReal) = off (lit b) (t (ix2 r k)) (c (ix2 r 0)) := by
  unfold offset
  pointwise
  rfl

theorem near_apply (d : FVec Ideal S256x128 .f32) (j : S256x128.Idx) : near d j = 1#1 ↔ Near (d j) := by
  unfold near
  pointwise
  exact flag_le _ _

theorem valid_apply (dx dy dz : FVec Ideal S256x128 .f32) (j : S256x128.Idx) :
    valid dx dy dz j = 1#1 ↔ Ok (dx j) (dy j) (dz j) := by
  have h : ∀ a b c : BitVec 1, a &&& b &&& c = 1#1 ↔ a = 1#1 ∧ b = 1#1 ∧ c = 1#1 := by decide
  show near dx j &&& near dy j &&& near dz j = 1#1 ↔ _
  rw [h, near_apply, near_apply, near_apply]
  rfl

theorem select_iff {α : Type} {c : BitVec 1} {p : Prop} [Decidable p] (h : c = 1#1 ↔ p) (x y : α) :
    Scalar.select c x y = if p then x else y := if_congr h rfl rfl

open Classical in
theorem cell_apply (dx dy dz : FVec Ideal S256x128 .f32) (j : S256x128.Idx) :
    cell dx dy dz j = cellAt (dx j) (dy j) (dz j) := by
  unfold cell
  pointwise
  exact select_iff (valid_apply dx dy dz j) _ _

open Classical in
theorem weight_apply (dx dy dz : FVec Ideal S256x128 .f32) (j : S256x128.Idx) :
    (asNum (F := Ideal) (valid dx dy dz) j : EReal) = weightAt (dx j) (dy j) (dz j) :=
  (asNum_apply _ j).trans (if_congr (valid_apply dx dy dz j) rfl rfl)

/-! ## The sums per cell -/

theorem spread_apply (c : IVec S256x128 32) (w : FVec Ideal S256x128 .f32) (r : Fin 256) (m : Fin 3456) :
    (spread c w (ix2 r m) : EReal) = if c (ix2 r ⟨m.val % 128, by omega⟩) = BitVec.ofNat 32 (m.val / 128)
      then (w (ix2 r ⟨m.val % 128, by omega⟩) : EReal) else 0 := by
  unfold spread
  rw [spread_pieces_apply]
  pointwise
  exact select_eq _ _ _ _

/-- The row number of the bins' table divided by 128 toward minus infinity, on words. -/
def divided (w : BitVec 32) : BitVec 32 :=
  Scalar.select (IntOp.andi (IntOp.cmpi .ne (IntOp.subi (BitVec.setWidth 32 (IntOp.cmpi .sgt w 0#32))
      (BitVec.setWidth 32 (IntOp.cmpi .slt w 0#32)))
      (Scalar.subi (Scalar.extui (Scalar.cmpi .sgt 128#32 0#32)) (Scalar.extui (Scalar.cmpi .slt 128#32 0#32))))
      (IntOp.cmpi .ne (IntOp.remsi .vector w 128#32) 0#32))
    (IntOp.subi (IntOp.divsi .vector w 128#32) 1#32) (IntOp.divsi .vector w 128#32)

theorem divided_eq : ∀ i : Fin 3456, divided (BitVec.ofNat 32 i.val) = BitVec.ofNat 32 (i.val / 128) := by
  decide +kernel

theorem bins_apply (i : Fin 3456) (o : Fin 27) :
    (k0_pay395 (F := Ideal) (ix2 i o) : EReal) = if i.val / 128 = o.val then 1 else 0 := by
  have h : k0_pay395 (F := Ideal) = asNum (F := Ideal) (cmpi .eq (fun j => divided (iota .tc S3456x27 32 [0] iota_S3456x27_d0_w32 j))
    (iota .tc S3456x27 32 [1] iota_S3456x27_d1_w32)) := rfl
  rw [h, asNum_apply]
  refine if_congr ?_ rfl rfl
  show BitVec.ofBool (divided (iota .tc S3456x27 32 [0] iota_S3456x27_d0_w32 (ix2 i o))
    == iota .tc S3456x27 32 [1] iota_S3456x27_d1_w32 (ix2 i o)) = 1#1 ↔ _
  rw [show iota .tc S3456x27 32 [0] iota_S3456x27_d0_w32 (ix2 i o) = BitVec.ofNat 32 i.val from by pointwise,
    show iota .tc S3456x27 32 [1] iota_S3456x27_d1_w32 (ix2 i o) = BitVec.ofNat 32 o.val from by pointwise, divided_eq,
    ← word_inj _ _ (lt_of_le_of_lt (Nat.div_le_self _ _) (by omega)) (by omega : o.val < 2 ^ 32)]
  generalize BitVec.ofNat 32 (i.val / 128) = a
  generalize BitVec.ofNat 32 o.val = b
  by_cases h : a = b
  · rw [beq_iff_eq.mpr h]; exact ⟨fun _ => h, fun _ => rfl⟩
  · rw [beq_eq_false_iff_ne.mpr h]; exact ⟨fun e => absurd e (by decide), fun e => absurd e h⟩

theorem sums_apply (c : IVec S256x128 32) (w v : FVec Ideal S256x128 .f32) (r : Fin 512) (o : Fin 27) :
    (sums c w v (ix2 r o) : EReal) = ∑ i : Fin 3456, (if h : r.val < 256 then (spread c w (ix2 ⟨r.val, h⟩ i) : EReal)
      else spread c v (ix2 ⟨r.val - 256, by omega⟩ i)) * k0_pay395 (F := Ideal) (ix2 i o) := by
  unfold sums
  pointwise

theorem bin_sum (c : IVec S256x128 32) (w : FVec Ideal S256x128 .f32) (r : Fin 256) (o : Fin 27) :
    ∑ i : Fin 3456, (spread c w (ix2 r i) : EReal) * k0_pay395 (F := Ideal) (ix2 i o)
      = ∑ k : Fin 128, if c (ix2 r k) = BitVec.ofNat 32 o.val then (w (ix2 r k) : EReal) else 0 := by
  rw [← Fin.sum_mul_add_fin 27 128 (fun i : Fin 3456 => (spread c w (ix2 r i) : EReal) * k0_pay395 (F := Ideal) (ix2 i o)),
    Finset.sum_eq_single o]
  · refine Finset.sum_congr rfl fun k _ => ?_
    have h1 : (o.val * 128 + k.val) / 128 = o.val := by omega
    have h2 : (o.val * 128 + k.val) % 128 = k.val := by omega
    rw [bins_apply, if_pos h1, mul_one, spread_apply]
    simp only [h1, h2, Fin.eta]
  · intro a _ ha
    refine Finset.sum_eq_zero fun k _ => ?_
    rw [bins_apply, if_neg (fun e => ha (Fin.ext (by rw [← e]; show a.val = (a.val * 128 + k.val) / 128; omega))), mul_zero]
  · intro h; exact absurd (Finset.mem_univ o) h

/-- One level is the means of the cells. -/
theorem level_apply (b : BitVec 32) (vals tx ty tz : FVec Ideal S256x128 .f32) (cx cy cz : FVec Ideal S256x1 .f32)
    (r : Fin 256) (o : Fin 27) : (level b vals tx ty tz cx cy cz (ix2 r o) : EReal)
      = mean (lit b) ⟨cx (ix2 r 0), cy (ix2 r 0), cz (ix2 r 0)⟩
        (fun k => ⟨vals (ix2 r k), ⟨tx (ix2 r k), ty (ix2 r k), tz (ix2 r k)⟩⟩) o.val := by
  unfold level means
  pointwise
  rw [sums_apply, sums_apply]
  unfold mean
  refine congrArg₂ Ideal.div ?_ (congrArg (min _) (congrArg (max _) ?_))
  · rw [← Finset.sum_congr rfl fun i _ => congrArg (· * k0_pay395 (F := Ideal) (ix2 i o)) (dif_pos r.isLt).symm]
    refine (bin_sum _ _ r o).trans (Finset.sum_congr rfl fun k _ => ?_)
    unfold share cellOf weight
    rw [cell_apply]
    refine if_congr (by simp only [offset_apply]) ?_ rfl
    refine (congrArg ((vals (ix2 r k) : EReal) * ·) (weight_apply _ _ _ (ix2 r k))).trans ?_
    simp only [offset_apply]
  · have hr : ∀ i : Fin 3456, (if h : 256 + r.val < 256 then (spread (cell (offset b tx cx) (offset b ty cy) (offset b tz cz))
        (mulf vals (asNum (F := Ideal) (valid (offset b tx cx) (offset b ty cy) (offset b tz cz)))) (ix2 ⟨256 + r.val, h⟩ i) : EReal)
      else spread (cell (offset b tx cx) (offset b ty cy) (offset b tz cz))
        (asNum (F := Ideal) (valid (offset b tx cx) (offset b ty cy) (offset b tz cz))) (ix2 ⟨256 + r.val - 256, by omega⟩ i))
      = spread (cell (offset b tx cx) (offset b ty cy) (offset b tz cz))
        (asNum (F := Ideal) (valid (offset b tx cx) (offset b ty cy) (offset b tz cz))) (ix2 r i) := fun i => by
      rw [dif_neg (by omega)]
      exact congrArg _ (congrArg (fun a => ix2 a i) (Fin.ext (by show 256 + r.val - 256 = r.val; omega)))
    refine (Finset.sum_congr rfl fun i _ => congrArg (· * k0_pay395 (F := Ideal) (ix2 i o)) (hr i)).trans ?_
    refine (bin_sum _ _ r o).trans (Finset.sum_congr rfl fun k _ => ?_)
    unfold tally cellOf weight
    rw [cell_apply, weight_apply]
    simp only [offset_apply]

end Cert.Level

end
-- ==== Proof.Row.lean ====
/-
  One grid point at an index: entry (channel, point) of a row block's first layer is the layer applied to the features of
  the point, whose candidates are the 128 that come first when all are sorted by their product with the point.
-/
module

public import proofs.«01_k».proof.Proof.Select
public import proofs.«01_k».proof.Proof.Places
public import proofs.«01_k».proof.Proof.Level

@[expose] public section

set_option maxRecDepth 16384

noncomputable section

namespace Cert.Row

open Idealize.ShloMosaic Cert.KernelIdeal Cert.KernelIdeal.Gen Cert.Block Cert.Order Cert.Reads Cert.Counts Cert.Keys Cert.Model

variable (x0 : Vec Ideal S1x128x256 .f32) (x1 : Vec Ideal S1x128x4096 .f32) (x2 : Vec Ideal S1x8x4096 .f32)
  (x3 : Vec Ideal S1x8x256 .f32) (x4 : Vec Ideal S128x128 .f32) (x5 : Vec Ideal S1x128 .f32)

/-- The products of point `r` of the row block with every candidate, scaled by the inverse root of 128. -/
def scores (r : Fin 256) : Fin 4096 → EReal :=
  fun m => (∑ k : Fin 128, (x0 (ix3 0 k r) : EReal) * x1 (ix3 0 k m)) * ((Real.sqrt 128)⁻¹ : ℝ)

theorem corr_apply (r : Fin 256) (m : Fin 4096) : (corr (F := Ideal) x0 x1 (ix2 r m) : EReal) = scores x0 x1 r m := by
  unfold corr k0_pay5
  pointwise
  rfl

/-- Candidate `m` as point `r` sees it. -/
def entry (r : Fin 256) (m : Fin 4096) : Entry := ⟨scores x0 x1 r m, ⟨x2 (ix3 0 0 m), x2 (ix3 0 1 m), x2 (ix3 0 2 m)⟩⟩

/-- Point `r` of the row block. -/
def point (r : Fin 256) : Place := ⟨x3 (ix3 0 0 r), x3 (ix3 0 1 r), x3 (ix3 0 2 r)⟩

theorem row_apply (k : Fin 8) (r : Fin 256) (m : Fin 4096) : (coordRow (F := Ideal) (row x2 k) (ix2 r m) : EReal) = x2 (ix3 0 k m) := by
  unfold coordRow
  pointwise
  unfold row View.ld
  refine congrArg x2 (funext fun a => Fin.ext ?_)
  match a with
  | ⟨0, _⟩ => rfl
  | ⟨1, _⟩ => exact (by omega : k.val + 1 * 0 = k.val)
  | ⟨2, _⟩ => exact (by omega : 0 + 1 * m.val = m.val)

theorem cx_apply (r : Fin 256) : (k0_pay392 (F := Ideal) x3 (ix2 r 0) : EReal) = x3 (ix3 0 0 r) := by
  unfold k0_pay392 k0_pay391
  pointwise

theorem cy_apply (r : Fin 256) : (k0_pay393 (F := Ideal) x3 (ix2 r 0) : EReal) = x3 (ix3 0 1 r) := by
  unfold k0_pay393 k0_pay391
  pointwise

theorem cz_apply (r : Fin 256) : (k0_pay394 (F := Ideal) x3 (ix2 r 0) : EReal) = x3 (ix3 0 2 r) := by
  unfold k0_pay394 k0_pay391
  pointwise

theorem layer_apply (vox : FVec Ideal S256x128 .f32) (ch : Fin 128) (r : Fin 256) :
    (layer vox x4 x5 (ix2 ch r) : EReal) = ∑ f : Fin 128, (vox (ix2 r f) : EReal) * x4 (ix2 ch f) + x5 (ix2 0 ch) := by
  unfold layer
  pointwise

/-- The three levels side by side are the features. -/
theorem features_apply (l0 l1 l2 : FVec Ideal S256x27 .f32) (c : Place) (es : Fin 128 → Entry) (r : Fin 256)
    (h0 : ∀ o : Fin 27, (l0 (ix2 r o) : EReal) = mean (lit 0x3E800000#32) c es o.val)
    (h1 : ∀ o : Fin 27, (l1 (ix2 r o) : EReal) = mean (lit 0x3F000000#32) c es o.val)
    (h2 : ∀ o : Fin 27, (l2 (ix2 r o) : EReal) = mean (lit 0x3F800000#32) c es o.val) (f : Fin 128) :
    (features (F := Ideal) l0 l1 l2 (ix2 r f) : EReal) = feature c es f.val := by
  unfold features
  pointwise
  unfold feature
  by_cases a : f.val < 27
  · rw [dif_pos (by omega), dif_pos a, if_pos a, h0]
  · by_cases b : f.val < 54
    · rw [dif_pos (by omega), dif_neg a, dif_pos (by omega), if_neg a, if_pos b, h1]
    · by_cases d : f.val < 81
      · rw [dif_pos d, dif_neg a, dif_neg (by omega), if_neg a, if_neg b, if_pos d, h2]
        congr 1
      · rw [dif_neg d, if_neg a, if_neg b, if_neg d]

/-- The features of a row block. -/
theorem blockFeatures_apply (r : Fin 256) (f : Fin 128) :
    (blockFeatures (F := Ideal) x0 x1 (row x2 0) (row x2 1) (row x2 2) x3 (ix2 r f) : EReal)
      = feature (point x3 r) (fun k => entry x0 x1 x2 r (sorted (scores x0 x1 r) (k.castLE (by decide)))) f.val := by
  have hrow : rowOf (α := EReal) (corr (F := Ideal) x0 x1) r = scores x0 x1 r := funext fun m => corr_apply x0 x1 r m
  have hx := Select.chosen_apply x0 x1 r
  rw [hrow] at hx
  have hk := fun k : Fin 128 => kth_facts (scores x0 x1 r) 128 (by decide) k.val k.isLt
  have ht := fun (k : Fin 128) (y : FVec Ideal S256x4096 .f32) => Places.take_chosen k hx (hk k).1 (hk k).2.2 (hk k).2.1 y
  have ho := feature_order (scores x0 x1 r) (point x3 r)
    (fun m => if h : m < 4096 then entry x0 x1 x2 r ⟨m, h⟩ else entry x0 x1 x2 r 0) f.val
  simp only [Fin.is_lt, dite_true, Fin.eta] at ho
  rw [← ho]
  have he : (fun k : Fin 128 => if h : kth (scores x0 x1 r) 128 k.val < 4096 then entry x0 x1 x2 r ⟨kth (scores x0 x1 r) 128 k.val, h⟩
      else entry x0 x1 x2 r 0) = fun k : Fin 128 => entry x0 x1 x2 r ⟨kth (scores x0 x1 r) 128 k.val, (hk k).2.1⟩ :=
    funext fun k => dif_pos (hk k).2.1
  rw [he]
  unfold blockFeatures voxels
  refine features_apply _ _ _ _ _ r (fun o => ?_) (fun o => ?_) (fun o => ?_) f <;>
  · refine (Level.level_apply _ _ _ _ _ _ _ _ r o).trans ?_
    simp only [ht, cx_apply, cy_apply, cz_apply, row_apply, corr_apply]
    rfl

/-- The first layer of a row block. -/
theorem blockH_apply (ch : Fin 128) (r : Fin 256) : (blockH (F := Ideal) x0 x1 x2 x3 x4 x5 (ix2 ch r) : EReal)
    = ∑ f : Fin 128, feature (point x3 r) (fun k => entry x0 x1 x2 r (sorted (scores x0 x1 r) (k.castLE (by decide)))) f.val
        * (x4 (ix2 ch f) : EReal) + x5 (ix2 0 ch) := by
  unfold blockH
  rw [layer_apply]
  simp only [blockFeatures_apply]

end Cert.Row

end
-- ==== Proof.Blocks.lean ====
/-
  The blocks of a grid point, read off the arguments: which elements of the arguments each block holds, and the first
  layer that the point computes from them.
-/
module

public import proofs.«01_k».proof.Proof.Row
public import proofs.«01_k».proof.Proof.Gen.KernelIdeal.Frame
public import Idealize.ShloMosaic.Lib.Pipeline.ValueKit

@[expose] public section

set_option maxRecDepth 16384

noncomputable section

namespace Cert.Blocks

open Cert.KernelIdeal Cert.KernelIdeal.Gen Idealize.ShloMosaic Idealize.ShloMosaic.TcCoe Idealize.SL.Sem
open Idealize.ShloMosaic.Pipeline (Dat)
open Cert.Model Cert.Order Cert.Block

/-- What a buffer holds when the first region starts. -/
abbrev V (m : (ℓ : Loc nD τ sig) → Buf (Elt Ideal) ℓ) (c : Dev nD) (b : Ref sig .tc) : Buf (Elt Ideal) ((c : Thread nD τ).loc b) :=
  StableHlo.after hostOps0 (fun b => m (c, b)) b

variable (m : (ℓ : Loc nD τ sig) → Buf (Elt Ideal) ℓ) (c : Dev nD)

theorem entry_eq_V (ρ : Dev nD → PrngReg) : V1 m ρ = V m := rfl

/-- The block of a window at a grid point. -/
abbrev iblk (w : Fin cfg0.W) (t : Fin cfg0.N) := iblk0 (V m) c w t

/-- The arrays of the kernel's arguments. -/
def arrays : Arrays where
  f1 b k n := m ((c : Thread nD τ).loc main_arg0) (ix3 b k n)
  f2 b k n := m ((c : Thread nD τ).loc main_arg1) (ix3 b k n)
  xyz b n d := m ((c : Thread nD τ).loc main_arg2) (ix3 b n d)
  crd b n d := m ((c : Thread nD τ).loc main_arg3) (ix3 b n d)
  w ch f := m ((c : Thread nD τ).loc main_arg4) (ix2 ch f)
  b ch := m ((c : Thread nD τ).loc main_arg5) (ix1 ch)

/-- The block numbers of the windows at a grid point: 16 points to a batch. -/
theorem idx : ∀ t : Fin cfg0.N, win0_0.index t = ![t.val / 16, 0, t.val % 16] ∧ win0_1.index t = ![t.val / 16, 0, 0]
    ∧ win0_2.index t = ![t.val / 16, 0, 0] ∧ win0_3.index t = ![t.val / 16, 0, t.val % 16] ∧ win0_4.index t = ![0, 0]
    ∧ win0_5.index t = ![0, 0] ∧ win0_8.index t = ![t.val / 16, 0, t.val % 16] ∧ win0_10.index t = ![t.val / 16, 0, 0] ∧ t.val < 32 :=
  (by decide +kernel : ∀ t : Fin grid0.N, _)

/-- The batch of a grid point. -/
def batch (t : Fin cfg0.N) : Fin 2 := ⟨t.val / 16, by have : t.val < 32 := (idx t).2.2.2.2.2.2.2.2; omega⟩

/-- Row `r` of a grid point, among the 4096 points. -/
def rowAt (t : Fin cfg0.N) (r : Fin 256) : Fin 4096 := ⟨t.val % 16 * 256 + r.val, by omega⟩

variable (t : Fin cfg0.N)

theorem block0 (k : Fin 128) (r : Fin 256) : (iblk m c 0 t (ix3 0 k r : S1x128x256.Idx) : EReal) = (arrays m c).f1 (batch t) k (rowAt t r) := by
  unfold arrays batch rowAt
  blk_ext [iblk, iblk0, V, idx t]

theorem block1 (k : Fin 128) (n : Fin 4096) : (iblk m c 1 t (ix3 0 k n : S1x128x4096.Idx) : EReal) = (arrays m c).f2 (batch t) k n := by
  unfold arrays batch
  blk_ext [iblk, iblk0, V, idx t]

/-! ### The padded arrays -/

theorem entry2 (b : Fin 2) (d : Fin 3) (n : Fin 4096) :
    (V m c main_v2 (ix3 b (d.castLE (by decide)) n : S2x8x4096.Idx) : EReal) = m ((c : Thread nD τ).loc main_arg2) (ix3 b n d) := by
  entry_read
  pointwise
  exact dif_pos d.isLt

theorem entry3 (b : Fin 2) (d : Fin 3) (n : Fin 4096) :
    (V m c main_v5 (ix3 b (d.castLE (by decide)) n : S2x8x4096.Idx) : EReal) = m ((c : Thread nD τ).loc main_arg3) (ix3 b n d) := by
  entry_read
  pointwise
  exact dif_pos d.isLt

theorem entry4 (ch f : Fin 128) : (V m c main_v7 (ix2 ch f : S128x128.Idx) : EReal)
    = if h : f.val < 81 then (arrays m c).w ch ⟨f.val, h⟩ else 0 := by
  entry_read
  pointwise
  rfl

theorem entry5 (ch : Fin 128) : (V m c main_v12 (ix2 0 ch : S1x128.Idx) : EReal) = m ((c : Thread nD τ).loc main_arg5) (ix1 ch) := by
  entry_read
  pointwise

theorem block2 (d : Fin 3) (n : Fin 4096) : (iblk m c 2 t (ix3 0 (d.castLE (by decide)) n : S1x8x4096.Idx) : EReal) = (arrays m c).xyz (batch t) n d := by
  refine Eq.trans ?_ (entry2 m c (batch t) d n)
  unfold batch
  blk_ext [iblk, iblk0, idx t]

theorem block3 (d : Fin 3) (r : Fin 256) : (iblk m c 3 t (ix3 0 (d.castLE (by decide)) r : S1x8x256.Idx) : EReal) = (arrays m c).crd (batch t) (rowAt t r) d := by
  refine Eq.trans ?_ (entry3 m c (batch t) d (rowAt t r))
  unfold batch rowAt
  blk_ext [iblk, iblk0, idx t]

theorem block4 (ch f : Fin 128) : (iblk m c 4 t (ix2 ch f : S128x128.Idx) : EReal) = if h : f.val < 81 then (arrays m c).w ch ⟨f.val, h⟩ else 0 := by
  refine Eq.trans ?_ (entry4 m c ch f)
  blk_ext [iblk, iblk0, idx t]

theorem block5 (ch : Fin 128) : (iblk m c 5 t (ix2 0 ch : S1x128.Idx) : EReal) = (arrays m c).b ch := by
  refine Eq.trans ?_ (entry5 m c ch)
  blk_ext [iblk, iblk0, idx t]

/-! ## The first layer at a grid point -/

theorem scores_eq (r : Fin 256) : Row.scores (iblk m c 0 t) (iblk m c 1 t) r = score (arrays m c) (batch t) (rowAt t r) := by
  funext n
  unfold Row.scores score
  refine congrArg (· * (((Real.sqrt 128)⁻¹ : ℝ) : EReal)) (Finset.sum_congr rfl fun k _ => ?_)
  exact congrArg₂ (· * ·) (block0 m c t k r) (block1 m c t k n)

theorem entry_eq (r : Fin 256) (n : Fin 4096) :
    Row.entry (iblk m c 0 t) (iblk m c 1 t) (iblk m c 2 t) r n = candidate (arrays m c) (batch t) (rowAt t r) n := by
  unfold Row.entry candidate
  rw [scores_eq]
  exact congrArg (Entry.mk _) (by
    rw [← block2 m c t 0 n, ← block2 m c t 1 n, ← block2 m c t 2 n]
    rfl)

theorem point_eq (r : Fin 256) : Row.point (iblk m c 3 t) r
    = ⟨(arrays m c).crd (batch t) (rowAt t r) 0, (arrays m c).crd (batch t) (rowAt t r) 1, (arrays m c).crd (batch t) (rowAt t r) 2⟩ := by
  rw [← block3 m c t 0 r, ← block3 m c t 1 r, ← block3 m c t 2 r]
  rfl

/-- There are no features after the 81st. -/
theorem featureOf_eq_zero (I : Arrays) (b : Fin 2) (n : Fin 4096) (f : ℕ) (h : 81 ≤ f) : featureOf I b n f = 0 := by
  unfold featureOf feature
  rw [if_neg (by omega), if_neg (by omega), if_neg (by omega)]

/-- A padded sum of 128 is the sum of the first 81. -/
theorem sum_padded (g : ℕ → EReal) (w : Fin 81 → EReal) (hg : ∀ f, 81 ≤ f → g f = 0) :
    ∑ f : Fin 128, g f.val * (if h : f.val < 81 then w ⟨f.val, h⟩ else 0) = ∑ f : Fin 81, g f.val * w f := by
  refine (Fin.sum_univ_add (fun f : Fin (81 + 47) => g f.val * (if h : f.val < 81 then w ⟨f.val, h⟩ else 0))).trans ?_
  rw [Finset.sum_eq_zero (s := (Finset.univ : Finset (Fin 47))) fun f _ => by
    refine (congrArg (· * _) (hg _ (Nat.le_add_right 81 f.val))).trans (zero_mul _), add_zero]
  exact Finset.sum_congr rfl fun f _ => congrArg (g f.val * ·) (dif_pos f.isLt)

/-- The first layer of a grid point. -/
theorem layer_eq (ch : Fin 128) (r : Fin 256) :
    (blockH (F := Ideal) (iblk m c 0 t) (iblk m c 1 t) (iblk m c 2 t) (iblk m c 3 t) (iblk m c 4 t) (iblk m c 5 t) (ix2 ch r) : EReal)
      = first (arrays m c) (batch t) (rowAt t r) ch := by
  rw [Row.blockH_apply]
  unfold first
  rw [← sum_padded _ _ fun f h => featureOf_eq_zero (arrays m c) (batch t) (rowAt t r) f h]
  refine congrArg₂ (· + ·) (Finset.sum_congr rfl fun f _ => congrArg₂ (· * ·) ?_ (block4 m c t ch f)) (block5 m c t ch)
  unfold featureOf best
  rw [point_eq, scores_eq]
  simp only [entry_eq]

end Cert.Blocks

end
-- ==== Proof.Second.lean ====
/-
  The second half of what one grid point computes: of the 128 chosen candidates of a point the 32 nearest, their value and
  offsets, the greatest value of each second-layer channel over them, and the sums of their values and products.
  The text follows the kernel's steps with the unrolled runs of operations folded back into functions.
-/
module

public import proofs.«01_k».proof.Proof.Block

@[expose] public section

set_option maxRecDepth 8192

noncomputable section

namespace Cert.Second

open Idealize.ShloMosaic Cert.KernelIdeal Cert.KernelIdeal.Gen Cert.Block

variable {F : FTy → Type} [FloatOps F] [Named F] {α : Type}

/-! ## The distances -/

/-- The offset of one coordinate from the point. -/
def apart (t : FVec F S256x128 .f32) (c : FVec F S256x1 .f32) : FVec F S256x128 .f32 :=
  subf t (broadcastTo S256x128 c broadcasts_S256x1_S256x128)

/-- Minus the squared distance. -/
def closeness (dx dy dz : FVec F S256x128 .f32) : FVec F S256x128 .f32 :=
  subf (broadcast S256x128 (Scalar.ofBits .f32 0x00000000#32)) (addf (addf (mulf dx dx) (mulf dy dy)) (mulf dz dz))

/-! ## The mask of the 32 nearest -/

/-- The rank keys: the number of strictly smaller entries of the row, counted over all rotations of the row. -/
def keys (x : FVec F S256x128 .f32) : IVec S256x128 32 :=
  (Scf.fold (fun (_ : Fin k0_t3_loop.trips) (a : FVec F S256x128 .f32 × IVec S256x128 32) =>
    (k0_pay652 a.1, addi a.2 (extui 32 (cmpf .olt a.1 x) natLt_1_32))) (x, k0_pay651)).2

/-- The threshold of the 32 greatest keys, found bit by bit. -/
def threshold (key : IVec S256x128 32) : IVec S256x1 32 :=
  Scf.fold (fun (k : Fin k0_t4_loop.trips) (t : IVec S256x1 32) => k0_pay655 key k t) k0_pay654

/-- The words plus themselves moved right by the width of `a`. -/
def shifted (a b : Shape) (hs : S256x128.Slices ![0, 0] b) (hc : Shape.Concatenates [a, b] S256x128 1) (x : IVec S256x128 32) :
    IVec S256x128 32 :=
  addi x (concatenate S256x128 1 [⟨a, broadcast a 0#32⟩, ⟨b, extractStridedSlice b ![0, 0] x hs⟩] hc)

/-- The running counts of a mask, by doubling. -/
def counts (eq : IVec S256x128 1) : IVec S256x128 32 :=
  shifted S256x64 S256x64 slices_S256x128_o0_0_S256x64 concatenates_S256x64_S256x64_S256x128_d1
    (shifted S256x32 S256x96 slices_S256x128_o0_0_S256x96 concatenates_S256x32_S256x96_S256x128_d1
    (shifted S256x16 S256x112 slices_S256x128_o0_0_S256x112 concatenates_S256x16_S256x112_S256x128_d1
    (shifted S256x8 S256x120 slices_S256x128_o0_0_S256x120 concatenates_S256x8_S256x120_S256x128_d1
    (shifted S256x4 S256x124 slices_S256x128_o0_0_S256x124 concatenates_S256x4_S256x124_S256x128_d1
    (shifted S256x2 S256x126 slices_S256x128_o0_0_S256x126 concatenates_S256x2_S256x126_S256x128_d1
    (shifted S256x1 S256x127 slices_S256x128_o0_0_S256x127 concatenates_S256x1_S256x127_S256x128_d1
      (extui 32 eq natLt_1_32)))))))

/-- The mask: above the threshold, or at the threshold among the first that are still wanted. -/
def mask (key : IVec S256x128 32) (t : IVec S256x1 32) : IVec S256x128 1 :=
  ori (k0_pay656 key t) (andi (k0_pay658 key t) (cmpi .sle (counts (k0_pay658 key t))
    (broadcastTo S256x128 (subi (broadcast S256x1 32#32) (k0_pay657 key t)) broadcasts_S256x1_S256x128)))

/-- The running counts of the mask as numbers. -/
def inclusive (m : IVec S256x128 1) : FVec F S256x128 .f32 :=
  matmul dot_S256x128_S128x128_S256x128_1_0_0_1_n_n none (asNum m) (triangle (F := F)) (constant S256x128 .f32 0x00000000#32)

/-! ## The positions of the nearest -/

/-- The numbers 0 … 31 as floats. -/
def literal (i : ℕ) : BitVec 32 :=
  [0x00000000#32, 0x3F800000#32, 0x40000000#32, 0x40400000#32, 0x40800000#32, 0x40A00000#32, 0x40C00000#32, 0x40E00000#32, 0x41000000#32, 0x41100000#32, 0x41200000#32, 0x41300000#32, 0x41400000#32, 0x41500000#32, 0x41600000#32, 0x41700000#32, 0x41800000#32, 0x41880000#32, 0x41900000#32, 0x41980000#32, 0x41A00000#32, 0x41A80000#32, 0x41B00000#32, 0x41B80000#32, 0x41C00000#32, 0x41C80000#32, 0x41D00000#32, 0x41D80000#32, 0x41E00000#32, 0x41E80000#32, 0x41F00000#32, 0x41F80000#32].getD i 0#32

/-- How many running counts of a row are the number `i`. -/
def level (p : FVec F S256x128 .f32) (i : ℕ) : FVec F S256x1 .f32 :=
  shapeCast S256x1 (multiReduction .add [1] S256
    (select (cmpf .oeq p (broadcast S256x128 (Scalar.ofBits .f32 (literal i)))) (broadcast S256x128 (Scalar.ofBits .f32 0x3F800000#32))
      (broadcast S256x128 (Scalar.ofBits .f32 0x00000000#32))) 0x00000000#32 reduces_S256x128_S256 (.inl rfl) rfl) shapeCasts_S256_S256x1

/-- How many running counts of a row are among the first `n` numbers. -/
def reached (p : FVec F S256x128 .f32) (n : ℕ) : FVec F S256x1 .f32 :=
  steps n (broadcast S256x1 (Scalar.ofBits .f32 0x00000000#32)) fun i acc => addf acc (level p i)

/-- The position of each of the 32. -/
def positions (p : FVec F S256x128 .f32) : IVec S256x32 32 :=
  fptosi 32 (concatenate S256x32 1 (List.ofFn fun i : Fin 32 => ⟨S256x1, reached p (i.val + 1)⟩)
    (concatenates_columns fun i => reached p (i.val + 1)))

/-- Per slot the entry at its position. -/
def gather (x : FVec F S256x128 .f32) (i : IVec S256x32 32) : FVec F S256x32 .f32 :=
  let j := concatenate S256x128 1 [⟨S256x32, i⟩, ⟨S256x32, i⟩, ⟨S256x32, i⟩, ⟨S256x32, i⟩]
    concatenates_S256x32_S256x32_S256x32_S256x32_S256x128_d1
  extractStridedSlice S256x32 ![0, 0] (dynamicGather 1 x (shapeCast S256x128 (shapeCast S256x128x1
    (select (cmpi .slt j (broadcast S256x128 0#32)) (addi j (broadcast S256x128 128#32)) j) shapeCasts_S256x128_S256x128x1)
    shapeCasts_S256x128x1_S256x128)) slices_S256x128_o0_0_S256x32

/-- The positions of the 32 greatest entries of every row. -/
def nearest (x : FVec F S256x128 .f32) : IVec S256x32 32 := positions (inclusive (F := F) (mask (keys x) (threshold (keys x))))

/-! ## The four values of the nearest -/

/-- The value and the three offsets of the 32 nearest, from the 128 chosen. -/
def four (v tx ty tz : FVec F S256x128 .f32) (cx cy cz : FVec F S256x1 .f32) : Fin 4 → FVec F S256x32 .f32 :=
  ![gather v (nearest (closeness (apart tx cx) (apart ty cy) (apart tz cz))),
    gather (apart tx cx) (nearest (closeness (apart tx cx) (apart ty cy) (apart tz cz))),
    gather (apart ty cy) (nearest (closeness (apart tx cx) (apart ty cy) (apart tz cz))),
    gather (apart tz cz) (nearest (closeness (apart tx cx) (apart ty cy) (apart tz cz)))]

/-- The same from the mask of the chosen, the products, the candidates' coordinates and the points' coordinates. -/
def nearFour (m c : FVec F S256x4096 .f32) (xr yr zr : Vec F S1x1x4096 .f32) (x3 : Vec F S1x8x256 .f32) : Fin 4 → FVec F S256x32 .f32 :=
  let win := windowOf m
  let loc := columnOf (stack (running m)) win (slotIn m)
  four (take c win loc) (take (coordRow xr) win loc) (take (coordRow yr) win loc) (take (coordRow zr) win loc)
    (k0_pay392 x3) (k0_pay393 x3) (k0_pay394 x3)

/-- The same from the loaded blocks. -/
def blockFour (x0 : Vec F S1x128x256 .f32) (x1 : Vec F S1x128x4096 .f32) (xr yr zr : Vec F S1x1x4096 .f32)
    (x3 : Vec F S1x8x256 .f32) : Fin 4 → FVec F S256x32 .f32 :=
  nearFour (chosen (Block.keys x0 x1) (Block.threshold (Block.keys x0 x1))) (corr x0 x1) xr yr zr x3

/-! ## The second layer and the sums -/

/-- One channel of the second layer, at its greatest over the 32. -/
def channel (w : Fin 4 → F .f32) (b : F .f32) (k : Fin 4 → FVec F S256x32 .f32) : FVec F S256x1 .f32 :=
  shapeCast S256x1 (multiReduction .maximumf [1] S256
    (addf (addf (addf (addf (mulf (broadcast S256x32 (w 0)) (k 0)) (mulf (broadcast S256x32 (w 1)) (k 1)))
      (mulf (broadcast S256x32 (w 2)) (k 2))) (mulf (broadcast S256x32 (w 3)) (k 3))) (broadcast S256x32 b))
    0xFF800000#32 reduces_S256x32_S256 (.inl rfl) rfl) shapeCasts_S256_S256x1

theorem concatenates_channels : ∀ g : Fin 64 → S256x1.Idx → α,
    Shape.Concatenates ((List.ofFn fun i : Fin 64 => (⟨S256x1, g i⟩ : (s : Shape) × (s.Idx → α))).map (·.1))
      S256x64 1 := by
  intro g; rw [List.map_ofFn]
  exact (by decide : Shape.Concatenates (List.ofFn fun _ : Fin 64 => S256x1) S256x64 1)

/-- The 64 channels, channels first. -/
def channels (w : Fin 64 → Fin 4 → F .f32) (b : Fin 64 → F .f32) (k : Fin 4 → FVec F S256x32 .f32) : FVec F S1x64x256 .f32 :=
  shapeCast S1x64x256 (transpose S64x256 [1, 0] (concatenate S256x64 1
    (List.ofFn fun i : Fin 64 => ⟨S256x1, channel (w i) (b i) k⟩) (concatenates_channels fun i => channel (w i) (b i) k))
    transposes_S256x64_p1_0_S64x256) shapeCasts_S64x256_S1x64x256

/-- The sum of all entries, in every lane of a row. -/
def sumRow (x : FVec F S256x32 .f32) : FVec F S1x128 .f32 :=
  broadcast S1x128 (extractAt ![0, 0, 0] (shapeCast S1x1x1 (multiReduction .add [1, 2] S1
    (shapeCast S1x256x32 x shapeCasts_S256x32_S1x256x32) 0x00000000#32 reduces_S1x256x32_S1 (.inl rfl) rfl) shapeCasts_S1_S1x1x1)
    inpos_S1x1x1_p0_0_0)

/-- The sums of the four values and of their ten products, added to what was there. -/
def moments (k : Fin 4 → FVec F S256x32 .f32) (old : FVec F S1x16x128 .f32) : FVec F S1x16x128 .f32 :=
  k0_pay4 (sumRow (k 0)) (sumRow (k 1)) (sumRow (k 2)) (sumRow (k 3)) (sumRow (mulf (k 0) (k 0))) (sumRow (mulf (k 0) (k 1)))
    (sumRow (mulf (k 0) (k 2))) (sumRow (mulf (k 0) (k 3))) (sumRow (mulf (k 1) (k 1))) (sumRow (mulf (k 1) (k 2)))
    (sumRow (mulf (k 1) (k 3))) (sumRow (mulf (k 2) (k 2))) (sumRow (mulf (k 2) (k 3))) (sumRow (mulf (k 3) (k 3))) (k0_pay840 (F := F)) old

end Cert.Second

end
-- ==== Proof.Tie.lean ====
/-
  What the kernel's body leaves in the staging buffers of its first and third outputs at one grid point: the functional
  block of Block.lean at the loaded blocks, and its sums added to what the buffer held.
-/
module

public import proofs.«01_k».proof.Proof.Second
public import proofs.«01_k».proof.Proof.Gen.KernelIdeal.Frame
import all proofs.«01_k».proof.Proof.Gen.KernelIdeal.Frame

@[expose] public section

set_option maxRecDepth 16384

noncomputable section

namespace Cert.Tie

open Idealize.ShloMosaic Idealize.ShloMosaic.TcCoe Idealize.ShloMosaic.Tactic Cert.KernelIdeal Cert.KernelIdeal.Gen Cert.Block

variable {F : FTy → Type} [FloatOps F] [Named F]

/-- What a load at `o` of extent `t` reads of a buffer holding `x`. -/
abbrev load {s : Shape} (arg : Memref sig .tc .vmem s .f32) (h : arg.IsWhole) (x : Vec F s .f32) (o t : Fin s.rank → ℕ)
    (hr : ∀ a, o a + t a ≤ s.size a) :=
  View.readAt (Elt F) arg.view (Rect.unit o t hr).toLoadRect (h.unread x)

/-- A load of the whole buffer reads what it holds. -/
theorem load_whole {s : Shape} (arg : Memref sig .tc .vmem s .f32) (h : arg.IsWhole) (x : Vec F s .f32) (o : Fin s.rank → ℕ)
    (hr : ∀ a, o a + s.size a ≤ s.size a) (ho : o = fun _ => 0) : load arg h x o s.size hr = x := by
  unfold load
  rw [View.readAt_eq_ld, Memref.IsWhole.read_unread, View.ld_unit_zero ho]

/-- A load of one coordinate row. -/
theorem load_row (arg : Memref sig .tc .vmem S1x8x4096 .f32) (h : arg.IsWhole) (x : Vec F S1x8x4096 .f32) (k : Fin 8) :
    load arg h x ![0, k.val, 0] S1x1x4096.size (inb_row k) = row x k := by
  unfold load row
  rw [View.readAt_eq_ld, Memref.IsWhole.read_unread]

theorem zeros2 : (![0, 0] : Fin 2 → ℕ) = fun _ => 0 := by decide
theorem zeros3 : (![0, 0, 0] : Fin 3 → ℕ) = fun _ => 0 := by decide

section
variable (c : Dev nD) (i : grid0.Coords)
  (arg2 : Memref sig .tc .vmem S1x128x256 .f32) (harg2 : arg2.IsWhole)
  (arg3 : Memref sig .tc .vmem S1x128x4096 .f32) (harg3 : arg3.IsWhole)
  (arg4 : Memref sig .tc .vmem S1x8x4096 .f32) (harg4 : arg4.IsWhole)
  (arg5 : Memref sig .tc .vmem S1x8x256 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S64x128 .f32) (harg8 : arg8.IsWhole)
  (arg9 : Memref sig .tc .vmem S1x128 .f32) (harg9 : arg9.IsWhole)
  (arg10 : Memref sig .tc .vmem S1x128x256 .f32) (harg10 : arg10.IsWhole)
  (arg11 : Memref sig .tc .vmem S1x64x256 .f32) (harg11 : arg11.IsWhole)
  (arg12 : Memref sig .tc .vmem S1x2x128 .f32) (harg12 : arg12.IsWhole)
  (arg13 : Memref sig .tc .vmem S1x16x128 .f32) (harg13 : arg13.IsWhole)
  (x0 : Vec F S1x128x256 .f32) (x1 : Vec F S1x128x4096 .f32) (x2 : Vec F S1x8x4096 .f32) (x3 : Vec F S1x8x256 .f32) (x4 : Vec F S128x128 .f32) (x5 : Vec F S1x128 .f32) (x6 : Vec F S64x128 .f32) (x7 : Vec F S1x128 .f32)

/-- The first layer over the loads of the body. -/
abbrev loadedH : FVec F S128x256 .f32 :=
  layer (blockFeatures (load arg2 harg2 x0 ![0, 0, 0] S1x128x256.size (by decide))
      (load arg3 harg3 x1 ![0, 0, 0] S1x128x4096.size (by decide))
      (load arg4 harg4 x2 ![0, (0 : Fin 8).val, 0] S1x1x4096.size (inb_row 0))
      (load arg4 harg4 x2 ![0, (1 : Fin 8).val, 0] S1x1x4096.size (inb_row 1))
      (load arg4 harg4 x2 ![0, (2 : Fin 8).val, 0] S1x1x4096.size (inb_row 2))
      (load arg5 harg5 x3 ![0, 0, 0] S1x8x256.size (by decide)))
    (load arg6 harg6 x4 ![0, 0] S128x128.size (by decide)) (load arg7 harg7 x5 ![0, 0] S1x128.size (by decide))

theorem loadedH_eq : loadedH arg2 harg2 arg3 harg3 arg4 harg4 arg5 harg5 arg6 harg6 arg7 harg7 x0 x1 x2 x3 x4 x5
    = blockH x0 x1 x2 x3 x4 x5 := by
  unfold loadedH blockH
  rw [load_whole arg2 harg2 x0 ![0, 0, 0] _ zeros3, load_whole arg3 harg3 x1 ![0, 0, 0] _ zeros3, load_row, load_row, load_row,
    load_whole arg5 harg5 x3 ![0, 0, 0] _ zeros3, load_whole arg6 harg6 x4 ![0, 0] _ zeros2, load_whole arg7 harg7 x5 ![0, 0] _ zeros2]

theorem out8_A (hc0 : cond0_0 i) : out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7
    = shapeCast S1x128x256 (blockH x0 x1 x2 x3 x4 x5) shapeCasts_S128x256_S1x128x256 := by
  unfold out0_A_8
  rw [View.read_writes_junk_eq_canon]
  have e : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1
      = [⟨Rect.unit ![0, 0, 0] S1x128x256.size (by decide), shapeCast S1x128x256
          (loadedH arg2 harg2 arg3 harg3 arg4 harg4 arg5 harg5 arg6 harg6 arg7 harg7 x0 x1 x2 x3 x4 x5)
          shapeCasts_S128x256_S1x128x256⟩] := by
    sl_kernel_rfl
  rw [e, View.canon_unit_zero zeros3, loadedH_eq]

theorem out10_A (hc0 : cond0_0 i) : out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7
    = k0_pay3 (k0_pay818 (blockH x0 x1 x2 x3 x4 x5)) (k0_pay1 (F := F)) := by
  unfold out0_A_10
  rw [View.read_writes_junk_eq_canon]
  have e : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1
      = ⟨Rect.unit ![0, 0, 0] S1x2x128.size (by decide), k0_pay3 (k0_pay818
          (loadedH arg2 harg2 arg3 harg3 arg4 harg4 arg5 harg5 arg6 harg6 arg7 harg7 x0 x1 x2 x3 x4 x5))
          (arg12.view.readCov [⟨Rect.unit ![0, 0, 0] S1x2x128.size (by decide), k0_pay1 (F := F)⟩]
            (Rect.unit ![0, 0, 0] S1x2x128.size (by decide)).toLoadRect)⟩ :: [⟨Rect.unit ![0, 0, 0] S1x2x128.size (by decide), k0_pay1 (F := F)⟩] := by
    sl_kernel_rfl
  rw [e, View.canon_cons_unit_zero zeros3, loadedH_eq, View.readCov_unit_zero arg12.view zeros3]

theorem out8_B (hc0 : ¬cond0_0 i) (xo10 : Vec F S1x2x128 .f32) (xo11 : Vec F S1x16x128 .f32) : out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11
    = shapeCast S1x128x256 (blockH x0 x1 x2 x3 x4 x5) shapeCasts_S128x256_S1x128x256 := by
  unfold out0_B_8
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11).1
      = [⟨Rect.unit ![0, 0, 0] S1x128x256.size (by decide), shapeCast S1x128x256
          (loadedH arg2 harg2 arg3 harg3 arg4 harg4 arg5 harg5 arg6 harg6 arg7 harg7 x0 x1 x2 x3 x4 x5)
          shapeCasts_S128x256_S1x128x256⟩] := by
    sl_kernel_rfl
  rw [e, View.canon_unit_zero zeros3, loadedH_eq]

theorem out10_B (hc0 : ¬cond0_0 i) (xo10 : Vec F S1x2x128 .f32) (xo11 : Vec F S1x16x128 .f32) : out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11
    = k0_pay3 (k0_pay818 (blockH x0 x1 x2 x3 x4 x5)) xo10 := by
  unfold out0_B_10
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11).2.2.1
      = ⟨Rect.unit ![0, 0, 0] S1x2x128.size (by decide), k0_pay3 (k0_pay818
          (loadedH arg2 harg2 arg3 harg3 arg4 harg4 arg5 harg5 arg6 harg6 arg7 harg7 x0 x1 x2 x3 x4 x5))
          (load arg12 harg12 xo10 ![0, 0, 0] S1x2x128.size (by decide))⟩ :: [] := by
    sl_kernel_rfl
  rw [e, View.canon_cons_unit_zero zeros3, loadedH_eq, load_whole arg12 harg12 xo10 ![0, 0, 0] _ zeros3]

/-! ## The second half -/

theorem inb_weight (c : Fin 64) (k : Fin 4) : ∀ a, (![c.val, k.val] : Fin 2 → ℕ) a + S1x1.size a ≤ S64x128.size a := by
  intro a
  match a with
  | ⟨0, _⟩ => exact (by omega : c.val + 1 ≤ 64)
  | ⟨1, _⟩ => exact (by omega : k.val + 1 ≤ 128)

theorem inb_bias (c : Fin 64) : ∀ a, (![0, c.val] : Fin 2 → ℕ) a + S1x1.size a ≤ S1x128.size a := by
  intro a
  match a with
  | ⟨0, _⟩ => exact (by omega : 0 + 1 ≤ 1)
  | ⟨1, _⟩ => exact (by omega : c.val + 1 ≤ 128)

/-- The weights of the second layer, one load each. -/
abbrev loadedWeights (c : Fin 64) (k : Fin 4) : F .f32 :=
  extractAt ![0, 0] (load arg8 harg8 x6 ![c.val, k.val] S1x1.size (inb_weight c k)) inpos_S1x1_p0_0

/-- Its biases. -/
abbrev loadedBiases (c : Fin 64) : F .f32 :=
  extractAt ![0, 0] (load arg9 harg9 x7 ![0, c.val] S1x1.size (inb_bias c)) inpos_S1x1_p0_0

/-- The weights read off their block. -/
def weights (c : Fin 64) (k : Fin 4) : F .f32 := x6 (ix2 c (k.castLE (by decide)))

/-- The biases read off their block. -/
def biases (c : Fin 64) : F .f32 := x7 (ix2 0 (c.castLE (by decide)))

theorem loadedWeights_eq : loadedWeights arg8 harg8 x6 = weights x6 := by
  funext c k
  unfold loadedWeights weights load
  rw [View.readAt_eq_ld, Memref.IsWhole.read_unread]
  refine congrArg x6 (funext fun a => Fin.ext ?_)
  match a with
  | ⟨0, _⟩ => rfl
  | ⟨1, _⟩ => rfl

theorem loadedBiases_eq : loadedBiases arg9 harg9 x7 = biases x7 := by
  funext c
  unfold loadedBiases biases load
  rw [View.readAt_eq_ld, Memref.IsWhole.read_unread]
  refine congrArg x7 (funext fun a => Fin.ext ?_)
  match a with
  | ⟨0, _⟩ => rfl
  | ⟨1, _⟩ => rfl

/-- The four values of the nearest over the loads of the body. -/
abbrev loadedFour : Fin 4 → FVec F S256x32 .f32 :=
  Second.blockFour (load arg2 harg2 x0 ![0, 0, 0] S1x128x256.size (by decide))
      (load arg3 harg3 x1 ![0, 0, 0] S1x128x4096.size (by decide))
      (load arg4 harg4 x2 ![0, (0 : Fin 8).val, 0] S1x1x4096.size (inb_row 0))
      (load arg4 harg4 x2 ![0, (1 : Fin 8).val, 0] S1x1x4096.size (inb_row 1))
      (load arg4 harg4 x2 ![0, (2 : Fin 8).val, 0] S1x1x4096.size (inb_row 2))
      (load arg5 harg5 x3 ![0, 0, 0] S1x8x256.size (by decide))

/-- The four values of the nearest of a row block. -/
def four : Fin 4 → FVec F S256x32 .f32 := Second.blockFour x0 x1 (row x2 0) (row x2 1) (row x2 2) x3

theorem loadedFour_eq : loadedFour arg2 harg2 arg3 harg3 arg4 harg4 arg5 harg5 x0 x1 x2 x3 = four x0 x1 x2 x3 := by
  unfold loadedFour four
  rw [load_whole arg2 harg2 x0 ![0, 0, 0] _ zeros3, load_whole arg3 harg3 x1 ![0, 0, 0] _ zeros3, load_row, load_row, load_row,
    load_whole arg5 harg5 x3 ![0, 0, 0] _ zeros3]

theorem out9_A (hc0 : cond0_0 i) : out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7
    = Second.channels (weights x6) (biases x7) (four x0 x1 x2 x3) := by
  unfold out0_A_9
  rw [View.read_writes_junk_eq_canon]
  have e : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1
      = [⟨Rect.unit ![0, 0, 0] S1x64x256.size (by decide), Second.channels (loadedWeights arg8 harg8 x6) (loadedBiases arg9 harg9 x7)
          (loadedFour arg2 harg2 arg3 harg3 arg4 harg4 arg5 harg5 x0 x1 x2 x3)⟩] := by
    sl_kernel_rfl
  rw [e, View.canon_unit_zero zeros3, loadedFour_eq, loadedWeights_eq, loadedBiases_eq]

theorem out9_B (hc0 : ¬cond0_0 i) (xo10 : Vec F S1x2x128 .f32) (xo11 : Vec F S1x16x128 .f32) : out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11
    = Second.channels (weights x6) (biases x7) (four x0 x1 x2 x3) := by
  unfold out0_B_9
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11).2.1
      = [⟨Rect.unit ![0, 0, 0] S1x64x256.size (by decide), Second.channels (loadedWeights arg8 harg8 x6) (loadedBiases arg9 harg9 x7)
          (loadedFour arg2 harg2 arg3 harg3 arg4 harg4 arg5 harg5 x0 x1 x2 x3)⟩] := by
    sl_kernel_rfl
  rw [e, View.canon_unit_zero zeros3, loadedFour_eq, loadedWeights_eq, loadedBiases_eq]

theorem out11_A (hc0 : cond0_0 i) : out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7
    = Second.moments (four x0 x1 x2 x3) (k0_pay2 (F := F)) := by
  unfold out0_A_11
  rw [View.read_writes_junk_eq_canon]
  have e : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.val
      = ⟨Rect.unit ![0, 0, 0] S1x16x128.size (by decide), Second.moments (loadedFour arg2 harg2 arg3 harg3 arg4 harg4 arg5 harg5 x0 x1 x2 x3)
          (arg13.view.readCov (Val := Elt F) [⟨Rect.unit ![0, 0, 0] S1x16x128.size (by decide), k0_pay2 (F := F)⟩]
            (Rect.unit ![0, 0, 0] S1x16x128.size (by decide)).toLoadRect)⟩ :: [⟨Rect.unit ![0, 0, 0] S1x16x128.size (by decide), k0_pay2 (F := F)⟩] := by
    sl_kernel_rfl
  rw [e, View.canon_cons_unit_zero zeros3, loadedFour_eq, View.readCov_unit_zero arg13.view zeros3]

theorem out11_B (hc0 : ¬cond0_0 i) (xo10 : Vec F S1x2x128 .f32) (xo11 : Vec F S1x16x128 .f32) : out0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11
    = Second.moments (four x0 x1 x2 x3) xo11 := by
  unfold out0_B_11
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo10 xo11).2.2.2.val
      = ⟨Rect.unit ![0, 0, 0] S1x16x128.size (by decide), Second.moments (loadedFour arg2 harg2 arg3 harg3 arg4 harg4 arg5 harg5 x0 x1 x2 x3)
          (load arg13 harg13 xo11 ![0, 0, 0] S1x16x128.size (by decide))⟩ :: [] := by
    sl_kernel_rfl
  rw [e, View.canon_cons_unit_zero zeros3, loadedFour_eq, load_whole arg13 harg13 xo11 ![0, 0, 0] _ zeros3]

end

end Cert.Tie

end
-- ==== Proof.Results.lean ====
/-
  The kernel's two results after the run: the first layer of every point, and the sums of it and of its square over the points.
-/
module

public import proofs.«01_k».proof.Proof.Blocks
public import proofs.«01_k».proof.Proof.Tie

@[expose] public section

set_option maxRecDepth 16384

noncomputable section

namespace Cert.Results

open Cert.KernelIdeal Cert.KernelIdeal.Gen Idealize.ShloMosaic Idealize.ShloMosaic.TcCoe Idealize.SL.Sem
open Idealize.ShloMosaic.Pipeline (Dat)
open Cert.Model Cert.Blocks Cert.Block

variable (m : (ℓ : Loc nD τ sig) → Buf (Elt Ideal) ℓ) (c : Dev nD)

/-- The first layer of a grid point. -/
abbrev pointH (t : Fin cfg0.N) : FVec Ideal S128x256 .f32 :=
  blockH (F := Ideal) (iblk m c 0 t) (iblk m c 1 t) (iblk m c 2 t) (iblk m c 3 t) (iblk m c 4 t) (iblk m c 5 t)

/-- What a grid point leaves in the first result's block. -/
theorem left8 (t : Fin cfg0.N) : (outsAt0 (V m) c t.val t.isLt).1 = shapeCast S1x128x256 (pointH m c t) shapeCasts_S128x256_S1x128x256 := by
  by_cases h0 : t.val % 16 = 0
  · rw [outsAt0_A (V m) c t h0, Tie.out8_A]
  · rw [outsAt0_B (V m) c t h0, Tie.out8_B]

theorem cast_apply (h : FVec Ideal S128x256 .f32) (y : S1x128x256.Idx) :
    (shapeCast S1x128x256 h shapeCasts_S128x256_S1x128x256 y : EReal) = h (ix2 (y 1) (y 2)) := by
  pointwise

/-- The first result after the run. -/
theorem result8 : (dat0 (V m) c).arrAt 8 cfg0.N = fun j : S2x128x4096.Idx => first (arrays m c) (j 0) (j 2) (j 1) := by
  refine (dat0 (V m) c).arrAt_eq_of_covers 8 _ (by decide +kernel) fun t _ y => ?_
  blk_simp
  rw [after0_8, left8]
  refine (cast_apply _ y).trans ((layer_eq m c t (y 1) (y 2)).trans ?_)
  have e0 : batch t = (((cfg0.win 8).blk t).view.emb y) 0 := Fin.ext (by unfold batch; blk_simp [idx t])
  have e1 : y 1 = (((cfg0.win 8).blk t).view.emb y) 1 := Fin.ext (by blk_simp [idx t])
  have e2 : rowAt t (y 2) = (((cfg0.win 8).blk t).view.emb y) 2 := Fin.ext (by unfold rowAt; blk_simp [idx t])
  rw [e0, e1, e2]

/-! ## The sums -/

/-- What a block adds to the third result: the sums over its points of the layer and of its square. -/
theorem added_apply (h : FVec Ideal S128x256 .f32) (s : Fin 2) (ch : Fin 128) :
    (k0_pay818 (F := Ideal) h (ix2 s ch) : EReal) = ∑ r : Fin 256, (if s.val = 0 then (h (ix2 ch r) : EReal) else h (ix2 ch r) * h (ix2 ch r)) := by
  unfold k0_pay818
  pointwise
  by_cases h : s.val = 0
  · rw [dif_pos (by omega)]
    exact Finset.sum_congr rfl fun r _ => (if_pos h).symm
  · rw [dif_neg (by omega)]
    exact Finset.sum_congr rfl fun r _ => (if_neg h).symm

theorem step_apply (a : FVec Ideal S2x128 .f32) (x : FVec Ideal S1x2x128 .f32) (j : S1x2x128.Idx) :
    (k0_pay3 (F := Ideal) a x j : EReal) = x j + a (ix2 (j 1) (j 2)) := by
  unfold k0_pay3
  pointwise

theorem reset_apply (j : S1x2x128.Idx) : (k0_pay1 (F := Ideal) j : EReal) = 0 := by
  unfold k0_pay1
  pointwise

theorem flush10 : ∀ t : Fin cfg0.N, (cfg0.win 10).flush t = true → t.val % 16 = 16 - 1 :=
  (by decide +kernel : ∀ t : Fin grid0.N, win0_10.flush t = true → t.val % 16 = 16 - 1)

/-- What a batch's last point leaves in the third result's block. -/
theorem left10 (t : Fin cfg0.N) (ht : t.val % 16 = 16 - 1) (j : S1x2x128.Idx) :
    ((outsAt0 (V m) c t.val t.isLt).2.2.1 j : EReal) = total (arrays m c) (batch t) (j 1) (j 2) := by
  have := Pipeline.eq_sum_fin_of_reset_step_apply_of_flush (fun n h => ((outsAt0 (V m) c n h).2.2.1 : S1x2x128.Idx → EReal)) 16 (fun _ => 0)
    (fun t j => (k0_pay818 (F := Ideal) (pointH m c t) (ix2 (j 1) (j 2)) : EReal))
    (fun t h j => by
      rw [outsAt0_A (V m) c t h, Tie.out10_A]
      exact (step_apply _ _ j).trans (congrArg (· + _) (reset_apply j)))
    (fun t h j => by
      rw [outsAt0_B (V m) c t h, Tie.out10_B]
      exact step_apply _ _ j) t ht j
  refine this.trans ((zero_add _).trans ?_)
  unfold total
  rw [← Fin.sum_mul_add_fin 16 256 (fun n : Fin 4096 => if (j 1).val = 0 then first (arrays m c) (batch t) n (j 2)
    else first (arrays m c) (batch t) n (j 2) * first (arrays m c) (batch t) n (j 2))]
  refine Finset.sum_congr rfl fun s _ => (added_apply _ (j 1) (j 2)).trans (Finset.sum_congr rfl fun r _ => ?_)
  have hb : ∀ h : 16 * (t.val / 16) + s.val < cfg0.N, batch ⟨16 * (t.val / 16) + s.val, h⟩ = batch t := fun h => Fin.ext (by
    show (16 * (t.val / 16) + s.val) / 16 = t.val / 16
    omega)
  have hr : ∀ h : 16 * (t.val / 16) + s.val < cfg0.N, rowAt ⟨16 * (t.val / 16) + s.val, h⟩ r = ⟨s.val * 256 + r.val, by omega⟩ := fun h => Fin.ext (by
    show (16 * (t.val / 16) + s.val) % 16 * 256 + r.val = s.val * 256 + r.val
    omega)
  have hl : ∀ h : 16 * (t.val / 16) + s.val < cfg0.N, (pointH m c ⟨16 * (t.val / 16) + s.val, h⟩ (ix2 (j 2) r) : EReal)
      = first (arrays m c) (batch t) ⟨s.val * 256 + r.val, by omega⟩ (j 2) := fun h => by
    rw [← hb h, ← hr h]
    exact layer_eq m c _ (j 2) r
  rw [hl]

/-- The third result after the run. -/
theorem result10 : (dat0 (V m) c).arrAt 10 cfg0.N = fun j : S2x2x128.Idx => total (arrays m c) (j 0) (j 1) (j 2) := by
  refine (dat0 (V m) c).arrAt_eq_of_covers 10 _ (by decide +kernel) fun t hf y => ?_
  blk_simp
  rw [after0_10]
  refine (left10 m c t (flush10 t hf) y).trans ?_
  have e0 : batch t = (((cfg0.win 10).blk t).view.emb y) 0 := Fin.ext (by unfold batch; blk_simp [idx t])
  have e1 : y 1 = (((cfg0.win 10).blk t).view.emb y) 1 := Fin.ext (by blk_simp [idx t])
  have e2 : y 2 = (((cfg0.win 10).blk t).view.emb y) 2 := Fin.ext (by blk_simp [idx t])
  rw [e0, e1, e2]

end Cert.Results

end
-- ==== Proof.NearKeys.lean ====
/-
  The rank keys and the threshold of the second selection at an index: the key of one of the 128 is the number of strictly
  smaller entries of its row, and the threshold is the greatest number that at least 32 keys of the row reach.
-/
module

public import proofs.«01_k».proof.Proof.Keys
public import proofs.«01_k».proof.Proof.Second

@[expose] public section

set_option maxRecDepth 16384

noncomputable section

namespace Cert.NearKeys

open Idealize.ShloMosaic Cert.KernelIdeal Cert.KernelIdeal.Gen Cert.Order
open Cert.Keys (fold_inv fold_flags select_flag flag_of set_bit ori_broadcast)

/-- One row of the 128 chosen. -/
def rowOf {α : Type} (x : S256x128.Idx → α) (r : Fin 256) : Fin 128 → α := fun m => x (ix2 r m)

theorem below_apply (x a : FVec Ideal S256x128 .f32) (q : IVec S256x128 32) (j : S256x128.Idx) :
    addi q (extui 32 (cmpf .olt a x) natLt_1_32) j = q j + if (a j : EReal) < x j then 1#32 else 0#32 := by
  show q j + BitVec.setWidth 32 (BitVec.ofBool (decide ((a j : EReal) < x j))) = _
  by_cases h : (a j : EReal) < x j
  · rw [if_pos h, decide_eq_true h]; rfl
  · rw [if_neg h, decide_eq_false h]; rfl

theorem rotate_apply (a : FVec Ideal S256x128 .f32) (r : Fin 256) (m : Fin 128) :
    k0_pay652 a (ix2 r m) = a (ix2 r ⟨(m.val + 1) % 128, Nat.mod_lt _ (by decide)⟩) := by
  unfold k0_pay652
  pointwise
  split
  · refine congrArg a (congrArg (ix2 r) ?_)
    exact Fin.ext (by show 1 + m.val = (m.val + 1) % 128; omega)
  · refine congrArg a (congrArg (ix2 r) ?_)
    exact Fin.ext (by show m.val - 127 = (m.val + 1) % 128; omega)

/-- The number of the row's candidates below candidate `m`, counted over rotations of the row. -/
theorem card_rotations {α : Type} [LinearOrder α] (x : Fin 128 → α) (m : Fin 128) :
    ((Finset.range 128).filter fun i => x ⟨(m.val + i) % 128, Nat.mod_lt _ (by decide)⟩ < x m).card = rank x m := by
  unfold rank
  refine Finset.card_nbij' (fun i => ⟨(m.val + i) % 128, Nat.mod_lt _ (by decide)⟩)
    (fun l => (l.val + 128 - m.val) % 128) ?_ ?_ ?_ ?_
  · intro i hi
    simp only [Finset.coe_filter, Set.mem_setOf_eq, Finset.mem_filter, Finset.mem_univ, true_and] at hi ⊢
    exact hi.2
  · intro l hl
    simp only [Finset.coe_filter, Set.mem_setOf_eq, Finset.mem_filter, Finset.mem_univ, true_and, Finset.mem_range] at hl ⊢
    refine ⟨by omega, ?_⟩
    convert hl using 2
    exact Fin.ext (by show (m.val + (l.val + 128 - m.val) % 128) % 128 = l.val; omega)
  · intro i hi
    simp only [Finset.coe_filter, Set.mem_setOf_eq, Finset.mem_range] at hi
    show ((m.val + i) % 128 + 128 - m.val) % 128 = i
    omega
  · intro l _
    exact Fin.ext (by show (m.val + (l.val + 128 - m.val) % 128) % 128 = l.val; omega)

/-- The key of a candidate is its rank in the row. -/
theorem keys_apply (x : FVec Ideal S256x128 .f32) (r : Fin 256) (m : Fin 128) :
    Second.keys x (ix2 r m) = BitVec.ofNat 32 (rank (α := EReal) (rowOf x r) m) := by
  have key := fold_inv (n := k0_t3_loop.trips)
    (fun (_ : Fin k0_t3_loop.trips) (a : FVec Ideal S256x128 .f32 × IVec S256x128 32) => (k0_pay652 a.1, addi a.2 (extui 32 (cmpf .olt a.1 x) natLt_1_32)))
    (x, k0_pay651)
    (fun i a => ∀ (r : Fin 256) (m : Fin 128), a.1 (ix2 r m) = x (ix2 r ⟨(m.val + i) % 128, Nat.mod_lt _ (by decide)⟩)
      ∧ a.2 (ix2 r m) = BitVec.ofNat 32 ((Finset.range i).filter fun j =>
        ((x (ix2 r ⟨(m.val + j) % 128, Nat.mod_lt _ (by decide)⟩) : EReal) < x (ix2 r m))).card)
    ?_ ?_
  · have h := (key r m).2
    rw [show k0_t3_loop.trips = 128 from rfl] at h
    rw [← card_rotations]
    exact h
  · intro r m
    refine ⟨?_, rfl⟩
    show x (ix2 r m) = _
    congr 2
    exact Fin.ext (by show m.val = (m.val + 0) % 128; omega)
  · intro k a h r m
    refine ⟨?_, ?_⟩
    · show k0_pay652 a.1 (ix2 r m) = _
      rw [rotate_apply, (h r _).1]
      congr 2
      exact Fin.ext (by show ((m.val + 1) % 128 + k.val) % 128 = (m.val + (k.val + 1)) % 128; omega)
    · show addi a.2 (extui 32 (cmpf .olt a.1 x) natLt_1_32) (ix2 r m) = _
      rw [below_apply, (h r m).1, (h r m).2, Finset.range_add_one, Finset.filter_insert]
      by_cases hlt : (x (ix2 r ⟨(m.val + k.val) % 128, Nat.mod_lt _ (by decide)⟩) : EReal) < x (ix2 r m)
      · rw [if_pos hlt, if_pos hlt, Finset.card_insert_of_notMem (by simp), BitVec.ofNat_add]
      · rw [if_neg hlt, if_neg hlt]
        exact BitVec.add_zero _

/-! ## The threshold -/

/-- The number of keys of a row that reach a word, as the kernel counts them. -/
theorem reach_apply (key : IVec S256x128 32) (t : IVec S256x1 32) (r : Fin 256) :
    (shapeCast S256x1 (multiReductionI .add [1] S256 (extui 32 (cmpi .uge key (broadcastTo S256x128 t broadcasts_S256x1_S256x128)) natLt_1_32)
      0#32 reduces_S256x128_S256 rfl) shapeCasts_S256_S256x1 (ix2 r 0)).toNat
      = (Finset.univ.filter fun m : Fin 128 => (t (ix2 r 0)).toNat ≤ (key (ix2 r m)).toNat).card := by
  rw [← fold_flags Finset.univ (fun m : Fin 128 => (extui 32 (cmpi .uge key (broadcastTo S256x128 t broadcasts_S256x1_S256x128)) natLt_1_32) (ix2 r m))
    _ (fun m => ?_) (by rw [Finset.card_univ, Fintype.card_fin]; decide)]
  · refine congrArg BitVec.toNat ?_
    pointwise
  · rw [show (extui 32 (cmpi .uge key (broadcastTo S256x128 t broadcasts_S256x1_S256x128)) natLt_1_32) (ix2 r m)
      = BitVec.setWidth 32 (BitVec.ofBool ((t (ix2 r 0)).ule (key (ix2 r m)))) from by pointwise; rfl, flag_of]
    simp only [BitVec.ule, decide_eq_true_eq]

theorem above_apply (key : IVec S256x128 32) (t : IVec S256x1 32) (r : Fin 256) :
    (shapeCast S256x1 (multiReductionI .add [1] S256 (extui 32 (k0_pay656 key t) natLt_1_32)
      0#32 reduces_S256x128_S256 rfl) shapeCasts_S256_S256x1 (ix2 r 0)).toNat
      = (Finset.univ.filter fun m : Fin 128 => (t (ix2 r 0)).toNat < (key (ix2 r m)).toNat).card := by
  rw [← fold_flags Finset.univ (fun m : Fin 128 => (extui 32 (k0_pay656 key t) natLt_1_32) (ix2 r m))
    _ (fun m => ?_) (by rw [Finset.card_univ, Fintype.card_fin]; decide)]
  · refine congrArg BitVec.toNat ?_
    pointwise
  · rw [show (extui 32 (k0_pay656 key t) natLt_1_32) (ix2 r m)
      = BitVec.setWidth 32 (BitVec.ofBool ((t (ix2 r 0)).ult (key (ix2 r m)))) from by unfold k0_pay656; pointwise; rfl, flag_of]
    simp only [BitVec.ult, decide_eq_true_eq]

theorem reached (c : BitVec 32) (h : c.toNat ≤ 128) : IntOp.cmpi .sge c 32#32 = BitVec.ofBool (decide (32 ≤ c.toNat)) := by
  have h1 : c.toInt = c.toNat := by
    rw [BitVec.toInt_eq_toNat_cond]
    omega
  show BitVec.ofBool (decide ((32 : ℤ) ≤ c.toInt)) = _
  rw [h1]
  congr 1
  exact decide_eq_decide.mpr (by omega)

/-- One step of the search for the threshold: the next bit is kept where at least 32 keys still reach the word. -/
theorem radix_step (key : IVec S256x128 32) (k : Fin k0_t4_loop.trips) (t : IVec S256x1 32) (r : Fin 256) :
    k0_pay655 key k t (ix2 r 0) = Scalar.select (IntOp.cmpi .sge
      (shapeCast S256x1 (multiReductionI .add [1] S256 (extui 32 (cmpi .uge key (broadcastTo S256x128
        (ori t (broadcast S256x1 (Scalar.shli 1#32 (Scalar.subi 31#32 (Scf.iv 0#32 1#32 k))))) broadcasts_S256x1_S256x128)) natLt_1_32)
        0#32 reduces_S256x128_S256 rfl) shapeCasts_S256_S256x1 (ix2 r 0)) 32#32)
      (ori t (broadcast S256x1 (Scalar.shli 1#32 (Scalar.subi 31#32 (Scf.iv 0#32 1#32 k)))) (ix2 r 0)) (t (ix2 r 0)) := rfl

/-- The threshold of a row: at least 32 keys reach it, fewer than 32 exceed it. -/
theorem threshold_apply (key : IVec S256x128 32) (r : Fin 256) :
    32 ≤ (Finset.univ.filter fun m : Fin 128 => (Second.threshold key (ix2 r 0)).toNat ≤ (key (ix2 r m)).toNat).card
      ∧ (Finset.univ.filter fun m : Fin 128 => (Second.threshold key (ix2 r 0)).toNat < (key (ix2 r m)).toNat).card < 32 := by
  have key := fold_inv (n := k0_t4_loop.trips) (fun (k : Fin k0_t4_loop.trips) (t : IVec S256x1 32) => k0_pay655 key k t) k0_pay654
    (fun i t => (t (ix2 r 0)).toNat % 2 ^ (32 - i) = 0
      ∧ 32 ≤ (Finset.univ.filter fun m : Fin 128 => (t (ix2 r 0)).toNat ≤ (key (ix2 r m)).toNat).card
      ∧ (Finset.univ.filter fun m : Fin 128 => (t (ix2 r 0)).toNat + 2 ^ (32 - i) ≤ (key (ix2 r m)).toNat).card < 32)
    ?_ ?_
  · exact ⟨key.2.1, key.2.2⟩
  · have z : ((k0_pay654 (ix2 r 0)).toNat) = 0 := rfl
    rw [z]
    refine ⟨Nat.zero_mod _, ?_, ?_⟩
    · rw [Finset.filter_true_of_mem (fun m _ => Nat.zero_le _), Finset.card_univ, Fintype.card_fin]; decide
    · rw [Finset.filter_false_of_mem (fun m _ => ?_)]
      · decide
      · have := (key (ix2 r m)).isLt
        show ¬ (0 + 2 ^ 32 ≤ _)
        omega
  · intro k t ⟨h0, h1, h2⟩
    have hk : k.val < 32 := k.isLt
    have hiv : Scalar.shli 1#32 (Scalar.subi 31#32 (Scf.iv 0#32 1#32 k)) = 1#32 <<< (31 - k.val) := by
      have h : ∀ k : Fin 32, Scalar.shli 1#32 (Scalar.subi 31#32 (Scf.iv 0#32 1#32 k)) = 1#32 <<< (31 - k.val) := by decide
      exact h ⟨k.val, hk⟩
    have hset := set_bit k.val _ hk h0 (t (ix2 r 0)).isLt
    rw [BitVec.ofNat_toNat, BitVec.setWidth_eq] at hset
    have hval : k0_pay655 key k t (ix2 r 0) = if 32 ≤ (Finset.univ.filter fun m : Fin 128 =>
        (t (ix2 r 0)).toNat + 2 ^ (31 - k.val) ≤ (key (ix2 r m)).toNat).card then t (ix2 r 0) ||| (1#32 <<< (31 - k.val)) else t (ix2 r 0) := by
      have hr := reach_apply key (ori t (broadcast S256x1 (Scalar.shli 1#32 (Scalar.subi 31#32 (Scf.iv 0#32 1#32 k))))) r
      rw [ori_broadcast, hiv, hset] at hr
      rw [← hr, ← hiv]
      refine (radix_step key k t r).trans ?_
      rw [reached, select_flag]
      · simp only [decide_eq_true_eq]; rfl
      · rw [hiv, hr]
        exact (Finset.card_filter_le _ _).trans_eq (by rw [Finset.card_univ, Fintype.card_fin])
    have e : 2 ^ (32 - k.val) = 2 ^ (31 - k.val) * 2 := by
      rw [← pow_succ, show 31 - k.val + 1 = 32 - k.val by omega]
    have e' : 32 - (k.val + 1) = 31 - k.val := by omega
    rw [hval, e']
    have hdiv : 2 ^ (31 - k.val) ∣ (t (ix2 r 0)).toNat := Dvd.dvd.trans ⟨2, e⟩ (Nat.dvd_of_mod_eq_zero h0)
    split
    · rename_i hc
      rw [hset]
      refine ⟨Nat.mod_eq_zero_of_dvd (Nat.dvd_add hdiv dvd_rfl), hc, ?_⟩
      rw [add_assoc, ← mul_two, ← e]
      exact h2
    · rename_i hc
      exact ⟨Nat.mod_eq_zero_of_dvd hdiv, h1, not_le.mp hc⟩

end Cert.NearKeys

end
-- ==== Proof.Consts.lean ====
/-
  The float constants of the programs as numbers.
-/
module

public import proofs.«01_k».proof.Proof.Counts
public import proofs.«01_k».proof.Proof.Second

@[expose] public section

set_option maxRecDepth 16384

noncomputable section

namespace Cert.Consts

open Idealize.ShloMosaic Cert.Counts

/-- The literals count from 0 to 31. -/
theorem literal_eq : ∀ i : Fin 32, Ideal.ofBits .f32 (Second.literal i.val) = num i.val := by
  intro i
  fin_cases i <;> simp [Second.literal, num, Ideal.ofBits, Ideal.ieee, -EReal.coe_mul] <;> norm_num

/-- A whole number read as a word. -/
theorem fptosi_num (n : ℕ) (hn : n < 2 ^ 31) : Ideal.fptosi 32 (num n) = BitVec.ofNat 32 n := by
  show BitVec.ofInt 32 (max (-((2 ^ 31 : ℕ) : ℤ)) (min (((2 ^ 31 : ℕ) : ℤ) - 1) (if (0 : ℝ) ≤ (n : ℝ) then ⌊(n : ℝ)⌋ else ⌈(n : ℝ)⌉))) = _
  rw [if_pos (Nat.cast_nonneg n), Int.floor_natCast, min_eq_right (by omega), max_eq_right (by omega)]
  rfl

/-- The start of a greatest value. -/
theorem bottom_eq : Ideal.ofBits .f32 0xFF800000#32 = ⊥ := by
  simp [Ideal.ofBits, Ideal.ieee]

theorem sixteenth : Ideal.ofBits .f32 0x3D800000#32 = ((1 / 16 : ℝ) : EReal) := by
  simp [Ideal.ofBits, Ideal.ieee, -EReal.coe_mul] <;> norm_num

theorem eighth : Ideal.ofBits .f32 0x3E000000#32 = ((1 / 8 : ℝ) : EReal) := by
  simp [Ideal.ofBits, Ideal.ieee, -EReal.coe_mul] <;> norm_num

theorem two_eq : Ideal.ofBits .f32 0x40000000#32 = ((2 : ℝ) : EReal) := by
  simp [Ideal.ofBits, Ideal.ieee, -EReal.coe_mul] <;> norm_num

theorem points_eq : Ideal.ofBits .f32 0x45800000#32 = ((4096 : ℝ) : EReal) := by
  simp [Ideal.ofBits, Ideal.ieee, -EReal.coe_mul] <;> norm_num

theorem slots_eq : Ideal.ofBits .f32 0x48000000#32 = ((131072 : ℝ) : EReal) := by
  simp [Ideal.ofBits, Ideal.ieee, -EReal.coe_mul] <;> norm_num

/-- The numbers of values of a group, less nothing. -/
theorem group_points : Ideal.ofBits .f32 0x47800000#32 = ((65536 : ℝ) : EReal) := by
  simp [Ideal.ofBits, Ideal.ieee, -EReal.coe_mul] <;> norm_num

theorem group_slots : Ideal.ofBits .f32 0x49800000#32 = ((1048576 : ℝ) : EReal) := by
  simp [Ideal.ofBits, Ideal.ieee, -EReal.coe_mul] <;> norm_num

/-- The small number under the roots is a positive real. -/
theorem tiny_eq : ∃ t : ℝ, 0 < t ∧ Ideal.ofBits .f32 0x3727C5AC#32 = (t : EReal) := by
  refine ⟨10995116 * (2 ^ 40)⁻¹, ?_, ?_⟩
  · norm_num
  · simp [Ideal.ofBits, Ideal.ieee, -EReal.coe_mul] <;> norm_num

theorem zero_eq : Ideal.ofBits .f32 0x00000000#32 = 0 := by
  simp [Ideal.ofBits, Ideal.ieee]

/-- The bound of the finite numbers. -/
theorem infinity_eq : Ideal.ofBits .f32 0x7F800000#32 = ⊤ := by
  simp [Ideal.ofBits, Ideal.ieee]

end Cert.Consts

end
-- ==== Proof.Nearest.lean ====
/-
  The second selection at an index: the mask marks the 32 of the 128 that come first when a row is sorted from the greatest,
  equal ones by column, and the gather of a slot reads the entry of the marked column with the slot's number.
-/
module

public import proofs.«01_k».proof.Proof.NearKeys
public import proofs.«01_k».proof.Proof.Select
public import proofs.«01_k».proof.Proof.Places
public import proofs.«01_k».proof.Proof.Consts

@[expose] public section

set_option maxRecDepth 16384

noncomputable section

namespace Cert.Nearest

open Idealize.ShloMosaic Cert.KernelIdeal Cert.KernelIdeal.Gen Cert.Block Cert.Order Cert.Reads Cert.Counts Cert.NearKeys

/-! ## Running counts by doubling -/

/-- Every word of a row counts the marked columns among the last `s` up to its own. -/
def Runs (x : Fin 128 → BitVec 32) (p : ℕ → Prop) [DecidablePred p] (s : ℕ) : Prop :=
  ∀ l : Fin 128, x l = BitVec.ofNat 32 (Nat.count p (l.val + 1) - Nat.count p (l.val + 1 - s))

variable {p : ℕ → Prop} [DecidablePred p] {r : Fin 256}

/-- Adding the words `s` columns before doubles the stretch that is counted. -/
theorem runs_double {x y : Fin 128 → BitVec 32} {s : ℕ} (hx : Runs x p s)
    (hy : ∀ l : Fin 128, y l = x l + if h : l.val < s then 0#32 else x ⟨l.val - s, by omega⟩) : Runs y p (s + s) := by
  intro l
  rw [hy, hx l]
  by_cases h : l.val < s
  · rw [dif_pos h, show l.val + 1 - s = 0 by omega, show l.val + 1 - (s + s) = 0 by omega]
    exact BitVec.add_zero _
  · rw [dif_neg h, hx, ← BitVec.ofNat_add]
    have h1 : Nat.count p (l.val + 1 - s) ≤ Nat.count p (l.val + 1) := Nat.count_monotone p (by omega)
    have h2 : Nat.count p (l.val + 1 - (s + s)) ≤ Nat.count p (l.val + 1 - s) := Nat.count_monotone p (by omega)
    rw [show l.val - s + 1 = l.val + 1 - s by omega, show l.val + 1 - s - s = l.val + 1 - (s + s) by omega]
    congr 1
    omega

/-- The flags themselves count the last column alone. -/
theorem runs_flags (eq : IVec S256x128 1) (h : ∀ l : Fin 128, eq (ix2 r l) = 1#1 ↔ p l.val) :
    Runs (fun l => extui 32 eq natLt_1_32 (ix2 r l)) p 1 := by
  intro l
  show BitVec.setWidth 32 (eq (ix2 r l)) = _
  rw [Nat.add_sub_cancel, Nat.count_succ, Nat.add_sub_cancel_left]
  by_cases hp : p l.val
  · rw [if_pos hp, (h l).mpr hp]; rfl
  · rw [if_neg hp]
    have hne : ∀ b : BitVec 1, b ≠ 1#1 → BitVec.setWidth 32 b = 0#32 := by decide
    exact hne _ fun e => hp ((h l).mp e)

/-- A doubling step at an index, for the seven widths. -/
theorem shifted_apply (x : IVec S256x128 32) (r : Fin 256) (l : Fin 128) :
    (Second.shifted S256x1 S256x127 slices_S256x128_o0_0_S256x127 concatenates_S256x1_S256x127_S256x128_d1 x (ix2 r l)
        = x (ix2 r l) + if h : l.val < 1 then 0#32 else x (ix2 r ⟨l.val - 1, by omega⟩))
    ∧ (Second.shifted S256x2 S256x126 slices_S256x128_o0_0_S256x126 concatenates_S256x2_S256x126_S256x128_d1 x (ix2 r l)
        = x (ix2 r l) + if h : l.val < 2 then 0#32 else x (ix2 r ⟨l.val - 2, by omega⟩))
    ∧ (Second.shifted S256x4 S256x124 slices_S256x128_o0_0_S256x124 concatenates_S256x4_S256x124_S256x128_d1 x (ix2 r l)
        = x (ix2 r l) + if h : l.val < 4 then 0#32 else x (ix2 r ⟨l.val - 4, by omega⟩))
    ∧ (Second.shifted S256x8 S256x120 slices_S256x128_o0_0_S256x120 concatenates_S256x8_S256x120_S256x128_d1 x (ix2 r l)
        = x (ix2 r l) + if h : l.val < 8 then 0#32 else x (ix2 r ⟨l.val - 8, by omega⟩))
    ∧ (Second.shifted S256x16 S256x112 slices_S256x128_o0_0_S256x112 concatenates_S256x16_S256x112_S256x128_d1 x (ix2 r l)
        = x (ix2 r l) + if h : l.val < 16 then 0#32 else x (ix2 r ⟨l.val - 16, by omega⟩))
    ∧ (Second.shifted S256x32 S256x96 slices_S256x128_o0_0_S256x96 concatenates_S256x32_S256x96_S256x128_d1 x (ix2 r l)
        = x (ix2 r l) + if h : l.val < 32 then 0#32 else x (ix2 r ⟨l.val - 32, by omega⟩))
    ∧ (Second.shifted S256x64 S256x64 slices_S256x128_o0_0_S256x64 concatenates_S256x64_S256x64_S256x128_d1 x (ix2 r l)
        = x (ix2 r l) + if h : l.val < 64 then 0#32 else x (ix2 r ⟨l.val - 64, by omega⟩)) := by
  refine ⟨?_, ?_, ?_, ?_, ?_, ?_, ?_⟩ <;>
  · unfold Second.shifted
    pointwise
    rfl

theorem counts_apply (eq : IVec S256x128 1) (h : ∀ l : Fin 128, eq (ix2 r l) = 1#1 ↔ p l.val) (l : Fin 128) :
    Second.counts eq (ix2 r l) = BitVec.ofNat 32 (Nat.count p (l.val + 1)) := by
  have e : Runs (fun l => Second.counts eq (ix2 r l)) p 128 :=
    runs_double (s := 64) (runs_double (s := 32) (runs_double (s := 16) (runs_double (s := 8) (runs_double (s := 4) (runs_double (s := 2)
      (runs_double (s := 1) (runs_flags eq h) fun l => (shifted_apply _ r l).1) fun l => (shifted_apply _ r l).2.1)
      fun l => (shifted_apply _ r l).2.2.1) fun l => (shifted_apply _ r l).2.2.2.1) fun l => (shifted_apply _ r l).2.2.2.2.1)
      fun l => (shifted_apply _ r l).2.2.2.2.2.1) fun l => (shifted_apply _ r l).2.2.2.2.2.2
  have h1 := e l
  rw [show l.val + 1 - 128 = 0 by omega, Nat.count_zero, Nat.sub_zero] at h1
  exact h1

/-! ## The mask -/

section
variable (key : IVec S256x128 32) (t : IVec S256x1 32) (r : Fin 256) (m : Fin 128)

theorem gt_apply : k0_pay656 key t (ix2 r m) = 1#1 ↔ (t (ix2 r 0)).toNat < (key (ix2 r m)).toNat := by
  unfold k0_pay656
  pointwise
  show BitVec.ofBool ((t (ix2 r 0)).ult (key (ix2 r m))) = 1#1 ↔ _
  rw [BitVec.ult]
  by_cases h : (t (ix2 r 0)).toNat < (key (ix2 r m)).toNat
  · rw [decide_eq_true h]; exact ⟨fun _ => h, fun _ => rfl⟩
  · rw [decide_eq_false h]; exact ⟨fun e => absurd e (by decide), fun e => absurd e h⟩

theorem eq_apply : k0_pay658 key t (ix2 r m) = 1#1 ↔ (key (ix2 r m)).toNat = (t (ix2 r 0)).toNat := by
  unfold k0_pay658
  pointwise
  show BitVec.ofBool (key (ix2 r m) == t (ix2 r 0)) = 1#1 ↔ _
  rw [← BitVec.toNat_inj.symm]
  by_cases h : key (ix2 r m) = t (ix2 r 0)
  · rw [beq_iff_eq.mpr h]; exact ⟨fun _ => h, fun _ => rfl⟩
  · rw [beq_eq_false_iff_ne.mpr h]; exact ⟨fun e => absurd e (by decide), fun e => absurd e h⟩

theorem wanted_apply (h : (Finset.univ.filter fun m : Fin 128 => (t (ix2 r 0)).toNat < (key (ix2 r m)).toNat).card < 32) :
    subi (broadcast S256x1 32#32) (k0_pay657 key t) (ix2 r 0)
      = BitVec.ofNat 32 (32 - (Finset.univ.filter fun m : Fin 128 => (t (ix2 r 0)).toNat < (key (ix2 r m)).toNat).card) := by
  have hc := above_apply key t r
  show 32#32 - shapeCast S256x1 (multiReductionI .add [1] S256 (extui 32 (k0_pay656 key t) natLt_1_32)
      0#32 reduces_S256x128_S256 rfl) shapeCasts_S256_S256x1 (ix2 r 0) = _
  rw [← hc] at h ⊢
  generalize shapeCast S256x1 _ _ _ = c at h ⊢
  apply BitVec.eq_of_toNat_eq
  rw [BitVec.toNat_sub, BitVec.toNat_ofNat, BitVec.toNat_ofNat]
  omega

end

/-- A mask that marks the columns with `p`. -/
def Flags (x : IVec S256x128 1) (r : Fin 256) (p : ℕ → Prop) : Prop := ∀ m : Fin 128, x (ix2 r m) = 1#1 ↔ p m.val

/-- The mask marks the 32 that come first. -/
theorem mask_apply (x : FVec Ideal S256x128 .f32) (r : Fin 256) :
    Flags (Second.mask (Second.keys x) (Second.threshold (Second.keys x))) r (Chosen (α := EReal) (rowOf x r) 32) := by
  intro m
  have ht := threshold_apply (Second.keys x) r
  have hkey : ∀ m, (Second.keys x (ix2 r m)).toNat = rank (α := EReal) (rowOf x r) m := fun m => by
    rw [keys_apply, BitVec.toNat_ofNat, Nat.mod_eq_of_lt]
    exact lt_of_le_of_lt (rank_le _ _) (by decide)
  have hcount := counts_apply (r := r) (p := fun l => ∃ h : l < 128, (Second.keys x (ix2 r ⟨l, h⟩)).toNat = (Second.threshold (Second.keys x) (ix2 r 0)).toNat)
    (k0_pay658 (Second.keys x) (Second.threshold (Second.keys x))) (fun l => (eq_apply _ _ r l).trans ⟨fun h => ⟨l.isLt, h⟩, fun ⟨_, h⟩ => h⟩) m
  have hw := wanted_apply (Second.keys x) (Second.threshold (Second.keys x)) r ht.2
  unfold Second.mask
  show (k0_pay656 _ _ (ix2 r m) ||| (k0_pay658 _ _ (ix2 r m) &&& IntOp.cmpi .sle (Second.counts _ (ix2 r m))
    (broadcastTo S256x128 (subi (broadcast S256x1 32#32) (k0_pay657 _ _)) broadcasts_S256x1_S256x128 (ix2 r m)))) = 1#1 ↔ _
  rw [show ∀ y : IVec S256x1 32, broadcastTo S256x128 y broadcasts_S256x1_S256x128 (ix2 r m) = y (ix2 r 0) from fun y => by pointwise]
  have hle : Nat.count (fun l => ∃ h : l < 128, (Second.keys x (ix2 r ⟨l, h⟩)).toNat = (Second.threshold (Second.keys x) (ix2 r 0)).toNat) (m.val + 1) ≤ m.val + 1 :=
    Nat.count_le _
  rw [hcount, hw, Select.flags_or, Select.flags_and, word_le _ _ (by omega) (by omega), gt_apply, eq_apply]
  generalize (Second.threshold (Second.keys x) (ix2 r 0)).toNat = T at ht ⊢
  simp only [hkey] at ht ⊢
  rw [count_eq_card _ (m.val + 1) (n := 128) (by omega)]
  have hplace := place_lt_iff (α := EReal) (rowOf x r) 32 T ht.1 ht.2 m
  have hch : Chosen (α := EReal) (rowOf x r) 32 m.val ↔ place (α := EReal) (rowOf x r) m < 32 :=
    ⟨fun ⟨_, h⟩ => h, fun h => ⟨m.isLt, h⟩⟩
  rw [hch, hplace]
  refine or_congr Iff.rfl (and_congr Iff.rfl ?_)
  have e : (Finset.univ.filter fun l : Fin 128 => l.val < m.val + 1 ∧ ∃ h : l.val < 128, rank (α := EReal) (rowOf x r) ⟨l.val, h⟩ = T)
      = Finset.univ.filter fun l : Fin 128 => l ≤ m ∧ rank (α := EReal) (rowOf x r) l = T := by
    ext l
    simp only [Finset.mem_filter, Finset.mem_univ, true_and, Fin.le_def]
    exact ⟨fun h => ⟨Nat.le_of_lt_succ h.1, h.2.2⟩, fun h => ⟨Nat.lt_succ_of_le h.1, l.isLt, h.2⟩⟩
  rw [e]
  have := ht.2
  omega

/-! ## The positions -/

theorem inclusive_apply {x : IVec S256x128 1} (hx : Flags x r p) (l : Fin 128) :
    (Second.inclusive (F := Ideal) x (ix2 r l) : EReal) = num (Nat.count p (l.val + 1)) := by
  have h1 : (Second.inclusive (F := Ideal) x (ix2 r l) : EReal) = ∑ k : Fin 128, if p k.val ∧ k ≤ l then (1 : EReal) else 0 := by
    unfold Second.inclusive
    pointwise
    refine Finset.sum_congr rfl fun k _ => ?_
    rw [asNum_apply, triangle_apply, if_congr (hx k) rfl rfl]
    by_cases ha : p k.val <;> by_cases hb : k ≤ l <;> simp [ha, hb]
  rw [h1, sum_flags]
  rw [count_eq_card _ (l.val + 1) (n := 128) (by omega)]
  congr 2
  ext k
  simp only [Finset.mem_filter, Finset.mem_univ, true_and, Fin.le_def]
  exact ⟨fun h => ⟨Nat.lt_succ_of_le h.2, h.1⟩, fun h => ⟨h.2, Nat.le_of_lt_succ h.1⟩⟩

theorem num_inj (a b : ℕ) : num a = num b ↔ a = b :=
  ⟨fun h => le_antisymm ((num_le a b).mp h.le) ((num_le b a).mp h.ge), fun h => by rw [h]⟩

/-- The number of columns whose running count is `i`, as the kernel adds it up. -/
theorem level_apply (y : FVec Ideal S256x128 .f32) (hy : ∀ l : Fin 128, (y (ix2 r l) : EReal) = num (Nat.count p (l.val + 1))) (i : Fin 32) :
    (Second.level (F := Ideal) y i.val (ix2 r 0) : EReal)
      = num (Finset.univ.filter fun l : Fin 128 => Nat.count p (l.val + 1) = i.val).card := by
  have h1 : (Second.level (F := Ideal) y i.val (ix2 r 0) : EReal) = ∑ l : Fin 128, if Nat.count p (l.val + 1) = i.val then (1 : EReal) else 0 := by
    unfold Second.level
    pointwise
    refine Finset.sum_congr rfl fun l _ => ?_
    rw [hy, Consts.literal_eq]
    exact if_congr (num_inj _ _) rfl rfl
  rw [h1, sum_flags]

theorem reached_apply (y : FVec Ideal S256x128 .f32) (hy : ∀ l : Fin 128, (y (ix2 r l) : EReal) = num (Nat.count p (l.val + 1))) (n : ℕ) (hn : n ≤ 32) :
    (Second.reached y n (ix2 r 0) : EReal) = num (Finset.univ.filter fun l : Fin 128 => Nat.count p (l.val + 1) < n).card := by
  induction n with
  | zero =>
    rw [Finset.filter_false_of_mem (fun _ _ => Nat.not_lt_zero _), Finset.card_empty, num_zero]
    exact Ideal.ofBits_zero_f32
  | succ n ih =>
    have e : (Second.reached (F := Ideal) y (n + 1) (ix2 r 0) : EReal)
      = (Second.reached (F := Ideal) y n (ix2 r 0) : EReal) + (Second.level (F := Ideal) y n (ix2 r 0) : EReal) := rfl
    rw [e, ih (by omega), level_apply y hy ⟨n, by omega⟩, num_add, ← Finset.card_union_of_disjoint, ← Finset.filter_or]
    · congr 2
      ext l
      simp only [Finset.mem_filter, Finset.mem_univ, true_and]
      omega
    · rw [Finset.disjoint_left]
      intro l h1 h2
      simp only [Finset.mem_filter, Finset.mem_univ, true_and] at h1 h2
      omega

/-- The position of slot `k` is the column of the `k`-th marked. -/
theorem positions_apply (y : FVec Ideal S256x128 .f32) (hy : ∀ l : Fin 128, (y (ix2 r l) : EReal) = num (Nat.count p (l.val + 1)))
    (k : Fin 32) {q : ℕ} (hp : p q) (hq : Nat.count p q = k.val) (hq' : q < 128) :
    Second.positions y (ix2 r k) = BitVec.ofNat 32 q := by
  have h1 : (Second.reached (F := Ideal) y (k.val + 1) (ix2 r 0) : EReal) = num q := by
    rw [reached_apply y hy _ (by omega)]
    have e : (Finset.univ.filter fun l : Fin 128 => Nat.count p (l.val + 1) < k.val + 1) = Finset.univ.filter fun l : Fin 128 => l < (⟨q, hq'⟩ : Fin 128) := by
      ext l
      simp only [Finset.mem_filter, Finset.mem_univ, true_and, Fin.lt_def]
      rw [Nat.lt_succ_iff, Places.count_le_iff p hp hq]
      exact Nat.succ_le_iff
    rw [e, show (Finset.univ.filter fun l : Fin 128 => l < (⟨q, hq'⟩ : Fin 128)) = Finset.Iio ⟨q, hq'⟩ from by ext l; simp, Fin.card_Iio]
  unfold Second.positions
  show Ideal.fptosi 32 (concatenate S256x32 1 (List.ofFn fun i : Fin 32 => ⟨S256x1, Second.reached (F := Ideal) y (i.val + 1)⟩)
    (concatenates_columns fun i => Second.reached (F := Ideal) y (i.val + 1)) (ix2 r k)) = _
  rw [columns_apply, h1]
  exact Consts.fptosi_num q (by omega)

/-- A slot of the gather reads the entry at its position. -/
theorem gather_apply (x : FVec Ideal S256x128 .f32) (i : IVec S256x32 32) (r : Fin 256) (k : Fin 32) (q : ℕ) (hq : q < 128)
    (h : i (ix2 r k) = BitVec.ofNat 32 q) : Second.gather x i (ix2 r k) = x (ix2 r ⟨q, hq⟩) := by
  have e : IntOp.cmpi .slt (BitVec.ofNat 32 q) 0#32 = 0#1 := by
    show BitVec.ofBool (decide ((BitVec.ofNat 32 q).toInt < 0)) = 0#1
    rw [toInt_ofNat q (by omega), decide_eq_false (by omega)]
    rfl
  have hj : ∀ z : IVec S256x128 32, z (ix2 r (k.castLE (by decide))) = BitVec.ofNat 32 q →
      shapeCast S256x128 (shapeCast S256x128x1 (select (cmpi .slt z (broadcast S256x128 0#32)) (addi z (broadcast S256x128 128#32)) z)
        shapeCasts_S256x128_S256x128x1) shapeCasts_S256x128x1_S256x128 (ix2 r (k.castLE (by decide))) = BitVec.ofNat 32 q := by
    intro z hz
    pointwise
    rw [hz, e]
    rfl
  have hc : concatenate S256x128 1 [⟨S256x32, i⟩, ⟨S256x32, i⟩, ⟨S256x32, i⟩, ⟨S256x32, i⟩]
      concatenates_S256x32_S256x32_S256x32_S256x32_S256x128_d1 (ix2 r (k.castLE (by decide))) = i (ix2 r k) := by
    pointwise
    exact dif_pos k.isLt
  have hj' := hj _ (hc.trans h)
  unfold Second.gather
  rw [show ∀ y : FVec Ideal S256x128 .f32, extractStridedSlice S256x32 ![0, 0] y slices_S256x128_o0_0_S256x32 (ix2 r k)
    = y (ix2 r (k.castLE (by decide))) from fun y => by pointwise; rfl]
  unfold dynamicGather
  refine congrArg x (funext fun a => Fin.ext ?_)
  match a with
  | ⟨0, _⟩ => rfl
  | ⟨1, _⟩ =>
    refine (congrArg (fun b : BitVec 32 => b.toNat % 128) hj').trans ?_
    show (BitVec.ofNat 32 q).toNat % 128 = q
    rw [BitVec.toNat_ofNat]
    omega

/-- The gather of the nearest reads, in slot `k`, the entry of the `k`-th of the 32 that come first, in column order. -/
theorem nearest_apply (y x : FVec Ideal S256x128 .f32) (r : Fin 256) (k : Fin 32) :
    Second.gather x (Second.nearest y) (ix2 r k)
      = x (ix2 r ⟨kth (α := EReal) (rowOf y r) 32 k.val, (kth_facts (α := EReal) (rowOf y r) 32 (by decide) k.val k.isLt).2.1⟩) := by
  have hk := kth_facts (α := EReal) (rowOf y r) 32 (by decide) k.val k.isLt
  exact gather_apply x _ r k _ hk.2.1 (positions_apply _ (inclusive_apply (mask_apply y r)) k hk.1 hk.2.2 hk.2.1)

end Cert.Nearest

end
-- ==== Proof.Knn.lean ====
/-
  The second half in plain terms: of a point's 128 candidates the 32 nearest, their products and offsets, and the second layer
  over them. The candidates can be taken in column order or from the greatest product; where the 32 nearest are determined,
  sums and greatest values over them are the same.
-/
module

public import proofs.«01_k».proof.Proof.Model

@[expose] public section

noncomputable section

namespace Cert.Knn

open Idealize.ShloMosaic Cert.Order Cert.Model

/-- Minus the squared distance of a candidate from a point. -/
def close (c : Place) (e : Entry) : EReal :=
  -((e.at'.x - c.x) * (e.at'.x - c.x) + (e.at'.y - c.y) * (e.at'.y - c.y) + (e.at'.z - c.z) * (e.at'.z - c.z))

/-- A candidate's product and its three offsets from a point. -/
def parts (c : Place) (e : Entry) : Fin 4 → EReal := ![e.val, e.at'.x - c.x, e.at'.y - c.y, e.at'.z - c.z]

variable (s : Fin 4096 → EReal) (c : Place) (e : Fin 4096 → Entry)

/-- The `k`-th of the 128 candidates with the greatest products, in column order. -/
def column (k : Fin 128) : Fin 4096 := ⟨kth s 128 k.val, (kth_facts s 128 (by decide) k.val k.isLt).2.1⟩

/-- The `k`-th of the 128 candidates, the greatest product first. -/
def ranked (k : Fin 128) : Fin 4096 := sorted s (k.castLE (by decide))

/-- The `t`-th of the 32 nearest of the 128 candidates, all in column order. -/
def nearColumn (t : Fin 32) : Fin 4096 :=
  column s ⟨kth (fun k => close c (e (column s k))) 32 t.val, (kth_facts (fun k => close c (e (column s k))) 32 (by decide) t.val t.isLt).2.1⟩

/-- The `t`-th nearest of the 128 candidates, equally near ones from the greatest product. -/
def nearRanked (t : Fin 32) : Fin 4096 := ranked s (sorted (fun k => close c (e (ranked s k))) (t.castLE (by decide)))

/-- The 32nd and the 33rd nearest are not equally near. -/
def Untied : Prop :=
  close c (e (ranked s (sorted (fun k => close c (e (ranked s k))) 32))) < close c (e (ranked s (sorted (fun k => close c (e (ranked s k))) 31)))

end Cert.Knn

end
-- ==== Proof.NearRow.lean ====
/-
  The four values of the nearest at an index: slot `t` of a point holds the product and the offsets of the `t`-th of the 32
  nearest of its 128 candidates, in column order.
-/
module

public import proofs.«01_k».proof.Proof.Row
public import proofs.«01_k».proof.Proof.Nearest
public import proofs.«01_k».proof.Proof.Knn

@[expose] public section

set_option maxRecDepth 16384

noncomputable section

namespace Cert.NearRow

open Idealize.ShloMosaic Cert.KernelIdeal Cert.KernelIdeal.Gen Cert.Block Cert.Order Cert.Reads Cert.Counts Cert.Model Cert.Knn Cert.Row

theorem apart_apply (t : FVec Ideal S256x128 .f32) (c : FVec Ideal S256x1 .f32) (r : Fin 256) (k : Fin 128) :
    (Second.apart t c (ix2 r k) : EReal) = t (ix2 r k) - c (ix2 r 0) := by
  unfold Second.apart
  pointwise

theorem closeness_apply (dx dy dz : FVec Ideal S256x128 .f32) (j : S256x128.Idx) :
    (Second.closeness dx dy dz j : EReal) = -((dx j : EReal) * dx j + dy j * dy j + dz j * dz j) := by
  unfold Second.closeness
  pointwise
  rw [sub_eq_add_neg, zero_add]

variable (x0 : Vec Ideal S1x128x256 .f32) (x1 : Vec Ideal S1x128x4096 .f32) (x2 : Vec Ideal S1x8x4096 .f32)
  (x3 : Vec Ideal S1x8x256 .f32)

theorem blockFour_apply (a : Fin 4) (r : Fin 256) (t : Fin 32) :
    (Second.blockFour (F := Ideal) x0 x1 (row x2 0) (row x2 1) (row x2 2) x3 a (ix2 r t) : EReal)
      = parts (point x3 r) (entry x0 x1 x2 r (nearColumn (scores x0 x1 r) (point x3 r) (entry x0 x1 x2 r) t)) a := by
  have hrow : Keys.rowOf (α := EReal) (corr (F := Ideal) x0 x1) r = scores x0 x1 r := funext fun m => corr_apply x0 x1 r m
  have hx := Select.chosen_apply x0 x1 r
  rw [hrow] at hx
  have hk := fun k : Fin 128 => kth_facts (scores x0 x1 r) 128 (by decide) k.val k.isLt
  have ht := fun (k : Fin 128) (y : FVec Ideal S256x4096 .f32) => Places.take_chosen k hx (hk k).1 (hk k).2.2 (hk k).2.1 y
  unfold Second.blockFour Second.nearFour
  generalize windowOf (chosen (F := Ideal) (keys x0 x1) (threshold (keys x0 x1))) = win at ht ⊢
  generalize columnOf (stack (running (chosen (F := Ideal) (keys x0 x1) (threshold (keys x0 x1))))) win _ = loc at ht ⊢
  have hv : ∀ k : Fin 128, (take (corr (F := Ideal) x0 x1) win loc (ix2 r k) : EReal) = scores x0 x1 r (column (scores x0 x1 r) k) :=
    fun k => (ht k _).trans (corr_apply x0 x1 r _)
  have hd : ∀ (d : Fin 8) (cc : FVec Ideal S256x1 .f32) (k : Fin 128),
      (Second.apart (take (coordRow (F := Ideal) (row x2 d)) win loc) cc (ix2 r k) : EReal)
        = (x2 (ix3 0 d (column (scores x0 x1 r) k)) : EReal) - cc (ix2 r 0) := fun d cc k =>
    (apart_apply _ _ r k).trans (congrArg (fun y : EReal => y - (cc (ix2 r 0) : EReal)) ((ht k _).trans (row_apply x2 d r _)))
  have hc : NearKeys.rowOf (α := EReal) (Second.closeness (Second.apart (take (coordRow (F := Ideal) (row x2 0)) win loc) (k0_pay392 x3))
      (Second.apart (take (coordRow (F := Ideal) (row x2 1)) win loc) (k0_pay393 x3))
      (Second.apart (take (coordRow (F := Ideal) (row x2 2)) win loc) (k0_pay394 x3))) r
      = fun k => close (point x3 r) (entry x0 x1 x2 r (column (scores x0 x1 r) k)) := by
    funext k
    refine (closeness_apply _ _ _ (ix2 r k)).trans ?_
    rw [hd, hd, hd, cx_apply, cy_apply, cz_apply]
    rfl
  have hn := fun (y : FVec Ideal S256x128 .f32) => Nearest.nearest_apply (Second.closeness (Second.apart (take (coordRow (F := Ideal) (row x2 0)) win loc) (k0_pay392 x3))
      (Second.apart (take (coordRow (F := Ideal) (row x2 1)) win loc) (k0_pay393 x3))
      (Second.apart (take (coordRow (F := Ideal) (row x2 2)) win loc) (k0_pay394 x3))) y r t
  simp only [hc] at hn
  unfold Second.four
  match a with
  | ⟨0, _⟩ => exact (hn _).trans (hv _)
  | ⟨1, _⟩ => exact (hn _).trans ((hd 0 _ _).trans (congrArg (fun y : EReal => _ - y) (cx_apply x3 r)))
  | ⟨2, _⟩ => exact (hn _).trans ((hd 1 _ _).trans (congrArg (fun y : EReal => _ - y) (cy_apply x3 r)))
  | ⟨3, _⟩ => exact (hn _).trans ((hd 2 _ _).trans (congrArg (fun y : EReal => _ - y) (cz_apply x3 r)))

theorem sumRow_apply (x : FVec Ideal S256x32 .f32) (l : Fin 128) :
    (Second.sumRow x (ix2 0 l) : EReal) = ∑ r : Fin 256, ∑ t : Fin 32, (x (ix2 r t) : EReal) := by
  unfold Second.sumRow
  pointwise

/-- A channel of the second layer: the greatest of its values over the 32 slots. -/
theorem channel_apply (w : Fin 4 → EReal) (b : EReal) (k : Fin 4 → FVec Ideal S256x32 .f32) (r : Fin 256) :
    (Second.channel (F := Ideal) w b k (ix2 r 0) : EReal)
      = Finset.univ.sup fun t : Fin 32 => w 0 * (k 0 (ix2 r t) : EReal) + w 1 * (k 1 (ix2 r t) : EReal)
          + w 2 * (k 2 (ix2 r t) : EReal) + w 3 * (k 3 (ix2 r t) : EReal) + b := by
  unfold Second.channel
  pointwise
  rw [Consts.bottom_eq]
  rfl

theorem channels_apply (w : Fin 64 → Fin 4 → EReal) (b : Fin 64 → EReal) (k : Fin 4 → FVec Ideal S256x32 .f32) (ch : Fin 64) (r : Fin 256) :
    (Second.channels (F := Ideal) w b k (ix3 0 ch r) : EReal)
      = Finset.univ.sup fun t : Fin 32 => w ch 0 * (k 0 (ix2 r t) : EReal) + w ch 1 * (k 1 (ix2 r t) : EReal)
          + w ch 2 * (k 2 (ix2 r t) : EReal) + w ch 3 * (k 3 (ix2 r t) : EReal) + b ch := by
  refine Eq.trans ?_ (channel_apply (w ch) (b ch) k r)
  have h1 : ∀ z : FVec Ideal S256x64 .f32, (shapeCast S1x64x256 (transpose S64x256 [1, 0] z transposes_S256x64_p1_0_S64x256)
    shapeCasts_S64x256_S1x64x256 (ix3 0 ch r) : EReal) = z (ix2 r ch) := fun z => by pointwise
  unfold Second.channels
  refine (h1 _).trans ?_
  rw [concatenate_ofFn_apply (t := S256x64) (s₁ := S256x1) (1 : Fin 2) (fun i : Fin 64 => Second.channel (F := Ideal) (w i) (b i) k) _ rfl 1 rfl
    (ix2 r ch) ch (Nat.div_one _) (ix2 r 0) (Nat.mod_one _).symm ?_]
  intro b hb
  match b with
  | ⟨0, _⟩ => rfl
  | ⟨1, _⟩ => exact absurd rfl hb

/-! ## The sums -/

/-- The 14 sums' terms at a slot with the four values `k`: the values, and their products. -/
def term (k : Fin 4 → EReal) : Fin 16 → EReal :=
  ![k 0, k 1, k 2, k 3, k 0 * k 0, k 0 * k 1, k 0 * k 2, k 0 * k 3, k 1 * k 1, k 1 * k 2, k 1 * k 3, k 2 * k 2, k 2 * k 3, k 3 * k 3, 0, 0]

theorem moments_apply (k : Fin 4 → FVec Ideal S256x32 .f32) (old : FVec Ideal S1x16x128 .f32) (j : S1x16x128.Idx) :
    (Second.moments k old j : EReal) = old j + ∑ r : Fin 256, ∑ t : Fin 32, term (fun a => (k a (ix2 r t) : EReal)) (j 1) := by
  have h : ∀ z : Fin 16 → FVec Ideal S1x128 .f32, (k0_pay4 (F := Ideal) (z 0) (z 1) (z 2) (z 3) (z 4) (z 5) (z 6) (z 7) (z 8) (z 9) (z 10) (z 11) (z 12) (z 13)
      k0_pay840 old j : EReal) = old j + if h : (j 1).val < 14 then (z ⟨(j 1).val, by omega⟩ (ix2 0 (j 2)) : EReal) else 0 := by
    intro z
    unfold k0_pay4 k0_pay840
    pointwise
    refine congrArg (old j + ·) ?_
    generalize (j 1 : Fin 16) = i
    fin_cases i <;> rfl
  refine (h fun i => Second.sumRow fun j => term (fun a => (k a j : EReal)) i).trans (congrArg (old j + ·) ?_)
  by_cases h14 : (j 1).val < 14
  · rw [dif_pos h14]
    exact sumRow_apply _ _
  · rw [dif_neg h14]
    refine (Finset.sum_eq_zero fun r _ => Finset.sum_eq_zero fun t _ => ?_).symm
    have h2 : ∀ (i : Fin 16), ¬ i.val < 14 → ∀ k, term k i = 0 := by
      intro i hi k
      have : i = 14 ∨ i = 15 := by omega
      rcases this with rfl | rfl <;> rfl
    exact h2 (j 1) h14 _

end Cert.NearRow

end
-- ==== Proof.Full.lean ====
/-
  The whole model: the arrays of the second half, and what it computes at each point from the values of the nearest.
-/
module

public import proofs.«01_k».proof.Proof.NearRow

@[expose] public section

noncomputable section

namespace Cert.Full

open Idealize.ShloMosaic Cert.Order Cert.Model Cert.Knn

/-- The arrays of the second half: the two norms' scales, offsets and slopes, and the weights of the layers. -/
structure Weights where
  g1 : Fin 128 → EReal
  be1 : Fin 128 → EReal
  a1 : EReal
  w2 : Fin 64 → Fin 128 → EReal
  b2 : Fin 64 → EReal
  wk : Fin 64 → Fin 4 → EReal
  bk : Fin 64 → EReal
  gk : Fin 64 → EReal
  bek : Fin 64 → EReal
  ak : EReal
  wo : Fin 64 → Fin 64 → EReal
  bo : Fin 64 → EReal

/-- A channel of the second layer at the four values of a slot. -/
def linear (w : Fin 4 → EReal) (b : EReal) (k : Fin 4 → EReal) : EReal := w 0 * k 0 + w 1 * k 1 + w 2 * k 2 + w 3 * k 3 + b

/-- Its greatest value over the 32 slots. -/
def greatest (w : Fin 4 → EReal) (b : EReal) (k : Fin 32 → Fin 4 → EReal) : EReal := Finset.univ.sup fun t => linear w b (k t)

section

variable (I : Arrays) (b : Fin 2) (n : Fin 4096)

/-- The position of a point. -/
def here : Place := ⟨I.crd b n 0, I.crd b n 1, I.crd b n 2⟩

/-- The four values of the nearest of a point, in column order. -/
def columnParts (t : Fin 32) : Fin 4 → EReal :=
  parts (here I b n) (candidate I b n (nearColumn (score I b n) (here I b n) (candidate I b n) t))

/-- The four values of the nearest of a point, the nearest first. -/
def rankedParts (t : Fin 32) : Fin 4 → EReal :=
  parts (here I b n) (candidate I b n (nearRanked (score I b n) (here I b n) (candidate I b n) t))

/-- The sums over all points and slots. -/
def moment (i : Fin 16) : EReal := ∑ n : Fin 4096, ∑ t : Fin 32, NearRow.term (columnParts I b n t) i

end

/-! ## The kernel's result -/

/-- The part of a group of `g` neighbouring channels' values that `w` of each makes. -/
def average {C : ℕ} (g : ℕ) (w : EReal) (x : Fin C → EReal) (i : Fin C) : EReal :=
  ∑ j : Fin C, (if i.val / g = j.val / g then 1 else 0) * w * x j

/-- The small number under the roots. -/
def tiny : EReal := Ideal.ofBits .f32 0x3727C5AC#32

/-- A value less its group's mean, over the root of the group's variance, from the means `m` and the squares' means `e`. -/
def centred {C : ℕ} (g : ℕ) (w : EReal) (m e : Fin C → EReal) (i : Fin C) (x : EReal) : EReal :=
  (x - average g w m i) * Ideal.rsqrt (average g w e i - average g w m i * average g w m i + tiny)

/-- A positive value, or the slope times another. -/
def prelu (a x : EReal) : EReal := if 0 < x then x else a * x

/-- A channel's mean of the second layer from the mean values `m 0 … m 3`. -/
def meanOf (w : Fin 4 → EReal) (b : EReal) (m : Fin 16 → EReal) : EReal := b + m 0 * w 0 + m 1 * w 1 + m 2 * w 2 + m 3 * w 3

/-- A channel's mean square of the second layer from the mean values and the mean products. -/
def squareOf (w : Fin 4 → EReal) (b : EReal) (m : Fin 16 → EReal) : EReal :=
  b * b + Ideal.ofBits .f32 0x40000000#32 * b * (m 0 * w 0 + m 1 * w 1 + m 2 * w 2 + m 3 * w 3)
    + m 4 * w 0 * w 0 + m 5 * w 0 * w 1 + m 6 * w 0 * w 2 + m 7 * w 0 * w 3
    + m 5 * w 1 * w 0 + m 8 * w 1 * w 1 + m 9 * w 1 * w 2 + m 10 * w 1 * w 3
    + m 6 * w 2 * w 0 + m 9 * w 2 * w 1 + m 11 * w 2 * w 2 + m 12 * w 2 * w 3
    + m 7 * w 3 * w 0 + m 10 * w 3 * w 1 + m 12 * w 3 * w 2 + m 13 * w 3 * w 3

/-- The first half's summand of an output channel's channel `ch`. -/
def voxelPart (I : Arrays) (W : Weights) (b : Fin 2) (n : Fin 4096) (ch : Fin 128) : EReal :=
  prelu W.a1 (centred 16 (Ideal.ofBits .f32 0x3D800000#32) (fun j => Ideal.div (total I b 0 j) (Ideal.ofBits .f32 0x45800000#32))
    (fun j => Ideal.div (total I b 1 j) (Ideal.ofBits .f32 0x45800000#32)) ch (first I b n ch) * W.g1 ch + W.be1 ch)

/-- The second half's. -/
def nearPart (I : Arrays) (W : Weights) (b : Fin 2) (n : Fin 4096) (ch : Fin 64) : EReal :=
  prelu W.ak (centred 8 (Ideal.ofBits .f32 0x3E000000#32)
    (fun j => meanOf (W.wk j) (W.bk j) fun i => Ideal.div (moment I b i) (Ideal.ofBits .f32 0x48000000#32))
    (fun j => squareOf (W.wk j) (W.bk j) fun i => Ideal.div (moment I b i) (Ideal.ofBits .f32 0x48000000#32))
    ch (greatest (W.wk ch) (W.bk ch) (columnParts I b n)) * W.gk ch + W.bek ch)

/-- The kernel's result at a point. -/
def whole (I : Arrays) (W : Weights) (b : Fin 2) (o : Fin 64) (n : Fin 4096) : EReal :=
  (∑ ch : Fin 128, W.w2 o ch * voxelPart I W b n ch) + W.b2 o + (∑ ch : Fin 64, W.wo o ch * nearPart I W b n ch) + W.bo o

end Cert.Full

end
-- ==== Proof.NearResults.lean ====
/-
  The first call's further results after the run: the greatest values of the second layer at every point, and the sums of the
  four values of the nearest and of their products.
-/
module

public import proofs.«01_k».proof.Proof.Results
public import proofs.«01_k».proof.Proof.Full

@[expose] public section

set_option maxRecDepth 16384

noncomputable section

namespace Cert.NearResults

open Cert.KernelIdeal Cert.KernelIdeal.Gen Idealize.ShloMosaic Idealize.ShloMosaic.TcCoe Idealize.SL.Sem
open Idealize.ShloMosaic.Pipeline (Dat)
open Cert.Model Cert.Knn Cert.Full Cert.Blocks Cert.Block

variable (m : (ℓ : Loc nD τ sig) → Buf (Elt Ideal) ℓ) (c : Dev nD)

/-- The arrays of the second half, read off the arguments. -/
def weights : Weights where
  g1 ch := m ((c : Thread nD τ).loc main_arg6) (ix1 ch)
  be1 ch := m ((c : Thread nD τ).loc main_arg7) (ix1 ch)
  a1 := m ((c : Thread nD τ).loc main_arg8) ix0
  w2 o ch := m ((c : Thread nD τ).loc main_arg9) (ix2 o ch)
  b2 o := m ((c : Thread nD τ).loc main_arg10) (ix1 o)
  wk o k := m ((c : Thread nD τ).loc main_arg11) (ix2 o k)
  bk o := m ((c : Thread nD τ).loc main_arg12) (ix1 o)
  gk o := m ((c : Thread nD τ).loc main_arg13) (ix1 o)
  bek o := m ((c : Thread nD τ).loc main_arg14) (ix1 o)
  ak := m ((c : Thread nD τ).loc main_arg15) ix0
  wo o ch := m ((c : Thread nD τ).loc main_arg16) (ix2 o ch)
  bo o := m ((c : Thread nD τ).loc main_arg17) (ix1 o)

theorem idx' : ∀ t : Fin cfg0.N, win0_6.index t = ![0, 0] ∧ win0_7.index t = ![0, 0] ∧ win0_9.index t = ![t.val / 16, 0, t.val % 16]
    ∧ win0_11.index t = ![t.val / 16, 0, 0] :=
  (by decide +kernel : ∀ t : Fin grid0.N, _)

theorem entry6 (o : Fin 64) (k : Fin 4) : (V m c main_v9 (ix2 o (k.castLE (by decide)) : S64x128.Idx) : EReal) = (weights m c).wk o k := by
  entry_read
  pointwise
  exact dif_pos k.isLt

theorem entry7 (o : Fin 64) : (V m c main_v15 (ix2 0 (o.castLE (by decide)) : S1x128.Idx) : EReal) = (weights m c).bk o := by
  entry_read
  pointwise
  exact dif_pos o.isLt

variable (t : Fin cfg0.N)

theorem block6 (o : Fin 64) (k : Fin 4) : (iblk m c 6 t (ix2 o (k.castLE (by decide)) : S64x128.Idx) : EReal) = (weights m c).wk o k := by
  refine Eq.trans ?_ (entry6 m c o k)
  blk_ext [iblk, iblk0, idx' t]

theorem block7 (o : Fin 64) : (iblk m c 7 t (ix2 0 (o.castLE (by decide)) : S1x128.Idx) : EReal) = (weights m c).bk o := by
  refine Eq.trans ?_ (entry7 m c o)
  blk_ext [iblk, iblk0, idx' t]

/-- The four values of the nearest at a grid point. -/
theorem four_eq (a : Fin 4) (r : Fin 256) (s : Fin 32) :
    (Tie.four (F := Ideal) (iblk m c 0 t) (iblk m c 1 t) (iblk m c 2 t) (iblk m c 3 t) a (ix2 r s) : EReal)
      = columnParts (arrays m c) (batch t) (rowAt t r) s a := by
  refine (NearRow.blockFour_apply (iblk m c 0 t) (iblk m c 1 t) (iblk m c 2 t) (iblk m c 3 t) a r s).trans ?_
  have he : Row.entry (iblk m c 0 t) (iblk m c 1 t) (iblk m c 2 t) r = candidate (arrays m c) (batch t) (rowAt t r) :=
    funext fun n => entry_eq m c t r n
  rw [he, point_eq, scores_eq]
  rfl

theorem left9 : (outsAt0 (V m) c t.val t.isLt).2.1 = Second.channels (F := Ideal) (Tie.weights (iblk m c 6 t)) (Tie.biases (iblk m c 7 t))
    (Tie.four (iblk m c 0 t) (iblk m c 1 t) (iblk m c 2 t) (iblk m c 3 t)) := by
  by_cases h0 : t.val % 16 = 0
  · rw [outsAt0_A (V m) c t h0, Tie.out9_A]
  · rw [outsAt0_B (V m) c t h0, Tie.out9_B]

theorem channel_eq (o : Fin 64) (r : Fin 256) (s : Fin 32) :
    Tie.weights (F := Ideal) (iblk m c 6 t) o 0 * Tie.four (F := Ideal) (iblk m c 0 t) (iblk m c 1 t) (iblk m c 2 t) (iblk m c 3 t) 0 (ix2 r s)
      + Tie.weights (F := Ideal) (iblk m c 6 t) o 1 * Tie.four (F := Ideal) (iblk m c 0 t) (iblk m c 1 t) (iblk m c 2 t) (iblk m c 3 t) 1 (ix2 r s)
      + Tie.weights (F := Ideal) (iblk m c 6 t) o 2 * Tie.four (F := Ideal) (iblk m c 0 t) (iblk m c 1 t) (iblk m c 2 t) (iblk m c 3 t) 2 (ix2 r s)
      + Tie.weights (F := Ideal) (iblk m c 6 t) o 3 * Tie.four (F := Ideal) (iblk m c 0 t) (iblk m c 1 t) (iblk m c 2 t) (iblk m c 3 t) 3 (ix2 r s)
      + Tie.biases (F := Ideal) (iblk m c 7 t) o
      = (linear ((weights m c).wk o) ((weights m c).bk o) (columnParts (arrays m c) (batch t) (rowAt t r) s) : EReal) := by
  have hw : ∀ k, Tie.weights (F := Ideal) (iblk m c 6 t) o k = (weights m c).wk o k := fun k => block6 m c t o k
  have hb : Tie.biases (F := Ideal) (iblk m c 7 t) o = (weights m c).bk o := block7 m c t o
  unfold linear
  rw [hw, hw, hw, hw, hb, four_eq, four_eq, four_eq, four_eq]

theorem channels_eq (y : S1x64x256.Idx) : (Second.channels (F := Ideal) (Tie.weights (iblk m c 6 t)) (Tie.biases (iblk m c 7 t))
    (Tie.four (iblk m c 0 t) (iblk m c 1 t) (iblk m c 2 t) (iblk m c 3 t)) y : EReal)
      = greatest ((weights m c).wk (y 1)) ((weights m c).bk (y 1)) (columnParts (arrays m c) (batch t) (rowAt t (y 2))) := by
  have h0 : y 0 = (0 : Fin 1) := Subsingleton.elim (α := Fin 1) _ _
  have hy : y = ix3 0 (y 1) (y 2) := (eq_ix3 y).trans (congrArg (fun a => ix3 a (y 1) (y 2)) h0)
  refine (congrArg _ hy).trans ((NearRow.channels_apply _ _ _ (y 1) (y 2)).trans ?_)
  exact Finset.sup_congr rfl fun s _ => channel_eq m c t (y 1) (y 2) s

/-- The second result after the run. -/
theorem result9 : (dat0 (V m) c).arrAt 9 cfg0.N = fun j : S2x64x4096.Idx =>
    greatest ((weights m c).wk (j 1)) ((weights m c).bk (j 1)) (columnParts (arrays m c) (j 0) (j 2)) := by
  refine (dat0 (V m) c).arrAt_eq_of_covers 9 _ (by decide +kernel) fun t _ y => ?_
  blk_simp
  rw [after0_9, left9]
  refine (channels_eq m c t y).trans ?_
  have e0 : batch t = (((cfg0.win 9).blk t).view.emb y) 0 := Fin.ext (by unfold batch; blk_simp [idx' t])
  have e1 : y 1 = (((cfg0.win 9).blk t).view.emb y) 1 := Fin.ext (by blk_simp [idx' t])
  have e2 : rowAt t (y 2) = (((cfg0.win 9).blk t).view.emb y) 2 := Fin.ext (by unfold rowAt; blk_simp [idx' t])
  rw [e0, e1, e2]

/-! ## The sums -/

theorem reset_apply (j : S1x16x128.Idx) : (k0_pay2 (F := Ideal) j : EReal) = 0 := by
  unfold k0_pay2
  pointwise

theorem flush11 : ∀ t : Fin cfg0.N, (cfg0.win 11).flush t = true → t.val % 16 = 16 - 1 :=
  (by decide +kernel : ∀ t : Fin grid0.N, win0_11.flush t = true → t.val % 16 = 16 - 1)

/-- What a batch's last point leaves in the fourth result's block. -/
theorem left11 (ht : t.val % 16 = 16 - 1) (j : S1x16x128.Idx) :
    ((outsAt0 (V m) c t.val t.isLt).2.2.2 j : EReal) = moment (arrays m c) (batch t) (j 1) := by
  have := Pipeline.eq_sum_fin_of_reset_step_apply_of_flush (fun n h => ((outsAt0 (V m) c n h).2.2.2 : S1x16x128.Idx → EReal)) 16 (fun _ => 0)
    (fun t j => ∑ r : Fin 256, ∑ s : Fin 32, NearRow.term (columnParts (arrays m c) (batch t) (rowAt t r) s) (j 1))
    (fun t h j => by
      rw [outsAt0_A (V m) c t h, Tie.out11_A]
      refine (NearRow.moments_apply _ _ j).trans ((congrArg (· + _) (reset_apply j)).trans ?_)
      simp only [four_eq])
    (fun t h j => by
      rw [outsAt0_B (V m) c t h, Tie.out11_B]
      refine (NearRow.moments_apply _ _ j).trans ?_
      simp only [four_eq]) t ht j
  refine this.trans ((zero_add _).trans ?_)
  unfold moment
  rw [← Fin.sum_mul_add_fin 16 256 (fun n : Fin 4096 => ∑ s : Fin 32, NearRow.term (columnParts (arrays m c) (batch t) n s) (j 1))]
  refine Finset.sum_congr rfl fun s _ => Finset.sum_congr rfl fun r _ => ?_
  have hb : ∀ h : 16 * (t.val / 16) + s.val < cfg0.N, batch ⟨16 * (t.val / 16) + s.val, h⟩ = batch t := fun h => Fin.ext (by
    show (16 * (t.val / 16) + s.val) / 16 = t.val / 16
    omega)
  have hr : ∀ h : 16 * (t.val / 16) + s.val < cfg0.N, rowAt ⟨16 * (t.val / 16) + s.val, h⟩ r = ⟨s.val * 256 + r.val, by omega⟩ := fun h => Fin.ext (by
    show (16 * (t.val / 16) + s.val) % 16 * 256 + r.val = s.val * 256 + r.val
    omega)
  rw [hb, hr]

/-- The fourth result after the run. -/
theorem result11 : (dat0 (V m) c).arrAt 11 cfg0.N = fun j : S2x16x128.Idx => moment (arrays m c) (j 0) (j 1) := by
  refine (dat0 (V m) c).arrAt_eq_of_covers 11 _ (by decide +kernel) fun t hf y => ?_
  blk_simp
  rw [after0_11]
  refine (left11 m c t (flush11 t hf) y).trans ?_
  have e0 : batch t = (((cfg0.win 11).blk t).view.emb y) 0 := Fin.ext (by unfold batch; blk_simp [idx' t])
  have e1 : y 1 = (((cfg0.win 11).blk t).view.emb y) 1 := Fin.ext (by blk_simp [idx' t])
  rw [e0, e1]

end Cert.NearResults

end
-- ==== Proof.Finish.lean ====
/-
  The second call's block at a point: both norms from the sums, both slopes, and the two last layers.
-/
module

public import proofs.«01_k».proof.Proof.Full
public import proofs.«01_k».proof.Proof.Gen.KernelIdeal.Frame
public import Idealize.ShloMosaic.Lib.Pointwise

@[expose] public section

set_option maxRecDepth 16384

noncomputable section

namespace Cert.Finish

open Idealize.ShloMosaic Cert.KernelIdeal Cert.KernelIdeal.Gen Cert.Full

theorem centred_congr {C : ℕ} {g : ℕ} {w : EReal} {m m' e e' : Fin C → EReal} {i : Fin C} {x x' : EReal} (hm : m = m') (he : e = e') (hx : x = x') :
    centred g w m e i x = centred g w m' e' i x' := by
  rw [hm, he, hx]

/-- The number of the group of 16, as the words compute it. -/
theorem group16 : ∀ r : Fin 128, Scalar.select
      (IntOp.andi
        (IntOp.cmpi .ne
          (IntOp.subi (BitVec.setWidth 32 (IntOp.cmpi .sgt (BitVec.ofNat 32 r.val) 0#32)) (BitVec.setWidth 32 (IntOp.cmpi .slt (BitVec.ofNat 32 r.val) 0#32)))
          (Scalar.subi (Scalar.extui (Scalar.cmpi .sgt 16#32 0#32)) (Scalar.extui (Scalar.cmpi .slt 16#32 0#32))))
        (IntOp.cmpi .ne (IntOp.remsi ArithUnit.vector (BitVec.ofNat 32 r.val) 16#32) 0#32))
      (IntOp.subi (IntOp.divsi ArithUnit.vector (BitVec.ofNat 32 r.val) 16#32) 1#32)
      (IntOp.divsi ArithUnit.vector (BitVec.ofNat 32 r.val) 16#32) = BitVec.ofNat 32 (r.val / 16) := by
  decide +kernel

/-- The number of the group of 8, as the words compute it. -/
theorem group8 : ∀ r : Fin 64, Scalar.select
      (IntOp.andi
        (IntOp.cmpi .ne
          (IntOp.subi (BitVec.setWidth 32 (IntOp.cmpi .sgt (BitVec.ofNat 32 r.val) 0#32)) (BitVec.setWidth 32 (IntOp.cmpi .slt (BitVec.ofNat 32 r.val) 0#32)))
          (Scalar.subi (Scalar.extui (Scalar.cmpi .sgt 8#32 0#32)) (Scalar.extui (Scalar.cmpi .slt 8#32 0#32))))
        (IntOp.cmpi .ne (IntOp.remsi ArithUnit.vector (BitVec.ofNat 32 r.val) 8#32) 0#32))
      (IntOp.subi (IntOp.divsi ArithUnit.vector (BitVec.ofNat 32 r.val) 8#32) 1#32)
      (IntOp.divsi ArithUnit.vector (BitVec.ofNat 32 r.val) 8#32) = BitVec.ofNat 32 (r.val / 8) := by
  decide +kernel

/-- The flag of two equal words as a number. -/
theorem flag_eq (a b : ℕ) (ha : a < 2 ^ 32) (hb : b < 2 ^ 32) :
    (FloatOps.sitofp (F := Ideal) .f32 (BitVec.setWidth 32 (IntOp.cmpi .eq (BitVec.ofNat 32 a) (BitVec.ofNat 32 b))) : EReal)
      = if a = b then 1 else 0 := by
  by_cases h : a = b
  · subst h
    rw [if_pos rfl, show IntOp.cmpi .eq (BitVec.ofNat 32 a) (BitVec.ofNat 32 a) = 1#1 by simp [IntOp.cmpi]]
    show (((BitVec.setWidth 32 1#1).toInt : ℝ) : EReal) = 1
    norm_num
  · have h2 : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h, show IntOp.cmpi .eq (BitVec.ofNat 32 a) (BitVec.ofNat 32 b) = 0#1 from congrArg BitVec.ofBool (beq_eq_false_iff_ne.mpr h2)]
    show (((BitVec.setWidth 32 0#1).toInt : ℝ) : EReal) = 0
    norm_num

theorem flag16 (r x : Fin 128) : (FloatOps.sitofp (F := Ideal) .f32 (BitVec.setWidth 32 (IntOp.cmpi .eq (BitVec.ofNat 32 (r.val / 16)) (BitVec.ofNat 32 (x.val / 16)))) : EReal)
    = if r.val / 16 = x.val / 16 then 1 else 0 := flag_eq _ _ (by omega) (by omega)

theorem flag8 (r x : Fin 64) : (FloatOps.sitofp (F := Ideal) .f32 (BitVec.setWidth 32 (IntOp.cmpi .eq (BitVec.ofNat 32 (r.val / 8)) (BitVec.ofNat 32 (x.val / 8)))) : EReal)
    = if r.val / 8 = x.val / 8 then 1 else 0 := flag_eq _ _ (by omega) (by omega)

/-- The first norm before its scale. -/
theorem pay11_apply (v1 : FVec Ideal S128x4096 .f32) (v7 v11 : FVec Ideal S128x1 .f32) (ch : Fin 128) (n : Fin 4096) :
    (k1_pay11 (F := Ideal) v1 v7 v11 k1_pay6 (iota .tc S128x128 32 [1] iota_S128x128_d1_w32) 16#32 k1_pay7 k1_pay8 (ix2 ch n) : EReal)
      = centred 16 (Ideal.ofBits .f32 0x3D800000#32) (fun j => (v7 (ix2 j 0) : EReal)) (fun j => v11 (ix2 j 0)) ch (v1 (ix2 ch n)) := by
  unfold k1_pay11 k1_pay6 k1_pay7 k1_pay8 centred average
  pointwise
  simp only [group16, flag16]
  rfl

/-- The second norm before its offset. -/
theorem pay48_apply (v168 v250 : FVec Ideal S64x1 .f32) (v310 : FVec Ideal S1x128 .f32) (v320 : FVec Ideal S1x64x4096 .f32) (o : Fin 64) (n : Fin 4096) :
    (k1_pay48 (F := Ideal) v168 v250 k1_pay43 (iota .tc S64x64 32 [1] iota_S64x64_d1_w32) 8#32 k1_pay44 k1_pay45 (Scalar.cmpi .sgt 8#32 0#32) v310 v320 (ix2 o n) : EReal)
      = centred 8 (Ideal.ofBits .f32 0x3E000000#32) (fun j => (v168 (ix2 j 0) : EReal)) (fun j => v250 (ix2 j 0)) o (v320 (ix3 0 o n))
        * v310 (ix2 0 (o.castLE (by decide))) := by
  unfold k1_pay48 k1_pay43 k1_pay44 k1_pay45 centred average
  pointwise
  simp only [group8, flag8]
  rfl

/-- The first half's layer. -/
theorem pay13_apply (v76 : FVec Ideal S128x1 .f32) (v78 : EReal) (v85 v86 : FVec Ideal S128x4096 .f32) (v95 : FVec Ideal S64x128 .f32)
    (v97 : FVec Ideal S1x128 .f32) (o : Fin 64) (n : Fin 4096) :
    (k1_pay13 (F := Ideal) v76 v78 v85 v86 v95 v97 (ix2 o n) : EReal)
      = (∑ ch : Fin 128, (v95 (ix2 o ch) : EReal) * prelu v78 ((v85 (ix2 ch n) : EReal) * v86 (ix2 ch n) + v76 (ix2 ch 0)))
        + v97 (ix2 0 (o.castLE (by decide))) := by
  unfold k1_pay13 prelu
  pointwise
  rfl

/-- The whole point. -/
theorem pay1_apply (v102 : FVec Ideal S64x4096 .f32) (v317 : FVec Ideal S64x1 .f32) (v319 : EReal) (v330 : FVec Ideal S64x4096 .f32)
    (v340 : FVec Ideal S64x128 .f32) (v343 : FVec Ideal S1x128 .f32) (o : Fin 64) (n : Fin 4096) :
    (k1_pay1 (F := Ideal) v102 v317 v319 v330 v340 v343 (ix3 0 o n) : EReal)
      = v102 (ix2 o n) + (∑ ch : Fin 64, (v340 (ix2 o (ch.castLE (by decide))) : EReal) * prelu v319 ((v330 (ix2 ch n) : EReal) + v317 (ix2 ch 0)))
        + v343 (ix2 0 (o.castLE (by decide))) := by
  unfold k1_pay1 prelu
  pointwise
  simp only [mul_zero, Finset.sum_const_zero, add_zero]
  rfl

theorem pay4_apply (x : FVec Ideal S1x2x128 .f32) (ch : Fin 128) : (k1_pay4 (F := Ideal) x (ix2 ch 0) : EReal)
    = Ideal.div (x (ix3 0 0 ch)) (Ideal.ofBits .f32 0x45800000#32) := by
  unfold k1_pay4 k1_pay3
  pointwise

theorem pay5_apply (x : FVec Ideal S1x2x128 .f32) (ch : Fin 128) : (k1_pay5 (F := Ideal) x (ix2 ch 0) : EReal)
    = Ideal.div (x (ix3 0 1 ch)) (Ideal.ofBits .f32 0x45800000#32) := by
  unfold k1_pay5 k1_pay3
  pointwise

variable (x0 : Vec Ideal S1x128x4096 .f32) (x1 : Vec Ideal S1x64x4096 .f32) (x2 : Vec Ideal S1x2x128 .f32) (x3 : Vec Ideal S1x16x128 .f32)
  (x4 : Vec Ideal S64x128 .f32) (x5 x6 x7 x8 : Vec Ideal S1x128 .f32) (x9 : Vec Ideal S64x128 .f32) (x10 x11 x12 x13 : Vec Ideal S1x128 .f32)
  (x14 : Vec Ideal S64x128 .f32) (x15 : Vec Ideal S1x128 .f32)

/-- The means of the second layer, from the blocks. -/
def means (j : Fin 64) : EReal := meanOf (fun k => x9 (ix2 j (k.castLE (by decide)))) (x10 (ix2 0 (j.castLE (by decide))))
  fun i => Ideal.div (x3 (ix3 0 i 0)) (Ideal.ofBits .f32 0x48000000#32)

/-- The mean squares of the second layer, from the blocks. -/
def squares (j : Fin 64) : EReal := squareOf (fun k => x9 (ix2 j (k.castLE (by decide)))) (x10 (ix2 0 (j.castLE (by decide))))
  fun i => Ideal.div (x3 (ix3 0 i 0)) (Ideal.ofBits .f32 0x48000000#32)

theorem means_apply (j : Fin 64) : (k1_pay36 (F := Ideal) (k1_pay15 x3) (k1_pay16 x3) (k1_pay17 x3) (k1_pay18 x3) x9 x10 (ix2 j 0) : EReal)
    = means x3 x9 x10 j := by
  unfold k1_pay36 k1_pay15 k1_pay16 k1_pay17 k1_pay18 k1_pay35 k1_pay31 k1_pay32 k1_pay33 k1_pay34 k1_pay30 k1_pay14 means meanOf
  pointwise
  rfl

theorem squares_apply (j : Fin 64) : (k1_pay42 (F := Ideal) (k1_pay26 (k1_pay14 x3)) (k1_pay28 (k1_pay14 x3)) (k1_pay29 (k1_pay14 x3)) (k1_pay32 x9) (k1_pay33 x9) (k1_pay34 x9)
    (k1_pay40 (k1_pay18 x3) (k1_pay19 x3) (k1_pay20 x3) (k1_pay21 x3) (k1_pay22 x3) (k1_pay24 (k1_pay23 x3)) (k1_pay25 (k1_pay14 x3)) (k1_pay26 (k1_pay14 x3))
      (k1_pay27 (k1_pay14 x3)) (k1_pay28 (k1_pay14 x3)) (k1_pay31 x9) (k1_pay32 x9) (k1_pay33 x9) (k1_pay34 x9) (k1_pay35 x10) (k1_pay37 x10)
      (k1_pay38 (k1_pay15 x3) (k1_pay16 x3) x9) (k1_pay39 (k1_pay17 x3) x9))
    (k1_pay41 (k1_pay22 x3) (k1_pay31 x9) (k1_pay34 x9)) (ix2 j 0) : EReal) = squares x3 x9 x10 j := by
  unfold k1_pay42 k1_pay41 k1_pay40 k1_pay39 k1_pay38 k1_pay37 k1_pay35 k1_pay34 k1_pay33 k1_pay32 k1_pay31 k1_pay30 k1_pay29 k1_pay28 k1_pay27 k1_pay26 k1_pay25
    k1_pay24 k1_pay23 k1_pay22 k1_pay21 k1_pay20 k1_pay19 k1_pay18 k1_pay17 k1_pay16 k1_pay15 k1_pay14 squares squareOf
  pointwise
  rfl

theorem zeros3 : (![0, 0, 0] : Fin 3 → ℕ) = fun _ => 0 := by
  funext a
  fin_cases a <;> rfl

theorem zeros2 : (![0, 0] : Fin 2 → ℕ) = fun _ => 0 := by
  funext a
  fin_cases a <;> rfl

theorem load_0 (x : Vec Ideal S1x128x4096 .f32) : View.ld x r1_0 = x := View.ld_unit_zero zeros3 _ x

theorem load_1 (x : Vec Ideal S1x2x128 .f32) : View.ld x r1_1 = x := View.ld_unit_zero zeros3 _ x

theorem load_2 (x : Vec Ideal S1x128 .f32) : View.ld x r1_2 = x := View.ld_unit_zero zeros2 _ x

theorem load_4 (x : Vec Ideal S64x128 .f32) : View.ld x r1_4 = x := View.ld_unit_zero zeros2 _ x

theorem load_5 (x : Vec Ideal S1x16x128 .f32) : View.ld x r1_5 = x := View.ld_unit_zero zeros3 _ x

theorem load_6 (x : Vec Ideal S1x64x4096 .f32) : View.ld x r1_6 = x := View.ld_unit_zero zeros3 _ x

/-- The first loaded entry of a row. -/
theorem slope_eq (x : Vec Ideal S1x128 .f32) : (extractAt ![0, 0] (View.ld x r1_3) inpos_S1x1_p0_0 : EReal) = x (ix2 0 0) := by
  refine congrArg x (funext fun a => Fin.ext ?_)
  fin_cases a <;> rfl

/-- What a block of the result holds at output channel `o` and point `n`. -/
theorem out_apply (o : Fin 64) (n : Fin 4096) :
    (out1_16 (F := Ideal) x0 x1 x2 x3 x4 x5 x6 x7 x8 x9 x10 x11 x12 x13 x14 x15 (ix3 0 o n) : EReal)
      = (∑ ch : Fin 128, (x4 (ix2 o ch) : EReal) * prelu (x8 (ix2 0 0)) (centred 16 (Ideal.ofBits .f32 0x3D800000#32)
            (fun j => Ideal.div (x2 (ix3 0 0 j)) (Ideal.ofBits .f32 0x45800000#32)) (fun j => Ideal.div (x2 (ix3 0 1 j)) (Ideal.ofBits .f32 0x45800000#32))
            ch (x0 (ix3 0 ch n)) * x6 (ix2 0 ch) + x7 (ix2 0 ch)))
        + x5 (ix2 0 (o.castLE (by decide)))
        + (∑ ch : Fin 64, (x14 (ix2 o (ch.castLE (by decide))) : EReal) * prelu (x13 (ix2 0 0)) (centred 8 (Ideal.ofBits .f32 0x3E000000#32)
            (means x3 x9 x10) (squares x3 x9 x10) ch (x1 (ix3 0 ch n)) * x11 (ix2 0 (ch.castLE (by decide))) + x12 (ix2 0 (ch.castLE (by decide)))))
        + x15 (ix2 0 (o.castLE (by decide))) := by
  unfold out1_16 k1_pay49 k1_pay50 k1_pay51 k1_pay52 k1_pay53
  rw [View.canon_unit_zero zeros3]
  simp only [load_0, load_1, load_2, load_4, load_5, load_6]
  refine (pay1_apply _ _ _ _ _ _ o n).trans ?_
  rw [pay13_apply]
  unfold k1_pay10 k1_pay47
  rw [slope_eq, slope_eq]
  unfold k1_pay2 k1_pay9 k1_pay12 k1_pay46
  pointwise
  refine congrArg (· + (x15 (ix2 0 (o.castLE (by decide))) : EReal)) (congrArg₂ (· + ·)
    (congrArg (· + (x5 (ix2 0 (o.castLE (by decide))) : EReal)) (Finset.sum_congr rfl fun ch _ => ?_)) (Finset.sum_congr rfl fun ch _ => ?_))
  · refine congrArg (fun z : EReal => (x4 (ix2 o ch) : EReal) * prelu (x8 (ix2 0 0)) (z * x6 (ix2 0 ch) + x7 (ix2 0 ch))) ?_
    refine (pay11_apply _ _ _ ch n).trans (centred_congr (funext fun j => pay4_apply x2 j) (funext fun j => pay5_apply x2 j) ?_)
    pointwise
  · refine congrArg (fun z : EReal => (x14 (ix2 o (ch.castLE (by decide))) : EReal) * prelu (x13 (ix2 0 0)) (z + x12 (ix2 0 (ch.castLE (by decide))))) ?_
    refine (pay48_apply _ _ _ _ ch n).trans (congrArg (fun z : EReal => z * (x11 (ix2 0 (ch.castLE (by decide))) : EReal)) ?_)
    exact centred_congr (funext fun j => means_apply x3 x9 x10 j) (funext fun j => squares_apply x3 x9 x10 j) rfl

end Cert.Finish

end
-- ==== Proof.FinishResults.lean ====
/-
  The second call's result after the run: the two halves at every point, from the first call's results and the weights.
-/
module

public import proofs.«01_k».proof.Proof.NearResults
public import proofs.«01_k».proof.Proof.Finish

@[expose] public section

set_option maxRecDepth 16384

noncomputable section

namespace Cert.FinishResults

open Cert.KernelIdeal Cert.KernelIdeal.Gen Idealize.ShloMosaic Idealize.ShloMosaic.TcCoe Idealize.SL.Sem
open Idealize.ShloMosaic.Pipeline (Dat)
open Cert.Model Cert.Knn Cert.Full Cert.Blocks Cert.Finish Cert.NearResults

variable (m : (ℓ : Loc nD τ sig) → Buf (Elt Ideal) ℓ) (ρ : Dev nD → PrngReg) (c : Dev nD)

/-! ## What the second call reads -/

theorem read_h : V3 m ρ c main_v16_0 = fun j : S2x128x4096.Idx => first (arrays m c) (j 0) (j 2) (j 1) :=
  (W3_of m ρ c _ (by decide)).trans ((W2_arr m ρ c 8).trans (Results.result8 m c))

theorem read_m2 : V3 m ρ c main_v16_1 = fun j : S2x64x4096.Idx =>
    greatest ((weights m c).wk (j 1)) ((weights m c).bk (j 1)) (columnParts (arrays m c) (j 0) (j 2)) :=
  (W3_of m ρ c _ (by decide)).trans ((W2_arr m ρ c 9).trans (result9 m c))

theorem read_hst : V3 m ρ c main_v16_2 = fun j : S2x2x128.Idx => total (arrays m c) (j 0) (j 1) (j 2) :=
  (W3_of m ρ c _ (by decide)).trans ((W2_arr m ρ c 10).trans (Results.result10 m c))

theorem read_kst : V3 m ρ c main_v16_3 = fun j : S2x16x128.Idx => moment (arrays m c) (j 0) (j 1) :=
  (W3_of m ρ c _ (by decide)).trans ((W2_arr m ρ c 11).trans (result11 m c))

theorem read_w2 (o : Fin 64) (ch : Fin 128) : (V3 m ρ c main_arg9 (ix2 o ch : S64x128.Idx) : EReal) = (weights m c).w2 o ch :=
  congrFun (W3_args m ρ c main_arg9 (by decide)) _

theorem read_v9 : V3 m ρ c main_v9 = V m c main_v9 :=
  (W3_of m ρ c _ (by decide)).trans (W2_of m ρ c _ (by decide))

theorem read_v11 : V3 m ρ c main_v11 = V m c main_v11 :=
  (W3_of m ρ c _ (by decide)).trans (W2_of m ρ c _ (by decide))

theorem read_wo (o ch : Fin 64) : (V m c main_v11 (ix2 o (ch.castLE (by decide)) : S64x128.Idx) : EReal) = (weights m c).wo o ch := by
  entry_read
  pointwise
  exact dif_pos ch.isLt

theorem read_b2 (o : Fin 64) : (V3 m ρ c main_v19 (ix2 0 (o.castLE (by decide)) : S1x128.Idx) : EReal) = (weights m c).b2 o := by
  show (StableHlo.after hostOps1 (W2 m ρ c) (Proc.devRef .tc main_v19) (ix2 0 (o.castLE (by decide)) : S1x128.Idx) : EReal) = _
  entry_read
  pointwise
  exact (dif_pos o.isLt).trans (congrFun (W2_args m ρ c main_arg10 (by decide)) _)

theorem read_g1 (ch : Fin 128) : (V3 m ρ c main_v20 (ix2 0 ch : S1x128.Idx) : EReal) = (weights m c).g1 ch := by
  show (StableHlo.after hostOps1 (W2 m ρ c) (Proc.devRef .tc main_v20) (ix2 0 ch : S1x128.Idx) : EReal) = _
  entry_read
  pointwise
  exact congrFun (W2_args m ρ c main_arg6 (by decide)) _

theorem read_be1 (ch : Fin 128) : (V3 m ρ c main_v21 (ix2 0 ch : S1x128.Idx) : EReal) = (weights m c).be1 ch := by
  show (StableHlo.after hostOps1 (W2 m ρ c) (Proc.devRef .tc main_v21) (ix2 0 ch : S1x128.Idx) : EReal) = _
  entry_read
  pointwise
  exact congrFun (W2_args m ρ c main_arg7 (by decide)) _

theorem read_a1 : (V3 m ρ c main_v22 (ix2 0 0 : S1x128.Idx) : EReal) = (weights m c).a1 := by
  show (StableHlo.after hostOps1 (W2 m ρ c) (Proc.devRef .tc main_v22) (ix2 0 0 : S1x128.Idx) : EReal) = _
  entry_read
  pointwise
  exact congrFun (W2_args m ρ c main_arg8 (by decide)) _

theorem read_bk (o : Fin 64) : (V3 m ρ c main_v25 (ix2 0 (o.castLE (by decide)) : S1x128.Idx) : EReal) = (weights m c).bk o := by
  show (StableHlo.after hostOps1 (W2 m ρ c) (Proc.devRef .tc main_v25) (ix2 0 (o.castLE (by decide)) : S1x128.Idx) : EReal) = _
  entry_read
  pointwise
  exact (dif_pos o.isLt).trans (congrFun (W2_args m ρ c main_arg12 (by decide)) _)

theorem read_gk (o : Fin 64) : (V3 m ρ c main_v28 (ix2 0 (o.castLE (by decide)) : S1x128.Idx) : EReal) = (weights m c).gk o := by
  show (StableHlo.after hostOps1 (W2 m ρ c) (Proc.devRef .tc main_v28) (ix2 0 (o.castLE (by decide)) : S1x128.Idx) : EReal) = _
  entry_read
  pointwise
  exact (dif_pos o.isLt).trans (congrFun (W2_args m ρ c main_arg13 (by decide)) _)

theorem read_bek (o : Fin 64) : (V3 m ρ c main_v31 (ix2 0 (o.castLE (by decide)) : S1x128.Idx) : EReal) = (weights m c).bek o := by
  show (StableHlo.after hostOps1 (W2 m ρ c) (Proc.devRef .tc main_v31) (ix2 0 (o.castLE (by decide)) : S1x128.Idx) : EReal) = _
  entry_read
  pointwise
  exact (dif_pos o.isLt).trans (congrFun (W2_args m ρ c main_arg14 (by decide)) _)

theorem read_ak : (V3 m ρ c main_v32 (ix2 0 0 : S1x128.Idx) : EReal) = (weights m c).ak := by
  show (StableHlo.after hostOps1 (W2 m ρ c) (Proc.devRef .tc main_v32) (ix2 0 0 : S1x128.Idx) : EReal) = _
  entry_read
  pointwise
  exact congrFun (W2_args m ρ c main_arg15 (by decide)) _

theorem read_bo (o : Fin 64) : (V3 m ρ c main_v35 (ix2 0 (o.castLE (by decide)) : S1x128.Idx) : EReal) = (weights m c).bo o := by
  show (StableHlo.after hostOps1 (W2 m ρ c) (Proc.devRef .tc main_v35) (ix2 0 (o.castLE (by decide)) : S1x128.Idx) : EReal) = _
  entry_read
  pointwise
  exact (dif_pos o.isLt).trans (congrFun (W2_args m ρ c main_arg17 (by decide)) _)

/-! ## The blocks -/

theorem idx1 : ∀ t : Fin cfg1.N, win1_0.index t = ![t.val, 0, 0] ∧ win1_1.index t = ![t.val, 0, 0] ∧ win1_2.index t = ![t.val, 0, 0]
    ∧ win1_3.index t = ![t.val, 0, 0] ∧ win1_16.index t = ![t.val, 0, 0] ∧ t.val < 2 :=
  (by decide +kernel : ∀ t : Fin grid1.N, _)

theorem idx2 : ∀ t : Fin cfg1.N, win1_4.index t = ![0, 0] ∧ win1_5.index t = ![0, 0] ∧ win1_6.index t = ![0, 0] ∧ win1_7.index t = ![0, 0]
    ∧ win1_8.index t = ![0, 0] ∧ win1_9.index t = ![0, 0] ∧ win1_10.index t = ![0, 0] ∧ win1_11.index t = ![0, 0] ∧ win1_12.index t = ![0, 0]
    ∧ win1_13.index t = ![0, 0] ∧ win1_14.index t = ![0, 0] ∧ win1_15.index t = ![0, 0] :=
  (by decide +kernel : ∀ t : Fin grid1.N, _)

/-- The batch of a grid point. -/
def batch1 (t : Fin cfg1.N) : Fin 2 := ⟨t.val, (idx1 t).2.2.2.2.2⟩

variable (t : Fin cfg1.N)

theorem at_h (ch : Fin 128) (n : Fin 4096) : (iblk1 (V3 m ρ) c 0 t (ix3 0 ch n : S1x128x4096.Idx) : EReal) = first (arrays m c) (batch1 t) n ch := by
  refine Eq.trans ?_ (congrFun (read_h m ρ c) (ix3 (batch1 t) ch n))
  unfold batch1
  blk_ext [iblk1, idx1 t]

theorem at_m2 (o : Fin 64) (n : Fin 4096) : (iblk1 (V3 m ρ) c 1 t (ix3 0 o n : S1x64x4096.Idx) : EReal)
    = greatest ((weights m c).wk o) ((weights m c).bk o) (columnParts (arrays m c) (batch1 t) n) := by
  refine Eq.trans ?_ (congrFun (read_m2 m ρ c) (ix3 (batch1 t) o n))
  unfold batch1
  blk_ext [iblk1, idx1 t]

theorem at_hst (s : Fin 2) (ch : Fin 128) : (iblk1 (V3 m ρ) c 2 t (ix3 0 s ch : S1x2x128.Idx) : EReal) = total (arrays m c) (batch1 t) s ch := by
  refine Eq.trans ?_ (congrFun (read_hst m ρ c) (ix3 (batch1 t) s ch))
  unfold batch1
  blk_ext [iblk1, idx1 t]

theorem at_kst (i : Fin 16) : (iblk1 (V3 m ρ) c 3 t (ix3 0 i 0 : S1x16x128.Idx) : EReal) = moment (arrays m c) (batch1 t) i := by
  refine Eq.trans ?_ (congrFun (read_kst m ρ c) (ix3 (batch1 t) i 0))
  unfold batch1
  blk_ext [iblk1, idx1 t]

theorem at_w2 (o : Fin 64) (ch : Fin 128) : (iblk1 (V3 m ρ) c 4 t (ix2 o ch : S64x128.Idx) : EReal) = (weights m c).w2 o ch := by
  refine Eq.trans ?_ (read_w2 m ρ c o ch)
  blk_ext [iblk1, idx2 t]

theorem at_wk (o : Fin 64) (k : Fin 4) : (iblk1 (V3 m ρ) c 9 t (ix2 o (k.castLE (by decide)) : S64x128.Idx) : EReal) = (weights m c).wk o k := by
  refine Eq.trans ?_ ((congrFun (read_v9 m ρ c) _).trans (entry6 m c o k))
  blk_ext [iblk1, idx2 t]

theorem at_wo (o ch : Fin 64) : (iblk1 (V3 m ρ) c 14 t (ix2 o (ch.castLE (by decide)) : S64x128.Idx) : EReal) = (weights m c).wo o ch := by
  refine Eq.trans ?_ ((congrFun (read_v11 m ρ c) _).trans (read_wo m c o ch))
  blk_ext [iblk1, idx2 t]

theorem at_b2 (o : Fin 64) : (iblk1 (V3 m ρ) c 5 t (ix2 0 (o.castLE (by decide)) : S1x128.Idx) : EReal) = (weights m c).b2 o := by
  refine Eq.trans ?_ (read_b2 m ρ c o)
  blk_ext [iblk1, idx2 t]

theorem at_bk (o : Fin 64) : (iblk1 (V3 m ρ) c 10 t (ix2 0 (o.castLE (by decide)) : S1x128.Idx) : EReal) = (weights m c).bk o := by
  refine Eq.trans ?_ (read_bk m ρ c o)
  blk_ext [iblk1, idx2 t]

theorem at_gk (o : Fin 64) : (iblk1 (V3 m ρ) c 11 t (ix2 0 (o.castLE (by decide)) : S1x128.Idx) : EReal) = (weights m c).gk o := by
  refine Eq.trans ?_ (read_gk m ρ c o)
  blk_ext [iblk1, idx2 t]

theorem at_bek (o : Fin 64) : (iblk1 (V3 m ρ) c 12 t (ix2 0 (o.castLE (by decide)) : S1x128.Idx) : EReal) = (weights m c).bek o := by
  refine Eq.trans ?_ (read_bek m ρ c o)
  blk_ext [iblk1, idx2 t]

theorem at_bo (o : Fin 64) : (iblk1 (V3 m ρ) c 15 t (ix2 0 (o.castLE (by decide)) : S1x128.Idx) : EReal) = (weights m c).bo o := by
  refine Eq.trans ?_ (read_bo m ρ c o)
  blk_ext [iblk1, idx2 t]

theorem at_g1 (ch : Fin 128) : (iblk1 (V3 m ρ) c 6 t (ix2 0 ch : S1x128.Idx) : EReal) = (weights m c).g1 ch := by
  refine Eq.trans ?_ (read_g1 m ρ c ch)
  blk_ext [iblk1, idx2 t]

theorem at_be1 (ch : Fin 128) : (iblk1 (V3 m ρ) c 7 t (ix2 0 ch : S1x128.Idx) : EReal) = (weights m c).be1 ch := by
  refine Eq.trans ?_ (read_be1 m ρ c ch)
  blk_ext [iblk1, idx2 t]

theorem at_a1 : (iblk1 (V3 m ρ) c 8 t (ix2 0 0 : S1x128.Idx) : EReal) = (weights m c).a1 := by
  refine Eq.trans ?_ (read_a1 m ρ c)
  blk_ext [iblk1, idx2 t]

theorem at_ak : (iblk1 (V3 m ρ) c 13 t (ix2 0 0 : S1x128.Idx) : EReal) = (weights m c).ak := by
  refine Eq.trans ?_ (read_ak m ρ c)
  blk_ext [iblk1, idx2 t]

/-- The block of a grid point. -/
theorem out_eq (o : Fin 64) (n : Fin 4096) : ((dat1 (V3 m ρ) c).after 16 t (ix3 0 o n : S1x64x4096.Idx) : EReal)
    = whole (arrays m c) (weights m c) (batch1 t) o n := by
  rw [after1_16]
  refine (out_apply _ _ _ _ _ _ _ _ _ _ _ _ _ _ _ _ o n).trans ?_
  unfold whole voxelPart nearPart
  refine congrArg₂ (· + ·) (congrArg₂ (· + ·) (congrArg₂ (· + ·) (Finset.sum_congr rfl fun ch _ => ?_) (at_b2 m ρ c t o)) (Finset.sum_congr rfl fun ch _ => ?_)) (at_bo m ρ c t o)
  · rw [at_w2, at_a1, at_g1, at_be1, at_h]
    simp only [at_hst]
  · rw [at_wo, at_ak, at_gk, at_bek, at_m2]
    unfold means squares
    simp only [at_wk, at_bk, at_kst]

/-- The result after the run. -/
theorem result16 : (dat1 (V3 m ρ) c).arrAt 16 cfg1.N = fun j : S2x64x4096.Idx => whole (arrays m c) (weights m c) (j 0) (j 1) (j 2) := by
  refine (dat1 (V3 m ρ) c).arrAt_eq_of_covers 16 _ (by decide +kernel) fun t _ y => ?_
  blk_simp
  have h0 : (y 0) = (0 : Fin 1) := Subsingleton.elim (α := Fin 1) _ _
  have hy : y = ix3 0 (y 1) (y 2) := (eq_ix3 y).trans (congrArg (fun a => ix3 a (y 1) (y 2)) h0)
  refine (congrArg _ hy).trans ((out_eq m ρ c t (y 1) (y 2)).trans ?_)
  have e0 : batch1 t = (((cfg1.win 16).blk t).view.emb y) 0 := Fin.ext (by unfold batch1; blk_simp [idx1 t])
  have e1 : y 1 = (((cfg1.win 16).blk t).view.emb y) 1 := Fin.ext (by blk_simp [idx1 t])
  have e2 : y 2 = (((cfg1.win 16).blk t).view.emb y) 2 := Fin.ext (by blk_simp [idx1 t])
  rw [e0, e1, e2]

end Cert.FinishResults

end
-- ==== Proof.Run.lean ====
/-
  The run of the whole kernel: what its result buffer holds at the end is what the second region's pipeline leaves there,
  and every argument holds what it held.
-/
module

public import proofs.«01_k».proof.Proof.Gen.KernelIdeal.Frame

@[expose] public section

set_option maxRecDepth 16384

noncomputable section

namespace Cert.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with this one
set_option backward.isDefEq.respectTransparency.types false in
/-- At the end every buffer that outlives the regions holds what the last boundary says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.Run

end
-- ==== Proof.TopK.lean ====
/-
  The greatest entries of the rows of an array: sorting a row and keeping its first entries.
-/
module

public import proofs.«01_k».proof.Proof.Order
public import Idealize.ShloMosaic.PureOps.Ideal
public import Idealize.ShloMosaic.Lib.Pointwise

@[expose] public section

set_option maxRecDepth 16384

noncomputable section

namespace Cert.TopK

open Idealize.ShloMosaic Cert.Order

theorem greater_eq (x y : EReal) : (FloatOps.cmpfTotal (F := Ideal) (φ := .f32) .gt x y == 1#1) = decide (y < x) := by
  show (BitVec.ofBool (decide (y < x)) == 1#1) = _
  cases decide (y < x) <;> rfl

/-- Arrays of two times 4096 rows. -/
abbrev Rows (N : ℕ) : Shape := ⟨3, ![2, 4096, N]⟩

variable {N : ℕ} (x : FVec Ideal (Rows N) .f32) (s : Fin N → EReal) (b : Fin 2) (n : Fin 4096)

theorem axis_lt {N : ℕ} : 2 < (Rows N).rank := (by decide : 2 < 3)

theorem along_eq (q m : Fin N) (h : 2 < (Rows N).rank) : ((ix3 b n q : (Rows N).Idx).along ⟨2, h⟩ m : (Rows N).Idx) = ix3 b n m := by
  funext a
  match a with
  | ⟨0, _⟩ => rfl
  | ⟨1, _⟩ => rfl
  | ⟨2, _⟩ => rfl

theorem sortedFrom_eq (hs : ∀ m, (x (ix3 b n m) : EReal) = s m) (q : Fin N) (h : 2 < (Rows N).rank) :
    sortedFrom (fun m m' : Fin N => FloatOps.cmpfTotal (F := Ideal) (φ := .f32) .gt (x ((ix3 b n q : (Rows N).Idx).along ⟨2, h⟩ m))
      (x ((ix3 b n q : (Rows N).Idx).along ⟨2, h⟩ m')) == 1#1) q = sorted s q := by
  unfold sorted
  refine congrFun (congrArg _ (funext fun m => funext fun m' => ?_)) q
  rw [along_eq, along_eq, greater_eq, hs, hs]

theorem sort_fst (hs : ∀ m, (x (ix3 b n m) : EReal) = s m) (i : IVec (Rows N) 32) (q : Fin N) :
    ((Host.sort2 (Rows N) 2 (fun l r => FloatOps.cmpfTotal (F := Ideal) (φ := .f32) .gt l.1 r.1) x i).1 (ix3 b n q) : EReal) = s (sorted s q) := by
  unfold Host.sort2
  rw [dif_pos axis_lt]
  refine (congrArg x (along_eq b n q _ axis_lt)).trans ((hs _).trans (congrArg s ?_))
  exact sortedFrom_eq x s b n hs q axis_lt

theorem sort_snd (hs : ∀ m, (x (ix3 b n m) : EReal) = s m) (i : IVec (Rows N) 32) (q : Fin N) :
    (Host.sort2 (Rows N) 2 (fun l r => FloatOps.cmpfTotal (F := Ideal) (φ := .f32) .gt l.1 r.1) x i).2 (ix3 b n q) = i (ix3 b n (sorted s q)) := by
  unfold Host.sort2
  rw [dif_pos axis_lt]
  refine (congrArg i (along_eq b n q _ axis_lt)).trans (congrArg (fun k => i (ix3 b n k)) ?_)
  exact sortedFrom_eq x s b n hs q axis_lt

variable {K : ℕ} (hK : K ≤ N)

theorem take_eq {α : Type} (y : (Rows N).Idx → α) (h : (Rows N).Slices (fun _ => 0) (Rows K)) (k : Fin K) :
    extractStridedSlice (Rows K) (fun _ => 0) y h (ix3 b n k) = y (ix3 b n (k.castLE hK)) := by
  refine congrArg y (funext fun a => Fin.ext ?_)
  match a with
  | ⟨0, _⟩ => exact Nat.zero_add _
  | ⟨1, _⟩ => exact Nat.zero_add _
  | ⟨2, _⟩ => exact Nat.zero_add _

/-- The numbers of a row's entries. -/
def numbers (N : ℕ) : IVec (Rows N) 32 := fun i => if hd : 2 < (Rows N).rank then iotaInDim (Rows N) 32 ⟨2, hd⟩ i else 0#32

theorem values_eq (h : (Rows N).Slices (fun _ => 0) (Rows K)) : (Host.topK (Rows K) 2 (FloatOps.cmpfTotal (F := Ideal) (φ := .f32) .gt) x h).1
    = extractStridedSlice (Rows K) (fun _ => 0) (Host.sort2 (Rows N) 2 (fun l r => FloatOps.cmpfTotal (F := Ideal) (φ := .f32) .gt l.1 r.1) x (numbers N)).1 h := rfl

theorem indices_eq (h : (Rows N).Slices (fun _ => 0) (Rows K)) : (Host.topK (Rows K) 2 (FloatOps.cmpfTotal (F := Ideal) (φ := .f32) .gt) x h).2
    = extractStridedSlice (Rows K) (fun _ => 0) (Host.sort2 (Rows N) 2 (fun l r => FloatOps.cmpfTotal (F := Ideal) (φ := .f32) .gt l.1 r.1) x (numbers N)).2 h := rfl

/-- The `k`-th greatest entry of a row. -/
theorem values_apply (hs : ∀ m, (x (ix3 b n m) : EReal) = s m) (h : (Rows N).Slices (fun _ => 0) (Rows K)) (k : Fin K) :
    ((Host.topK (Rows K) 2 (FloatOps.cmpfTotal (F := Ideal) (φ := .f32) .gt) x h).1 (ix3 b n k) : EReal) = s (sorted s (k.castLE hK)) := by
  rw [values_eq, take_eq b n hK]
  exact sort_fst x s b n hs (numbers N) _

/-- Where it is. -/
theorem indices_apply (hs : ∀ m, (x (ix3 b n m) : EReal) = s m) (h : (Rows N).Slices (fun _ => 0) (Rows K)) (k : Fin K) :
    (Host.topK (Rows K) 2 (FloatOps.cmpfTotal (F := Ideal) (φ := .f32) .gt) x h).2 (ix3 b n k) = BitVec.ofNat 32 (sorted s (k.castLE hK)).val := by
  rw [indices_eq, take_eq b n hK]
  refine (sort_snd x s b n hs (numbers N) _).trans ?_
  unfold numbers
  rw [dif_pos axis_lt]
  rfl

end Cert.TopK

end
-- ==== Proof.Ref.lean ====
/-
  The reference program at an index: its products, its 128 best candidates, the cells they fall into, and the first layer.
-/
module

public import proofs.«01_k».proof.Proof.Gen.ReferenceIdeal.Run
public import proofs.«01_k».proof.Proof.Level
public import proofs.«01_k».proof.Proof.TopK
public import Idealize.ShloMosaic.Lib.Pointwise

@[expose] public section

set_option maxRecDepth 16384

noncomputable section

namespace Cert.Ref

open Cert.ReferenceIdeal Cert.ReferenceIdeal.Gen Cert.ReferenceIdeal.Value Idealize.ShloMosaic Cert.Model Cert.Order
open Cert.Level (select_eq select_iff)
open Cert.Counts (flag_le)

variable (V0 : Valuation τ sig (Elt Ideal))

/-- The arrays of the reference's arguments. -/
def arrays : Arrays where
  f1 b k n := V0 (Proc.devRef .tc main_arg0) (ix3 b k n)
  f2 b k n := V0 (Proc.devRef .tc main_arg1) (ix3 b k n)
  xyz b n d := V0 (Proc.devRef .tc main_arg2) (ix3 b n d)
  crd b n d := V0 (Proc.devRef .tc main_arg3) (ix3 b n d)
  w ch f := V0 (Proc.devRef .tc main_arg4) (ix2 ch f)
  b ch := V0 (Proc.devRef .tc main_arg5) (ix1 ch)

theorem scores_apply (b : Fin 2) (n m : Fin 4096) : (res_main_v3 V0 (ix3 b n m) : EReal) = score (arrays V0) b n m := by
  unfold res_main_v3
  pointwise
  have h : Ideal.ofBits .f32 0x43000000#32 = ((128 : ℝ) : EReal) := by
    simp [Ideal.ofBits, Ideal.ieee, -EReal.coe_mul]
    norm_num
  have h0 : Real.sqrt 128 ≠ 0 := (Real.sqrt_pos.mpr (by norm_num)).ne'
  unfold score
  rw [show Ideal.ofBits FTy.f32 1124073472#32 = ((128 : ℝ) : EReal) from h, Ideal.sqrt_coe, if_neg (by norm_num),
    Ideal.div_coe h0, one_div]
  rfl

/-! ## The 128 best candidates -/

theorem values_apply (b : Fin 2) (n : Fin 4096) (k : Fin 128) :
    (res_main_values V0 (ix3 b n k) : EReal) = score (arrays V0) b n (best (arrays V0) b n k) :=
  TopK.values_apply (res_main_v3 V0) _ b n (by decide) (scores_apply V0 b n) sliceFits_S2x4096x4096_S2x4096x128 k

theorem indices_apply (b : Fin 2) (n : Fin 4096) (k : Fin 128) :
    res_main_indices V0 (ix3 b n k) = BitVec.ofNat 32 (best (arrays V0) b n k).val :=
  TopK.indices_apply (res_main_v3 V0) _ b n (by decide) (scores_apply V0 b n) sliceFits_S2x4096x4096_S2x4096x128 k

/-! ## Their positions -/

theorem clamp (a c : ℕ) (ha : a ≤ c) (hc : c < 2 ^ 31) : min (BitVec.ofNat 32 a).toInt.toNat c = a := by
  rw [BitVec.toInt_eq_toNat_cond, BitVec.toNat_ofNat]
  omega

theorem gather_apply (x : FVec Ideal S2x4096x3 .f32) (idx : IVec S2x4096x128x2 32) (b : Fin 2) (n : Fin 4096) (k : Fin 128) (d : Fin 3)
    (B : Fin 2) (M : Fin 4096) (h0 : idx (ix4 b n k 0) = BitVec.ofNat 32 B.val) (h1 : idx (ix4 b n k 1) = BitVec.ofNat 32 M.val) :
    Host.gather gather_S2x4096x3_S2x4096x128x2_S2x4096x128x3_3_01_n_n_01_3_113 x idx (ix4 b n k d) = x (ix3 B M d) := by
  unfold Host.gather
  refine congrArg x (funext fun a => Fin.ext ?_)
  match a with
  | ⟨0, _⟩ =>
    show GatherDims.start _ (ix4 b n k d) idx 0 + GatherDims.batchCoord _ (ix4 b n k d) 0 + GatherDims.offCoord _ (ix4 b n k d) 0 = B.val
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    refine Eq.trans ?_ (clamp B.val 1 (by omega) (by decide))
    rw [← h0]
    refine congrArg (fun j => min (idx j).toInt.toNat 1) (funext fun a => Fin.ext ?_)
    match a with
    | ⟨0, _⟩ => rfl
    | ⟨1, _⟩ => rfl
    | ⟨2, _⟩ => rfl
    | ⟨3, _⟩ => rfl
  | ⟨1, _⟩ =>
    show GatherDims.start _ (ix4 b n k d) idx 1 + GatherDims.batchCoord _ (ix4 b n k d) 1 + GatherDims.offCoord _ (ix4 b n k d) 1 = M.val
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    refine Eq.trans ?_ (clamp M.val 4095 (by omega) (by decide))
    rw [← h1]
    refine congrArg (fun j => min (idx j).toInt.toNat 4095) (funext fun a => Fin.ext ?_)
    match a with
    | ⟨0, _⟩ => rfl
    | ⟨1, _⟩ => rfl
    | ⟨2, _⟩ => rfl
    | ⟨3, _⟩ => rfl
  | ⟨2, _⟩ =>
    show GatherDims.start _ (ix4 b n k d) idx 2 + GatherDims.batchCoord _ (ix4 b n k d) 2 + GatherDims.offCoord _ (ix4 b n k d) 2 = d.val
    rw [GatherDims.batchCoord_eq_zero _ _ _ List.not_mem_nil]
    unfold GatherDims.start
    rw [dif_neg (by decide)]
    unfold GatherDims.offCoord
    rw [dif_pos (by decide)]
    refine (Nat.zero_add _).trans ?_
    rfl

theorem wrapped (a c : ℕ) (ha : a < 2 ^ 31) :
    Scalar.select (IntOp.cmpi .slt (BitVec.ofNat 32 a) 0#32) (IntOp.addi (BitVec.ofNat 32 a) (BitVec.ofNat 32 c)) (BitVec.ofNat 32 a)
      = BitVec.ofNat 32 a := by
  have h : IntOp.cmpi .slt (BitVec.ofNat 32 a) 0#32 = 0#1 := by
    show BitVec.ofBool (BitVec.slt (BitVec.ofNat 32 a) 0#32) = 0#1
    rw [BitVec.slt, BitVec.toInt_eq_toNat_cond, BitVec.toNat_ofNat]
    have : ¬ (if 2 * (a % 2 ^ 32) < 2 ^ 32 then ((a % 2 ^ 32 : ℕ) : ℤ) else ((a % 2 ^ 32 : ℕ) : ℤ) - ((2 ^ 32 : ℕ) : ℤ)) < (0#32).toInt := by
      rw [show (0#32).toInt = 0 from rfl]
      omega
    rw [decide_eq_false this]
    rfl
  rw [h]
  rfl

/-- The start indices: the batch and the candidate, a negative one counted from the end. -/
def starts (u : IVec S2x1x1 32) (w : IVec S2x4096x128 32) : IVec S2x4096x128x2 32 :=
  concatenate S2x4096x128x2 3 [⟨S2x4096x128x1, (broadcastInDim S2x4096x128x1 ![0, 1, 2] bcast_S2x4096x128_S2x4096x128x1_0_1_2
      (broadcastInDim S2x4096x128 ![0, 1, 2] bcast_S2x1x1_S2x4096x128_0_1_2
        (select (cmpi .slt u (broadcastInDim S2x1x1 ![] bcast_S_S2x1x1 (constantI S_ 32 0#32)))
          (addi u (broadcastInDim S2x1x1 ![] bcast_S_S2x1x1 (constantI S_ 32 2#32))) u)))⟩,
    ⟨S2x4096x128x1, (broadcastInDim S2x4096x128x1 ![0, 1, 2] bcast_S2x4096x128_S2x4096x128x1_0_1_2
      (select (cmpi .slt w (broadcastInDim S2x4096x128 ![] bcast_S_S2x4096x128 (constantI S_ 32 0#32)))
        (addi w (broadcastInDim S2x4096x128 ![] bcast_S_S2x4096x128 (constantI S_ 32 4096#32))) w))⟩]
    concatenates_S2x4096x128x1_S2x4096x128x1_S2x4096x128x2_d3

theorem starts_zero (u : IVec S2x1x1 32) (w : IVec S2x4096x128 32) (b : Fin 2) (n : Fin 4096) (k : Fin 128) :
    starts u w (ix4 b n k 0) = Scalar.select (IntOp.cmpi .slt (u (ix3 b 0 0)) 0#32) (IntOp.addi (u (ix3 b 0 0)) 2#32) (u (ix3 b 0 0)) := by
  unfold starts
  pointwise

theorem starts_one (u : IVec S2x1x1 32) (w : IVec S2x4096x128 32) (b : Fin 2) (n : Fin 4096) (k : Fin 128) :
    starts u w (ix4 b n k 1) = Scalar.select (IntOp.cmpi .slt (w (ix3 b n k)) 0#32) (IntOp.addi (w (ix3 b n k)) 4096#32) (w (ix3 b n k)) := by
  unfold starts
  pointwise

theorem batch_apply (b : Fin 2) : res_main_v5 V0 (ix3 b 0 0) = BitVec.ofNat 32 b.val := by
  unfold res_main_v5
  pointwise

theorem positions_apply (b : Fin 2) (n : Fin 4096) (k : Fin 128) (d : Fin 3) :
    (res_main_v20 V0 (ix4 b n k d) : EReal) = (arrays V0).xyz b (best (arrays V0) b n k) d := by
  have h0 : starts (res_main_v5 V0) (res_main_indices V0) (ix4 b n k 0) = BitVec.ofNat 32 b.val := by
    rw [starts_zero, batch_apply]
    exact wrapped _ _ (by omega)
  have h1 : starts (res_main_v5 V0) (res_main_indices V0) (ix4 b n k 1) = BitVec.ofNat 32 (best (arrays V0) b n k).val := by
    rw [starts_one, indices_apply]
    exact wrapped _ _ (by have := (best (arrays V0) b n k).isLt; omega)
  exact gather_apply (V0 (Proc.devRef .tc main_arg2)) _ b n k d b _ h0 h1

/-! ## One level -/

/-- The offsets at one cell size. -/
def offs (s : BitVec 32) (t : FVec Ideal S2x4096x128x3 .f32) (c : FVec Ideal S2x4096x3 .f32) : FVec Ideal S2x4096x128x3 .f32 :=
  Host.roundeven (Host.divf (subf t (broadcastInDim S2x4096x128x3 ![0, 1, 2, 3] bcast_S2x4096x1x3_S2x4096x128x3_0_1_2_3
    (broadcastInDim S2x4096x1x3 ![0, 1, 3] bcast_S2x4096x3_S2x4096x1x3_0_1_3 c)))
    (broadcastInDim S2x4096x128x3 ![] bcast_S_S2x4096x128x3 (constant S_ .f32 s)))

/-- Whether all three offsets are at most one. -/
def valid (d : FVec Ideal S2x4096x128x3 .f32) : IVec S2x4096x128 1 :=
  Host.reduce IntOp.andi (cmpf .ole (Host.absf d) (broadcastInDim S2x4096x128x3 ![] bcast_S_S2x4096x128x3 (constant S_ .f32 0x3F800000#32)))
    (constantI S_ 1 1#1) reducesTo_S2x4096x128x3_S2x4096x128_d3 h_S_

theorem offs_apply (s : BitVec 32) (t : FVec Ideal S2x4096x128x3 .f32) (c : FVec Ideal S2x4096x3 .f32)
    (b : Fin 2) (n : Fin 4096) (k : Fin 128) (d : Fin 3) :
    (offs s t c (ix4 b n k d) : EReal) = off (lit s) (t (ix4 b n k d)) (c (ix3 b n d)) := by
  unfold offs
  pointwise
  rfl

theorem valid_apply (d : FVec Ideal S2x4096x128x3 .f32) (b : Fin 2) (n : Fin 4096) (k : Fin 128) :
    valid d (ix3 b n k) = 1#1 ↔ Ok (d (ix4 b n k 0)) (d (ix4 b n k 1)) (d (ix4 b n k 2)) := by
  unfold valid
  pointwise
  rw [show (Finset.univ : Finset (Fin 3)) = {0, 1, 2} from rfl]
  rw [Finset.fold_insert (by decide), Finset.fold_insert (by decide), Finset.fold_singleton]
  have h : ∀ p q r : BitVec 1, IntOp.andi p (IntOp.andi q (IntOp.andi r 1#1)) = 1#1 ↔ p = 1#1 ∧ q = 1#1 ∧ r = 1#1 := by decide
  exact (h _ _ _).trans (and_congr (flag_le _ _) (and_congr (flag_le _ _) (flag_le _ _)))

/-- The bins each candidate falls into. -/
def hits (d : FVec Ideal S2x4096x128x3 .f32) (v : IVec S2x4096x128 1) : IVec S2x4096x128x27 1 :=
  cmpi .eq (broadcastInDim S2x4096x128x27 ![0, 1, 2, 3] bcast_S2x4096x128x1_S2x4096x128x27_0_1_2_3
    (broadcastInDim S2x4096x128x1 ![0, 1, 2] bcast_S2x4096x128_S2x4096x128x1_0_1_2
      (muli (fptosi 32 (addf (addf
        (mulf (shapeCast _ (extractStridedSlice S2x4096x128x1 ![0, 0, 0, 0] d slices_S2x4096x128x3_S2x4096x128x1_0_0_0_0) shapeCasts_S2x4096x128x1_S2x4096x128)
          (broadcastInDim S2x4096x128 ![] bcast_S_S2x4096x128 (constant S_ .f32 0x41100000#32)))
        (mulf (shapeCast _ (extractStridedSlice S2x4096x128x1 ![0, 0, 0, 1] d slices_S2x4096x128x3_S2x4096x128x1_0_0_0_1) shapeCasts_S2x4096x128x1_S2x4096x128)
          (broadcastInDim S2x4096x128 ![] bcast_S_S2x4096x128 (constant S_ .f32 0x40400000#32))))
        (shapeCast _ (extractStridedSlice S2x4096x128x1 ![0, 0, 0, 2] d slices_S2x4096x128x3_S2x4096x128x1_0_0_0_2) shapeCasts_S2x4096x128x1_S2x4096x128)))
        (extui 32 v natLt_1_32))))
    (broadcastInDim S2x4096x128x27 ![0, 1, 2, 3] bcast_S1x1x1x27_S2x4096x128x27_0_1_2_3
      (broadcastInDim S1x1x1x27 ![3] bcast_S27_S1x1x1x27_3 (iotaInDim S27 32 0)))

/-- The sum of `a` over the candidates in each bin. -/
def binned (h : IVec S2x4096x128x27 1) (a : FVec Ideal S2x4096x128 .f32) : FVec Ideal S2x4096x27 .f32 :=
  Host.reduceAdd (select h (broadcastInDim S2x4096x128x27 ![0, 1, 2, 3] bcast_S2x4096x128x1_S2x4096x128x27_0_1_2_3
    (broadcastInDim S2x4096x128x1 ![0, 1, 2] bcast_S2x4096x128_S2x4096x128x1_0_1_2 a))
    (broadcastInDim S2x4096x128x27 ![] bcast_S_S2x4096x128x27 (id (constant S_ .f32 0x00000000#32))))
    (constant S_ .f32 0x00000000#32) reducesTo_S2x4096x128x27_S2x4096x27_d2 h_S_

/-- The mean of each bin. -/
def means (h : IVec S2x4096x128x27 1) (a w : FVec Ideal S2x4096x128 .f32) : FVec Ideal S2x27x4096 .f32 :=
  transpose S2x27x4096 [0, 2, 1] (Host.divf (binned h (mulf a w))
    (minimumf (broadcastInDim S2x4096x27 ![] bcast_S_S2x4096x27 (id (constant S_ .f32 0x45800000#32)))
      (maximumf (broadcastInDim S2x4096x27 ![] bcast_S_S2x4096x27 (id (constant S_ .f32 0x3F800000#32))) (binned h w))))
    transposes_S2x4096x27_S2x27x4096_0_2_1

theorem hits_apply (d : FVec Ideal S2x4096x128x3 .f32) (v : IVec S2x4096x128 1) (b : Fin 2) (n : Fin 4096) (k : Fin 128) (o : Fin 27) :
    hits (addf d (broadcastInDim S2x4096x128x3 ![] bcast_S_S2x4096x128x3 (constant S_ .f32 0x3F800000#32))) v (ix4 b n k o)
      = IntOp.cmpi .eq (IntOp.muli (number (d (ix4 b n k 0)) (d (ix4 b n k 1)) (d (ix4 b n k 2))) ((v (ix3 b n k)).setWidth 32)) (BitVec.ofNat 32 o.val) := by
  unfold hits
  pointwise
  rfl

theorem binned_apply (h : IVec S2x4096x128x27 1) (a : FVec Ideal S2x4096x128 .f32) (b : Fin 2) (n : Fin 4096) (o : Fin 27) :
    (binned h a (ix3 b n o) : EReal) = ∑ k : Fin 128, Scalar.select (h (ix4 b n k o)) (a (ix3 b n k) : EReal) 0 := by
  unfold binned
  simp only [id_eq]
  pointwise

theorem means_apply (h : IVec S2x4096x128x27 1) (a w : FVec Ideal S2x4096x128 .f32) (b : Fin 2) (n : Fin 4096) (o : Fin 27) :
    (means h a w (ix3 b o n) : EReal) = Ideal.div (binned h (mulf a w) (ix3 b n o)) (min (lit 0x45800000#32) (max 1 (binned h w (ix3 b n o)))) := by
  unfold means
  simp only [id_eq]
  pointwise
  rfl

/-- One level: the means of its 27 bins. -/
def level (s : BitVec 32) (t : FVec Ideal S2x4096x128x3 .f32) (c : FVec Ideal S2x4096x3 .f32) (a : FVec Ideal S2x4096x128 .f32) :
    FVec Ideal S2x27x4096 .f32 :=
  means (hits (addf (offs s t c) (broadcastInDim S2x4096x128x3 ![] bcast_S_S2x4096x128x3 (constant S_ .f32 0x3F800000#32))) (valid (offs s t c)))
    a (uitofp .f32 (valid (offs s t c)))

section Level

variable (s : BitVec 32) (t : FVec Ideal S2x4096x128x3 .f32) (c : FVec Ideal S2x4096x3 .f32) (a : FVec Ideal S2x4096x128 .f32)
variable (b : Fin 2) (n : Fin 4096)

theorem product_cell {v : BitVec 1} {dx dy dz : EReal} (h : v = 1#1 ↔ Ok dx dy dz) :
    IntOp.muli (number dx dy dz) (v.setWidth 32) = cellAt dx dy dz := by
  unfold cellAt
  split
  next hp =>
    rw [h.mpr hp]
    exact BitVec.mul_one _
  next hp =>
    have : v = 0#1 := by
      have hv : ∀ u : BitVec 1, u ≠ 1#1 → u = 0#1 := by decide
      exact hv v fun e => hp (h.mp e)
    rw [this]
    exact BitVec.mul_zero

theorem flag_weight {v : BitVec 1} {dx dy dz : EReal} (h : v = 1#1 ↔ Ok dx dy dz) : ((v.toNat : ℝ) : EReal) = weightAt dx dy dz := by
  unfold weightAt
  split
  next hp =>
    rw [h.mpr hp]
    simp
  next hp =>
    have : v = 0#1 := by
      have hv : ∀ u : BitVec 1, u ≠ 1#1 → u = 0#1 := by decide
      exact hv v fun e => hp (h.mp e)
    rw [this]
    simp

/-- Candidate `k` of the gathered arrays. -/
def entryOf (k : Fin 128) : Entry := ⟨a (ix3 b n k), ⟨t (ix4 b n k 0), t (ix4 b n k 1), t (ix4 b n k 2)⟩⟩

/-- A point of the position array. -/
def pointOf : Place := ⟨c (ix3 b n 0), c (ix3 b n 1), c (ix3 b n 2)⟩

theorem level_valid (k : Fin 128) : valid (offs s t c) (ix3 b n k) = 1#1 ↔
    Ok (off (lit s) (t (ix4 b n k 0)) (c (ix3 b n 0))) (off (lit s) (t (ix4 b n k 1)) (c (ix3 b n 1)))
      (off (lit s) (t (ix4 b n k 2)) (c (ix3 b n 2))) := by
  rw [valid_apply, offs_apply, offs_apply, offs_apply]

theorem level_weight (k : Fin 128) : (uitofp (F := Ideal) .f32 (valid (offs s t c)) (ix3 b n k) : EReal)
    = weight (lit s) (pointOf c b n) (entryOf t a b n k) :=
  flag_weight (level_valid s t c b n k)

theorem level_hits (k : Fin 128) (o : Fin 27) (x y : EReal) :
    Scalar.select (hits (addf (offs s t c) (broadcastInDim S2x4096x128x3 ![] bcast_S_S2x4096x128x3 (constant S_ .f32 0x3F800000#32)))
      (valid (offs s t c)) (ix4 b n k o)) x y
      = if cellOf (lit s) (pointOf c b n) (entryOf t a b n k) = BitVec.ofNat 32 o.val then x else y := by
  rw [hits_apply, select_eq, offs_apply, offs_apply, offs_apply, product_cell (level_valid s t c b n k)]
  rfl

/-- A level at an index: the mean of one bin. -/
theorem level_apply (o : Fin 27) :
    (level s t c a (ix3 b o n) : EReal) = mean (lit s) (pointOf c b n) (entryOf t a b n) o.val := by
  unfold level mean
  rw [means_apply, binned_apply, binned_apply]
  refine congrArg₂ Ideal.div (Finset.sum_congr rfl fun k _ => ?_)
    (congrArg (fun z => min (lit 0x45800000#32) (max 1 z)) (Finset.sum_congr rfl fun k _ => ?_))
  · rw [level_hits s t c a b n k o]
    unfold share
    refine if_congr Iff.rfl ?_ rfl
    rw [← level_weight s t c a b n k]
    rfl
  · rw [level_hits s t c a b n k o]
    unfold tally
    exact if_congr Iff.rfl (level_weight s t c a b n k) rfl

end Level

/-! ## The first layer -/

/-- Three levels side by side, the layer's weights and its bias. -/
def layer (x y z : FVec Ideal S2x27x4096 .f32) (w : FVec Ideal S128x81 .f32) (v : FVec Ideal S128 .f32) : FVec Ideal S2x128x4096 .f32 :=
  addf (transpose S2x128x4096 [0, 2, 1] (Host.dotGeneral dot_S2x81x4096_S128x81_S2x4096x128_1_1_02_0_n_n none
      (concatenate S2x81x4096 1 [⟨S2x27x4096, x⟩, ⟨S2x27x4096, y⟩, ⟨S2x27x4096, z⟩] concatenates_S2x27x4096_S2x27x4096_S2x27x4096_S2x81x4096_d1) w)
    transposes_S2x4096x128_S2x128x4096_0_2_1)
    (broadcastInDim S2x128x4096 ![0, 1, 2] bcast_S1x128x1_S2x128x4096_0_1_2 (broadcastInDim S1x128x1 ![1] bcast_S128_S1x128x1_1 v))

theorem layer_apply (x y z : FVec Ideal S2x27x4096 .f32) (w : FVec Ideal S128x81 .f32) (v : FVec Ideal S128 .f32)
    (b : Fin 2) (ch : Fin 128) (n : Fin 4096) (g : Fin 81 → EReal) (hx : ∀ o : Fin 27, x (ix3 b o n) = g ⟨o.val, by omega⟩)
    (hy : ∀ o : Fin 27, y (ix3 b o n) = g ⟨27 + o.val, by omega⟩) (hz : ∀ o : Fin 27, z (ix3 b o n) = g ⟨54 + o.val, by omega⟩) :
    (layer x y z w v (ix3 b ch n) : EReal) = ∑ f : Fin 81, g f * w (ix2 ch f) + v (ix1 ch) := by
  unfold layer
  pointwise
  refine congrArg₂ (· + ·) (Finset.sum_congr rfl fun f _ => congrArg₂ (· * ·) ?_ rfl) rfl
  by_cases h1 : f.val < 27
  · rw [dif_pos h1]
    exact hx _
  · rw [dif_neg h1]
    by_cases h2 : f.val - 27 < 27
    · rw [dif_pos h2]
      exact (hy _).trans (congrArg g (Fin.ext (by show 27 + (f.val - 27) = f.val; omega)))
    · rw [dif_neg h2]
      exact (hz _).trans (congrArg g (Fin.ext (by show 54 + (f.val - 27 - 27) = f.val; omega)))

theorem first_eq : (res_main_v158 V0 : FVec Ideal S2x128x4096 .f32) =
    layer (level 0x3E800000#32 (res_main_v20 V0) (V0 (Proc.devRef .tc main_arg3)) (res_main_values V0))
      (level 0x3F000000#32 (res_main_v20 V0) (V0 (Proc.devRef .tc main_arg3)) (res_main_values V0))
      (level 0x3F800000#32 (res_main_v20 V0) (V0 (Proc.devRef .tc main_arg3)) (res_main_values V0))
      (V0 (Proc.devRef .tc main_arg4)) (V0 (Proc.devRef .tc main_arg5)) := rfl

theorem first_apply (b : Fin 2) (ch : Fin 128) (n : Fin 4096) :
    (res_main_v158 V0 (ix3 b ch n) : EReal) = first (arrays V0) b n ch := by
  have he : entryOf (res_main_v20 V0) (res_main_values V0) b n = fun k => candidate (arrays V0) b n (best (arrays V0) b n k) := by
    funext k
    unfold entryOf candidate
    rw [values_apply, positions_apply, positions_apply, positions_apply]
  have hf : ∀ f : ℕ, featureOf (arrays V0) b n f = feature (pointOf (V0 (Proc.devRef .tc main_arg3)) b n)
      (entryOf (res_main_v20 V0) (res_main_values V0) b n) f := fun f => by rw [he]; rfl
  rw [first_eq]
  refine layer_apply _ _ _ _ _ b ch n (fun f => featureOf (arrays V0) b n f.val) (fun o => ?_) (fun o => ?_) (fun o => ?_)
  · show _ = featureOf (arrays V0) b n o.val
    rw [hf, level_apply]
    unfold feature
    rw [if_pos o.isLt]
  · show _ = featureOf (arrays V0) b n (27 + o.val)
    rw [hf, level_apply]
    unfold feature
    rw [if_neg (by omega), if_pos (by omega), Nat.add_sub_cancel_left]
  · show _ = featureOf (arrays V0) b n (54 + o.val)
    rw [hf, level_apply]
    unfold feature
    rw [if_neg (by omega), if_neg (by omega), if_pos (by omega), Nat.add_sub_cancel_left]

end Cert.Ref

end
-- ==== Proof.RefNear.lean ====
/-
  The reference program's second half at an index: the 32 nearest of a point's 128 candidates, the nearest first, and the
  second layer at them.
-/
module

public import proofs.«01_k».proof.Proof.Ref
public import proofs.«01_k».proof.Proof.Full

@[expose] public section

set_option maxRecDepth 16384

noncomputable section

namespace Cert.RefNear

open Cert.ReferenceIdeal Cert.ReferenceIdeal.Gen Cert.ReferenceIdeal.Value Idealize.ShloMosaic Cert.Model Cert.Order Cert.Knn Cert.Full
open Cert.Ref (arrays clamp wrapped)

variable (V0 : Valuation τ sig (Elt Ideal))

/-- The arrays of the second half. -/
def weights : Weights where
  g1 ch := V0 (Proc.devRef .tc main_arg6) (ix1 ch)
  be1 ch := V0 (Proc.devRef .tc main_arg7) (ix1 ch)
  a1 := V0 (Proc.devRef .tc main_arg8) ix0
  w2 o ch := V0 (Proc.devRef .tc main_arg9) (ix2 o ch)
  b2 o := V0 (Proc.devRef .tc main_arg10) (ix1 o)
  wk o k := V0 (Proc.devRef .tc main_arg11) (ix2 o k)
  bk o := V0 (Proc.devRef .tc main_arg12) (ix1 o)
  gk o := V0 (Proc.devRef .tc main_arg13) (ix1 o)
  bek o := V0 (Proc.devRef .tc main_arg14) (ix1 o)
  ak := V0 (Proc.devRef .tc main_arg15) ix0
  wo o ch := V0 (Proc.devRef .tc main_arg16) (ix2 o ch)
  bo o := V0 (Proc.devRef .tc main_arg17) (ix1 o)

/-! ## The nearest -/

theorem offset_apply (b : Fin 2) (n : Fin 4096) (k : Fin 128) (d : Fin 3) :
    (res_main_v191 V0 (ix4 b n k d) : EReal) = (arrays V0).xyz b (best (arrays V0) b n k) d - (arrays V0).crd b n d := by
  unfold res_main_v191
  pointwise
  rw [Ref.positions_apply]
  rfl

/-- How near the candidates of a point are, in order of their products. -/
def nearness (I : Arrays) (b : Fin 2) (n : Fin 4096) (k : Fin 128) : EReal := close (here I b n) (candidate I b n (ranked (score I b n) k))

theorem nearness_apply (b : Fin 2) (n : Fin 4096) (k : Fin 128) : (res_main_v194 V0 (ix3 b n k) : EReal) = nearness (arrays V0) b n k := by
  unfold res_main_v194
  pointwise
  simp only [offset_apply]
  rw [Fin.sum_univ_three]
  rfl

/-- Where the `t`-th nearest is among the 128. -/
def slot (I : Arrays) (b : Fin 2) (n : Fin 4096) (t : Fin 32) : Fin 128 := sorted (nearness I b n) (t.castLE (by decide))

theorem slots_apply (b : Fin 2) (n : Fin 4096) (t : Fin 32) : res_main_indices_46 V0 (ix3 b n t) = BitVec.ofNat 32 (slot (arrays V0) b n t).val :=
  TopK.indices_apply (res_main_v194 V0) _ b n (by decide) (nearness_apply V0 b n) sliceFits_S2x4096x128_S2x4096x32 t

/-- The start indices: the batch, the point and the slot, a negative one counted from the end. -/
def starts (u : IVec S2x1x1 32) (v : IVec S1x4096x1 32) (w : IVec S2x4096x32 32) : IVec S2x4096x32x3 32 :=
  concatenate S2x4096x32x3 3 [⟨S2x4096x32x1, broadcastInDim S2x4096x32x1 ![0, 1, 2] bcast_S2x4096x32_S2x4096x32x1_0_1_2
      (broadcastInDim S2x4096x32 ![0, 1, 2] bcast_S2x1x1_S2x4096x32_0_1_2 (select (cmpi .slt u (broadcastInDim S2x1x1 ![] bcast_S_S2x1x1 (constantI S_ 32 0#32)))
        (addi u (broadcastInDim S2x1x1 ![] bcast_S_S2x1x1 (constantI S_ 32 2#32))) u))⟩,
    ⟨S2x4096x32x1, broadcastInDim S2x4096x32x1 ![0, 1, 2] bcast_S2x4096x32_S2x4096x32x1_0_1_2
      (broadcastInDim S2x4096x32 ![0, 1, 2] bcast_S1x4096x1_S2x4096x32_0_1_2 (select (cmpi .slt v (broadcastInDim S1x4096x1 ![] bcast_S_S1x4096x1 (constantI S_ 32 0#32)))
        (addi v (broadcastInDim S1x4096x1 ![] bcast_S_S1x4096x1 (constantI S_ 32 4096#32))) v))⟩,
    ⟨S2x4096x32x1, broadcastInDim S2x4096x32x1 ![0, 1, 2] bcast_S2x4096x32_S2x4096x32x1_0_1_2
      (select (cmpi .slt w (broadcastInDim S2x4096x32 ![] bcast_S_S2x4096x32 (constantI S_ 32 0#32)))
        (addi w (broadcastInDim S2x4096x32 ![] bcast_S_S2x4096x32 (constantI S_ 32 128#32))) w)⟩]
    concatenates_S2x4096x32x1_S2x4096x32x1_S2x4096x32x1_S2x4096x32x3_d3

theorem starts_zero (u : IVec S2x1x1 32) (v : IVec S1x4096x1 32) (w : IVec S2x4096x32 32) (b : Fin 2) (n : Fin 4096) (t : Fin 32) :
    starts u v w (ix4 b n t 0) = Scalar.select (IntOp.cmpi .slt (u (ix3 b 0 0)) 0#32) (IntOp.addi (u (ix3 b 0 0)) 2#32) (u (ix3 b 0 0)) := by
  unfold starts
  pointwise

theorem starts_one (u : IVec S2x1x1 32) (v : IVec S1x4096x1 32) (w : IVec S2x4096x32 32) (b : Fin 2) (n : Fin 4096) (t : Fin 32) :
    starts u v w (ix4 b n t 1) = Scalar.select (IntOp.cmpi .slt (v (ix3 0 n 0)) 0#32) (IntOp.addi (v (ix3 0 n 0)) 4096#32) (v (ix3 0 n 0)) := by
  unfold starts
  pointwise

theorem starts_two (u : IVec S2x1x1 32) (v : IVec S1x4096x1 32) (w : IVec S2x4096x32 32) (b : Fin 2) (n : Fin 4096) (t : Fin 32) :
    starts u v w (ix4 b n t 2) = Scalar.select (IntOp.cmpi .slt (w (ix3 b n t)) 0#32) (IntOp.addi (w (ix3 b n t)) 128#32) (w (ix3 b n t)) := by
  unfold starts
  pointwise

theorem point_apply (n : Fin 4096) : res_main_v196 V0 (ix3 0 n 0) = BitVec.ofNat 32 n.val := by
  unfold res_main_v196
  pointwise

/-- The start indices of the nearest. -/
abbrev at' : IVec S2x4096x32x3 32 := starts (res_main_v5 V0) (res_main_v196 V0) (res_main_indices_46 V0)

theorem at_apply (b : Fin 2) (n : Fin 4096) (t : Fin 32) : at' V0 (ix4 b n t 0) = BitVec.ofNat 32 b.val ∧ at' V0 (ix4 b n t 1) = BitVec.ofNat 32 n.val
    ∧ at' V0 (ix4 b n t 2) = BitVec.ofNat 32 (slot (arrays V0) b n t).val := by
  refine ⟨?_, ?_, ?_⟩
  · refine (starts_zero _ _ _ b n t).trans ?_
    rw [Ref.batch_apply]
    exact wrapped _ _ (by omega)
  · refine (starts_one _ _ _ b n t).trans ?_
    rw [point_apply]
    exact wrapped _ _ (by omega)
  · refine (starts_two _ _ _ b n t).trans ?_
    rw [slots_apply]
    exact wrapped _ _ (by have := (slot (arrays V0) b n t).isLt; omega)

theorem gather_products (x : FVec Ideal S2x4096x128 .f32) (idx : IVec S2x4096x32x3 32) (b : Fin 2) (n : Fin 4096) (t : Fin 32)
    (B : Fin 2) (N : Fin 4096) (M : Fin 128) (h : idx (ix4 b n t 0) = BitVec.ofNat 32 B.val ∧ idx (ix4 b n t 1) = BitVec.ofNat 32 N.val
      ∧ idx (ix4 b n t 2) = BitVec.ofNat 32 M.val) :
    Host.gather gather_S2x4096x128_S2x4096x32x3_S2x4096x32_n_012_n_n_012_3_111 x idx (ix3 b n t) = x (ix3 B N M) := by
  have key : ∀ (a : Fin 3) (c v : ℕ), v ≤ c → c < 2 ^ 31 → idx (ix4 b n t a) = BitVec.ofNat 32 v → min (idx (ix4 b n t a)).toInt.toNat c = v :=
    fun a c v hv hc e => by rw [e]; exact clamp v c hv hc
  have e4 : ∀ (j : S2x4096x32x3.Idx) (a : Fin 3), j = ix4 b n t a → ∀ c, min (idx j).toInt.toNat c = min (idx (ix4 b n t a)).toInt.toNat c :=
    fun j a e c => by rw [e]
  unfold Host.gather
  refine congrArg x (funext fun a => Fin.ext ?_)
  match a with
  | ⟨0, _⟩ =>
    show GatherDims.start _ (ix3 b n t) idx 0 + GatherDims.batchCoord _ (ix3 b n t) 0 + GatherDims.offCoord _ (ix3 b n t) 0 = B.val
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    refine Eq.trans ?_ (key 0 1 B.val (by omega) (by decide) h.1)
    refine e4 _ 0 (funext fun a => Fin.ext ?_) 1
    fin_cases a <;> rfl
  | ⟨1, _⟩ =>
    show GatherDims.start _ (ix3 b n t) idx 1 + GatherDims.batchCoord _ (ix3 b n t) 1 + GatherDims.offCoord _ (ix3 b n t) 1 = N.val
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    refine Eq.trans ?_ (key 1 4095 N.val (by omega) (by decide) h.2.1)
    refine e4 _ 1 (funext fun a => Fin.ext ?_) 4095
    fin_cases a <;> rfl
  | ⟨2, _⟩ =>
    show GatherDims.start _ (ix3 b n t) idx 2 + GatherDims.batchCoord _ (ix3 b n t) 2 + GatherDims.offCoord _ (ix3 b n t) 2 = M.val
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    refine Eq.trans ?_ (key 2 127 M.val (by omega) (by decide) h.2.2)
    refine e4 _ 2 (funext fun a => Fin.ext ?_) 127
    fin_cases a <;> rfl

theorem gather_places (x : FVec Ideal S2x4096x128x3 .f32) (idx : IVec S2x4096x32x3 32) (b : Fin 2) (n : Fin 4096) (t : Fin 32) (d : Fin 3)
    (B : Fin 2) (N : Fin 4096) (M : Fin 128) (h : idx (ix4 b n t 0) = BitVec.ofNat 32 B.val ∧ idx (ix4 b n t 1) = BitVec.ofNat 32 N.val
      ∧ idx (ix4 b n t 2) = BitVec.ofNat 32 M.val) :
    Host.gather gather_S2x4096x128x3_S2x4096x32x3_S2x4096x32x3_3_012_n_n_012_3_1113 x idx (ix4 b n t d) = x (ix4 B N M d) := by
  have key : ∀ (a : Fin 3) (c v : ℕ), v ≤ c → c < 2 ^ 31 → idx (ix4 b n t a) = BitVec.ofNat 32 v → min (idx (ix4 b n t a)).toInt.toNat c = v :=
    fun a c v hv hc e => by rw [e]; exact clamp v c hv hc
  have e4 : ∀ (j : S2x4096x32x3.Idx) (a : Fin 3), j = ix4 b n t a → ∀ c, min (idx j).toInt.toNat c = min (idx (ix4 b n t a)).toInt.toNat c :=
    fun j a e c => by rw [e]
  unfold Host.gather
  refine congrArg x (funext fun a => Fin.ext ?_)
  match a with
  | ⟨0, _⟩ =>
    show GatherDims.start _ (ix4 b n t d) idx 0 + GatherDims.batchCoord _ (ix4 b n t d) 0 + GatherDims.offCoord _ (ix4 b n t d) 0 = B.val
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    refine Eq.trans ?_ (key 0 1 B.val (by omega) (by decide) h.1)
    refine e4 _ 0 (funext fun a => Fin.ext ?_) 1
    fin_cases a <;> rfl
  | ⟨1, _⟩ =>
    show GatherDims.start _ (ix4 b n t d) idx 1 + GatherDims.batchCoord _ (ix4 b n t d) 1 + GatherDims.offCoord _ (ix4 b n t d) 1 = N.val
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    refine Eq.trans ?_ (key 1 4095 N.val (by omega) (by decide) h.2.1)
    refine e4 _ 1 (funext fun a => Fin.ext ?_) 4095
    fin_cases a <;> rfl
  | ⟨2, _⟩ =>
    show GatherDims.start _ (ix4 b n t d) idx 2 + GatherDims.batchCoord _ (ix4 b n t d) 2 + GatherDims.offCoord _ (ix4 b n t d) 2 = M.val
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    refine Eq.trans ?_ (key 2 127 M.val (by omega) (by decide) h.2.2)
    refine e4 _ 2 (funext fun a => Fin.ext ?_) 127
    fin_cases a <;> rfl
  | ⟨3, _⟩ =>
    show GatherDims.start _ (ix4 b n t d) idx 3 + GatherDims.batchCoord _ (ix4 b n t d) 3 + GatherDims.offCoord _ (ix4 b n t d) 3 = d.val
    rw [GatherDims.batchCoord_eq_zero _ _ _ List.not_mem_nil]
    unfold GatherDims.start
    rw [dif_neg (by decide)]
    unfold GatherDims.offCoord
    rw [dif_pos (by decide)]
    refine (Nat.zero_add _).trans ?_
    rfl

/-! ## The second layer -/

/-- The four values of the nearest: the products of the nearest above their positions less the point's. -/
def quadruple (p : FVec Ideal S2x4096x32 .f32) (q : FVec Ideal S2x4096x32x3 .f32) (c : FVec Ideal S2x4096x3 .f32) : FVec Ideal S2x4x4096x32 .f32 :=
  concatenate S2x4x4096x32 1 [⟨S2x1x4096x32, broadcastInDim S2x1x4096x32 ![0, 2, 3] bcast_S2x4096x32_S2x1x4096x32_0_2_3 p⟩,
    ⟨S2x3x4096x32, subf (transpose S2x3x4096x32 [0, 3, 1, 2] q transposes_S2x4096x32x3_S2x3x4096x32_0_3_1_2)
      (broadcastInDim S2x3x4096x32 ![0, 1, 2, 3] bcast_S2x3x4096x1_S2x3x4096x32_0_1_2_3
        (broadcastInDim S2x3x4096x1 ![0, 1, 2] bcast_S2x3x4096_S2x3x4096x1_0_1_2 (transpose S2x3x4096 [0, 2, 1] c transposes_S2x4096x3_S2x3x4096_0_2_1)))⟩]
    concatenates_S2x1x4096x32_S2x3x4096x32_S2x4x4096x32_d1

theorem quadruple_apply (p : FVec Ideal S2x4096x32 .f32) (q : FVec Ideal S2x4096x32x3 .f32) (c : FVec Ideal S2x4096x3 .f32) (b : Fin 2) (a : Fin 4) (n : Fin 4096) (t : Fin 32) :
    (quadruple p q c (ix4 b a n t) : EReal) = ![(p (ix3 b n t) : EReal), (q (ix4 b n t 0) : EReal) - c (ix3 b n 0), (q (ix4 b n t 1) : EReal) - c (ix3 b n 1),
      (q (ix4 b n t 2) : EReal) - c (ix3 b n 2)] a := by
  unfold quadruple
  pointwise
  fin_cases a <;> rfl

/-- The layer over the four values, its channels in groups of 8. -/
def layer (z : FVec Ideal S2x4x4096x32 .f32) (w : FVec Ideal S64x4 .f32) (v : FVec Ideal S64 .f32) : FVec Ideal S2x8x8x4096x32 .f32 :=
  shapeCast _ (addf (transpose S2x64x4096x32 [0, 3, 1, 2] (Host.dotGeneral dot_S2x4x4096x32_S64x4_S2x4096x32x64_1_1_023_0_n_n none z w)
      transposes_S2x4096x32x64_S2x64x4096x32_0_3_1_2)
    (broadcastInDim S2x64x4096x32 ![0, 1, 2, 3] bcast_S1x64x1x1_S2x64x4096x32_0_1_2_3 (broadcastInDim S1x64x1x1 ![1] bcast_S64_S1x64x1x1_1 v)))
    shapeCasts_S2x64x4096x32_S2x8x8x4096x32

/-- A channel of a group. -/
def chan (g r : Fin 8) : Fin 64 := ⟨g.val * 8 + r.val, by omega⟩

theorem layer_apply (z : FVec Ideal S2x4x4096x32 .f32) (w : FVec Ideal S64x4 .f32) (v : FVec Ideal S64 .f32) (b : Fin 2) (g r : Fin 8) (n : Fin 4096) (t : Fin 32) :
    (layer z w v (ix5 b g r n t) : EReal) = (∑ a : Fin 4, (z (ix4 b a n t) : EReal) * w (ix2 (chan g r) a)) + v (ix1 (chan g r)) := by
  unfold layer chan
  pointwise

theorem second_eq : (res_main_v253 V0 : FVec Ideal S2x8x8x4096x32 .f32) = layer (quadruple
    (Host.gather gather_S2x4096x128_S2x4096x32x3_S2x4096x32_n_012_n_n_012_3_111 (res_main_values V0) (at' V0))
    (Host.gather gather_S2x4096x128x3_S2x4096x32x3_S2x4096x32x3_3_012_n_n_012_3_1113 (res_main_v20 V0) (at' V0)) (V0 (Proc.devRef .tc main_arg3)))
    (V0 (Proc.devRef .tc main_arg11)) (V0 (Proc.devRef .tc main_arg12)) := rfl

/-- The second layer at a point's `t`-th nearest. -/
theorem second_apply (b : Fin 2) (g r : Fin 8) (n : Fin 4096) (t : Fin 32) :
    (res_main_v253 V0 (ix5 b g r n t) : EReal)
      = linear ((weights V0).wk (chan g r)) ((weights V0).bk (chan g r)) (rankedParts (arrays V0) b n t) := by
  rw [second_eq, layer_apply, Fin.sum_univ_four]
  simp only [quadruple_apply]
  rw [gather_products _ _ b n t b n _ (at_apply V0 b n t), gather_places _ _ b n t 0 b n _ (at_apply V0 b n t),
    gather_places _ _ b n t 1 b n _ (at_apply V0 b n t), gather_places _ _ b n t 2 b n _ (at_apply V0 b n t),
    Ref.values_apply, Ref.positions_apply, Ref.positions_apply, Ref.positions_apply]
  unfold linear
  refine congrArg₂ (· + ·) (congrArg₂ (· + ·) (congrArg₂ (· + ·) (congrArg₂ (· + ·) (mul_comm _ _) (mul_comm _ _)) (mul_comm _ _)) (mul_comm _ _)) rfl

end Cert.RefNear

end
-- ==== Proof.RefNorm.lean ====
/-
  The reference program's first group norm at an index: over the points.
-/
module

public import proofs.«01_k».proof.Proof.RefNear
public import proofs.«01_k».proof.Proof.Consts

@[expose] public section

set_option maxRecDepth 16384

noncomputable section

namespace Cert.RefNorm

open Cert.ReferenceIdeal Cert.ReferenceIdeal.Gen Cert.ReferenceIdeal.Value Idealize.ShloMosaic Cert.Model Cert.Full
open Cert.Ref (arrays)
open Cert.RefNear (weights chan)

/-! ## Over the points -/

/-- The mean of each group. -/
def mean (z : FVec Ideal S2x8x16x4096 .f32) : FVec Ideal S2x8x1x1 .f32 :=
  Host.divf (broadcastInDim S2x8x1x1 ![0, 1] bcast_S2x8_S2x8x1x1_0_1 (Host.reduceAdd z (constant S_ .f32 0x00000000#32) reducesTo_S2x8x16x4096_S2x8_d2_3 h_S_))
    (broadcastInDim S2x8x1x1 ![] bcast_S_S2x8x1x1 (constant S_ .f32 0x47800000#32))

/-- The values less their group's mean. -/
def apart (z : FVec Ideal S2x8x16x4096 .f32) : FVec Ideal S2x8x16x4096 .f32 :=
  subf z (broadcastInDim S2x8x16x4096 ![0, 1, 2, 3] bcast_S2x8x1x1_S2x8x16x4096_0_1_2_3 (mean z))

/-- The number of values of a group. -/
def count : FVec Ideal S_ .f32 := subf (constant S_ .f32 0x47800000#32) (sitofp .f32 (constantI S_ 32 0#32))

/-- The variance of each group. -/
def variance (z : FVec Ideal S2x8x16x4096 .f32) : FVec Ideal S2x8x1x1 .f32 :=
  select (broadcastInDim S2x8x1x1 ![] bcast_S_S2x8x1x1 (cmpf .ogt count (constant S_ .f32 0x00000000#32)))
    (Host.divf (broadcastInDim S2x8x1x1 ![0, 1] bcast_S2x8_S2x8x1x1_0_1 (Host.reduceAdd (mulf (apart z) (apart z)) (constant S_ .f32 0x00000000#32) reducesTo_S2x8x16x4096_S2x8_d2_3 h_S_))
      (broadcastInDim S2x8x1x1 ![] bcast_S_S2x8x1x1 count))
    (broadcastInDim S2x8x1x1 ![] bcast_S_S2x8x1x1 (id (constant S_ .f32 0x7FC00000#32)))

/-- The norm. -/
def norm (z : FVec Ideal S2x8x16x4096 .f32) (g be : FVec Ideal S128 .f32) : FVec Ideal S2x128x4096 .f32 :=
  addf (mulf (shapeCast _ (Host.divf (apart z) (broadcastInDim S2x8x16x4096 ![0, 1, 2, 3] bcast_S2x8x1x1_S2x8x16x4096_0_1_2_3
      (Host.sqrt (addf (variance z) (broadcastInDim S2x8x1x1 ![] bcast_S_S2x8x1x1 (constant S_ .f32 0x3727C5AC#32)))))) shapeCasts_S2x8x16x4096_S2x128x4096)
      (broadcastInDim S2x128x4096 ![0, 1, 2] bcast_S1x128x1_S2x128x4096_0_1_2 (shapeCast _ g shapeCasts_S128_S1x128x1)))
    (broadcastInDim S2x128x4096 ![0, 1, 2] bcast_S1x128x1_S2x128x4096_0_1_2 (shapeCast _ be shapeCasts_S128_S1x128x1))

variable (V0 : Valuation τ sig (Elt Ideal))

theorem norm_eq : (res_main_v178 V0 : FVec Ideal S2x128x4096 .f32) = norm (shapeCast _ (res_main_v158 V0) shapeCasts_S2x128x4096_S2x8x16x4096) (V0 (Proc.devRef .tc main_arg6))
    (V0 (Proc.devRef .tc main_arg7)) := rfl

theorem count_apply : (count ix0 : EReal) = ((65536 : ℝ) : EReal) := by
  show Ideal.ofBits .f32 0x47800000#32 - (((0#32 : BitVec 32).toInt : ℝ) : EReal) = _
  rw [Consts.group_points]
  simp

theorem mean_apply (z : FVec Ideal S2x8x16x4096 .f32) (b : Fin 2) (q : Fin 8) :
    (mean z (ix4 b q 0 0) : EReal) = Ideal.div (∑ r : Fin 16, ∑ n : Fin 4096, (z (ix4 b q r n) : EReal)) ((65536 : ℝ) : EReal) := by
  unfold mean
  pointwise
  rw [Consts.group_points]

theorem apart_apply (z : FVec Ideal S2x8x16x4096 .f32) (b : Fin 2) (q : Fin 8) (r : Fin 16) (n : Fin 4096) :
    (apart z (ix4 b q r n) : EReal) = z (ix4 b q r n) - mean z (ix4 b q 0 0) := by
  unfold apart
  pointwise

theorem variance_apply (z : FVec Ideal S2x8x16x4096 .f32) (b : Fin 2) (q : Fin 8) :
    (variance z (ix4 b q 0 0) : EReal) = Ideal.div (∑ r : Fin 16, ∑ n : Fin 4096, (apart z (ix4 b q r n) : EReal) * apart z (ix4 b q r n)) ((65536 : ℝ) : EReal) := by
  unfold variance
  simp only [id_eq]
  pointwise
  rw [count_apply, if_pos (by exact_mod_cast (by norm_num : (0 : ℝ) < 65536))]

theorem norm_apply (z : FVec Ideal S2x8x16x4096 .f32) (g be : FVec Ideal S128 .f32) (b : Fin 2) (q : Fin 8) (r : Fin 16) (n : Fin 4096) :
    (norm z g be (ix3 b ⟨q.val * 16 + r.val, by omega⟩ n) : EReal)
      = Ideal.div (apart z (ix4 b q r n)) (Ideal.sqrt (variance z (ix4 b q 0 0) + tiny)) * g (ix1 ⟨q.val * 16 + r.val, by omega⟩)
        + be (ix1 ⟨q.val * 16 + r.val, by omega⟩) := by
  unfold norm
  pointwise
  rfl

end Cert.RefNorm

end
-- ==== Proof.RefSlots.lean ====
/-
  The reference program's second group norm at an index: over the points and their nearest.
-/
module

public import proofs.«01_k».proof.Proof.RefNear
public import proofs.«01_k».proof.Proof.Consts

@[expose] public section

set_option maxRecDepth 16384

noncomputable section

namespace Cert.RefSlots

open Cert.ReferenceIdeal Cert.ReferenceIdeal.Gen Cert.ReferenceIdeal.Value Idealize.ShloMosaic Cert.Model Cert.Full
open Cert.Ref (arrays)
open Cert.RefNear (weights chan)

/-! ## Over the points and their nearest -/

/-- The mean of each group. -/
def mean (z : FVec Ideal S2x8x8x4096x32 .f32) : FVec Ideal S2x8x1x1x1 .f32 :=
  Host.divf (broadcastInDim S2x8x1x1x1 ![0, 1] bcast_S2x8_S2x8x1x1x1_0_1 (Host.reduceAdd z (constant S_ .f32 0x00000000#32) reducesTo_S2x8x8x4096x32_S2x8_d2_3_4 h_S_))
    (broadcastInDim S2x8x1x1x1 ![] bcast_S_S2x8x1x1x1 (constant S_ .f32 0x49800000#32))

/-- The values less their group's mean. -/
def apart (z : FVec Ideal S2x8x8x4096x32 .f32) : FVec Ideal S2x8x8x4096x32 .f32 :=
  subf z (broadcastInDim S2x8x8x4096x32 ![0, 1, 2, 3, 4] bcast_S2x8x1x1x1_S2x8x8x4096x32_0_1_2_3_4 (mean z))

/-- The number of values of a group. -/
def count : FVec Ideal S_ .f32 := subf (constant S_ .f32 0x49800000#32) (sitofp .f32 (constantI S_ 32 0#32))

/-- The variance of each group. -/
def variance (z : FVec Ideal S2x8x8x4096x32 .f32) : FVec Ideal S2x8x1x1x1 .f32 :=
  select (broadcastInDim S2x8x1x1x1 ![] bcast_S_S2x8x1x1x1 (cmpf .ogt count (constant S_ .f32 0x00000000#32)))
    (Host.divf (broadcastInDim S2x8x1x1x1 ![0, 1] bcast_S2x8_S2x8x1x1x1_0_1 (Host.reduceAdd (mulf (apart z) (apart z)) (constant S_ .f32 0x00000000#32) reducesTo_S2x8x8x4096x32_S2x8_d2_3_4 h_S_))
      (broadcastInDim S2x8x1x1x1 ![] bcast_S_S2x8x1x1x1 count))
    (broadcastInDim S2x8x1x1x1 ![] bcast_S_S2x8x1x1x1 (id (constant S_ .f32 0x7FC00000#32)))

/-- The norm. -/
def norm (z : FVec Ideal S2x8x8x4096x32 .f32) (g be : FVec Ideal S64 .f32) : FVec Ideal S2x64x4096x32 .f32 :=
  addf (mulf (shapeCast _ (Host.divf (apart z) (broadcastInDim S2x8x8x4096x32 ![0, 1, 2, 3, 4] bcast_S2x8x1x1x1_S2x8x8x4096x32_0_1_2_3_4
      (Host.sqrt (addf (variance z) (broadcastInDim S2x8x1x1x1 ![] bcast_S_S2x8x1x1x1 (constant S_ .f32 0x3727C5AC#32)))))) shapeCasts_S2x8x8x4096x32_S2x64x4096x32)
      (broadcastInDim S2x64x4096x32 ![0, 1, 2, 3] bcast_S1x64x1x1_S2x64x4096x32_0_1_2_3 (shapeCast _ g shapeCasts_S64_S1x64x1x1)))
    (broadcastInDim S2x64x4096x32 ![0, 1, 2, 3] bcast_S1x64x1x1_S2x64x4096x32_0_1_2_3 (shapeCast _ be shapeCasts_S64_S1x64x1x1))

variable (V0 : Valuation τ sig (Elt Ideal))

theorem norm_eq : (res_main_v272 V0 : FVec Ideal S2x64x4096x32 .f32) = norm (res_main_v253 V0) (V0 (Proc.devRef .tc main_arg13))
    (V0 (Proc.devRef .tc main_arg14)) := rfl

theorem count_apply : (count ix0 : EReal) = ((1048576 : ℝ) : EReal) := by
  show Ideal.ofBits .f32 0x49800000#32 - (((0#32 : BitVec 32).toInt : ℝ) : EReal) = _
  rw [Consts.group_slots]
  simp

theorem mean_apply (z : FVec Ideal S2x8x8x4096x32 .f32) (b : Fin 2) (q : Fin 8) :
    (mean z (ix5 b q 0 0 0) : EReal) = Ideal.div (∑ r : Fin 8, ∑ n : Fin 4096, ∑ t : Fin 32, (z (ix5 b q r n t) : EReal)) ((1048576 : ℝ) : EReal) := by
  unfold mean
  pointwise
  rw [Consts.group_slots]

theorem apart_apply (z : FVec Ideal S2x8x8x4096x32 .f32) (b : Fin 2) (q : Fin 8) (r : Fin 8) (n : Fin 4096) (t : Fin 32) :
    (apart z (ix5 b q r n t) : EReal) = z (ix5 b q r n t) - mean z (ix5 b q 0 0 0) := by
  unfold apart
  pointwise

theorem variance_apply (z : FVec Ideal S2x8x8x4096x32 .f32) (b : Fin 2) (q : Fin 8) :
    (variance z (ix5 b q 0 0 0) : EReal) = Ideal.div (∑ r : Fin 8, ∑ n : Fin 4096, ∑ t : Fin 32, (apart z (ix5 b q r n t) : EReal) * apart z (ix5 b q r n t)) ((1048576 : ℝ) : EReal) := by
  unfold variance
  simp only [id_eq]
  pointwise
  rw [count_apply, if_pos (by exact_mod_cast (by norm_num : (0 : ℝ) < 1048576))]

theorem norm_apply (z : FVec Ideal S2x8x8x4096x32 .f32) (g be : FVec Ideal S64 .f32) (b : Fin 2) (q : Fin 8) (r : Fin 8) (n : Fin 4096) (t : Fin 32) :
    (norm z g be (ix4 b ⟨q.val * 8 + r.val, by omega⟩ n t) : EReal)
      = Ideal.div (apart z (ix5 b q r n t)) (Ideal.sqrt (variance z (ix5 b q 0 0 0) + tiny)) * g (ix1 ⟨q.val * 8 + r.val, by omega⟩)
        + be (ix1 ⟨q.val * 8 + r.val, by omega⟩) := by
  unfold norm
  pointwise
  rfl

end Cert.RefSlots

end
-- ==== Proof.Plain.lean ====
/-
  The reference's result as formulas: each channel less its group's mean over the root of its group's variance, a mean and
  a variance taken over all values of the group; the second layer at each of the nearest, the nearest first.
-/
module

public import proofs.«01_k».proof.Proof.Full

@[expose] public section

noncomputable section

namespace Cert.Plain

open Idealize.ShloMosaic Cert.Model Cert.Full

section

variable {G : ℕ} {ι : Type} [Fintype ι] (x : Fin G → ι → EReal) (count : ℝ)

/-- The mean of a group's `count` values. -/
def mean : EReal := Ideal.div (∑ r, ∑ p, x r p) (count : EReal)

/-- Their variance. -/
def variance : EReal := Ideal.div (∑ r, ∑ p, (x r p - mean x count) * (x r p - mean x count)) (count : EReal)

/-- A value less the mean, over the root of the variance. -/
def normed (y : EReal) : EReal := Ideal.div (y - mean x count) (Ideal.sqrt (variance x count + tiny))

end

/-- The `r`-th channel of the group of 16 holding channel `ch`. -/
def of16 (ch : Fin 128) (r : Fin 16) : Fin 128 := ⟨ch.val / 16 * 16 + r.val, by omega⟩

/-- The `r`-th channel of the group of 8 holding channel `ch`. -/
def of8 (ch : Fin 64) (r : Fin 8) : Fin 64 := ⟨ch.val / 8 * 8 + r.val, by omega⟩

variable (I : Arrays) (W : Weights) (b : Fin 2) (n : Fin 4096)

/-- The first half's value of channel `ch`. -/
def voxelPlain (ch : Fin 128) : EReal :=
  prelu W.a1 (normed (fun r n => first I b n (of16 ch r)) 65536 (first I b n ch) * W.g1 ch + W.be1 ch)

/-- The second layer at a point's `t`-th nearest. -/
def near (ch : Fin 64) (n : Fin 4096) (t : Fin 32) : EReal := linear (W.wk ch) (W.bk ch) (rankedParts I b n t)

/-- The second half's value of channel `ch`. -/
def nearPlain (ch : Fin 64) : EReal :=
  Finset.univ.sup fun t : Fin 32 =>
    prelu W.ak (normed (fun r (p : Fin 4096 × Fin 32) => near I W b (of8 ch r) p.1 p.2) 1048576 (near I W b ch n t) * W.gk ch + W.bek ch)

/-- The result at a point. -/
def plain (o : Fin 64) : EReal :=
  (∑ ch : Fin 128, voxelPlain I W b n ch * W.w2 o ch) + W.b2 o + ((∑ ch : Fin 64, nearPlain I W b n ch * W.wo o ch) + W.bo o)

end Cert.Plain

end
-- ==== Proof.RefEnd.lean ====
/-
  The reference program's result at an index.
-/
module

public import proofs.«01_k».proof.Proof.RefNorm
public import proofs.«01_k».proof.Proof.RefSlots
public import proofs.«01_k».proof.Proof.Plain

@[expose] public section

set_option maxRecDepth 16384

noncomputable section

namespace Cert.RefEnd

open Cert.ReferenceIdeal Cert.ReferenceIdeal.Gen Cert.ReferenceIdeal.Value Idealize.ShloMosaic Cert.Model Cert.Full Cert.Plain
open Cert.Ref (arrays)
open Cert.RefNear (weights chan)

variable (V0 : Valuation τ sig (Elt Ideal))

theorem grouped_apply (b : Fin 2) (q : Fin 8) (r : Fin 16) (n : Fin 4096) :
    (shapeCast S2x8x16x4096 (res_main_v158 V0) shapeCasts_S2x128x4096_S2x8x16x4096 (ix4 b q r n) : EReal)
      = first (arrays V0) b n ⟨q.val * 16 + r.val, by omega⟩ := by
  refine Eq.trans ?_ (Ref.first_apply V0 b ⟨q.val * 16 + r.val, by omega⟩ n)
  pointwise

theorem first_norm (b : Fin 2) (ch : Fin 128) (n : Fin 4096) : (res_main_v178 V0 (ix3 b ch n) : EReal)
    = normed (fun r n => first (arrays V0) b n (of16 ch r)) 65536 (first (arrays V0) b n ch) * (weights V0).g1 ch + (weights V0).be1 ch := by
  obtain ⟨q, r, rfl⟩ : ∃ (q : Fin 8) (r : Fin 16), ch = ⟨q.val * 16 + r.val, by omega⟩ :=
    ⟨⟨ch.val / 16, by omega⟩, ⟨ch.val % 16, by omega⟩, Fin.ext (by show ch.val = ch.val / 16 * 16 + ch.val % 16; omega)⟩
  have ho : of16 ⟨q.val * 16 + r.val, by omega⟩ = fun s : Fin 16 => (⟨q.val * 16 + s.val, by omega⟩ : Fin 128) :=
    funext fun s => Fin.ext (by show (q.val * 16 + r.val) / 16 * 16 + s.val = q.val * 16 + s.val; omega)
  rw [RefNorm.norm_eq, RefNorm.norm_apply, RefNorm.variance_apply, ho]
  simp only [RefNorm.apart_apply, RefNorm.mean_apply, grouped_apply]
  rfl

theorem second_norm (b : Fin 2) (ch : Fin 64) (n : Fin 4096) (t : Fin 32) : (res_main_v272 V0 (ix4 b ch n t) : EReal)
    = normed (fun r (p : Fin 4096 × Fin 32) => near (arrays V0) (weights V0) b (of8 ch r) p.1 p.2) 1048576 (near (arrays V0) (weights V0) b ch n t)
      * (weights V0).gk ch + (weights V0).bek ch := by
  obtain ⟨q, r, rfl⟩ : ∃ (q : Fin 8) (r : Fin 8), ch = ⟨q.val * 8 + r.val, by omega⟩ :=
    ⟨⟨ch.val / 8, by omega⟩, ⟨ch.val % 8, by omega⟩, Fin.ext (by show ch.val = ch.val / 8 * 8 + ch.val % 8; omega)⟩
  have ho : of8 ⟨q.val * 8 + r.val, by omega⟩ = chan q :=
    funext fun s => Fin.ext (by show (q.val * 8 + r.val) / 8 * 8 + s.val = q.val * 8 + s.val; omega)
  rw [RefSlots.norm_eq, RefSlots.norm_apply, RefSlots.variance_apply, ho]
  simp only [RefSlots.apart_apply, RefSlots.mean_apply, RefNear.second_apply]
  unfold normed variance Plain.mean near
  simp only [Fintype.sum_prod_type]
  rfl

/-! ## The last layers -/

/-- A channel of the first half, its slope taken. -/
def sloped (x : FVec Ideal S2x128x4096 .f32) (a : FVec Ideal S_ .f32) : FVec Ideal S2x128x4096 .f32 :=
  select (cmpf .ogt x (broadcastInDim S2x128x4096 ![] bcast_S_S2x128x4096 (constant S_ .f32 0x00000000#32))) x
    (mulf (broadcastInDim S2x128x4096 ![] bcast_S_S2x128x4096 a) x)

theorem sloped_apply (x : FVec Ideal S2x128x4096 .f32) (a : FVec Ideal S_ .f32) (b : Fin 2) (ch : Fin 128) (n : Fin 4096) :
    (sloped x a (ix3 b ch n) : EReal) = prelu (a ix0) (x (ix3 b ch n)) := by
  unfold sloped
  pointwise
  rfl

/-- A channel of the second half, its slope taken. -/
def slopedNear (y : FVec Ideal S2x64x4096x32 .f32) (a : FVec Ideal S_ .f32) : FVec Ideal S2x64x4096x32 .f32 :=
  select (cmpf .ogt y (broadcastInDim S2x64x4096x32 ![] bcast_S_S2x64x4096x32 (constant S_ .f32 0x00000000#32))) y
    (mulf (broadcastInDim S2x64x4096x32 ![] bcast_S_S2x64x4096x32 a) y)

theorem slopedNear_apply (y : FVec Ideal S2x64x4096x32 .f32) (a : FVec Ideal S_ .f32) (b : Fin 2) (ch : Fin 64) (n : Fin 4096) (t : Fin 32) :
    (slopedNear y a (ix4 b ch n t) : EReal) = prelu (a ix0) (y (ix4 b ch n t)) := by
  unfold slopedNear
  pointwise
  rfl

theorem fold_sup {ι : Type} [Fintype ι] (f : ι → EReal) : Finset.univ.fold max ⊥ f = Finset.univ.sup f := rfl

/-- The greatest over the nearest. -/
def most (y : FVec Ideal S2x64x4096x32 .f32) : FVec Ideal S2x64x4096 .f32 :=
  Host.reduce FloatOps.maximumf y (constant S_ .f32 0xFF800000#32) reducesTo_S2x64x4096x32_S2x64x4096_d3 h_S_

theorem most_apply (y : FVec Ideal S2x64x4096x32 .f32) (b : Fin 2) (ch : Fin 64) (n : Fin 4096) :
    (most y (ix3 b ch n) : EReal) = Finset.univ.sup fun t : Fin 32 => (y (ix4 b ch n t) : EReal) := by
  unfold most
  pointwise
  rw [Consts.bottom_eq]
  exact fold_sup _

/-- The two last layers, added. -/
def ending (x : FVec Ideal S2x128x4096 .f32) (y : FVec Ideal S2x64x4096 .f32) (w2 : FVec Ideal S64x128 .f32) (b2 : FVec Ideal S64 .f32)
    (wo : FVec Ideal S64x64 .f32) (bo : FVec Ideal S64 .f32) : FVec Ideal S2x64x4096 .f32 :=
  addf (addf (transpose S2x64x4096 [0, 2, 1] (Host.dotGeneral dot_S2x128x4096_S64x128_S2x4096x64_1_1_02_0_n_n none x w2) transposes_S2x4096x64_S2x64x4096_0_2_1)
    (broadcastInDim S2x64x4096 ![0, 1, 2] bcast_S1x64x1_S2x64x4096_0_1_2 (broadcastInDim S1x64x1 ![1] bcast_S64_S1x64x1_1 b2)))
  (addf (transpose S2x64x4096 [0, 2, 1] (Host.dotGeneral dot_S2x64x4096_S64x64_S2x4096x64_1_1_02_0_n_n none y wo) transposes_S2x4096x64_S2x64x4096_0_2_1)
    (broadcastInDim S2x64x4096 ![0, 1, 2] bcast_S1x64x1_S2x64x4096_0_1_2 (broadcastInDim S1x64x1 ![1] bcast_S64_S1x64x1_1 bo)))

theorem ending_apply (x : FVec Ideal S2x128x4096 .f32) (y : FVec Ideal S2x64x4096 .f32) (w2 : FVec Ideal S64x128 .f32) (b2 : FVec Ideal S64 .f32)
    (wo : FVec Ideal S64x64 .f32) (bo : FVec Ideal S64 .f32) (b : Fin 2) (o : Fin 64) (n : Fin 4096) :
    (ending x y w2 b2 wo bo (ix3 b o n) : EReal)
      = (∑ ch : Fin 128, (x (ix3 b ch n) : EReal) * w2 (ix2 o ch)) + b2 (ix1 o)
        + ((∑ ch : Fin 64, (y (ix3 b ch n) : EReal) * wo (ix2 o ch)) + bo (ix1 o)) := by
  unfold ending
  pointwise

/-- The reference's result. -/
theorem ending_eq : ending (sloped (res_main_v178 V0) (V0 (Proc.devRef .tc main_arg8))) (most (slopedNear (res_main_v272 V0) (V0 (Proc.devRef .tc main_arg15))))
      (V0 (Proc.devRef .tc main_arg9)) (V0 (Proc.devRef .tc main_arg10)) (V0 (Proc.devRef .tc main_arg16)) (V0 (Proc.devRef .tc main_arg17))
    = fun j : S2x64x4096.Idx => plain (arrays V0) (weights V0) (j 0) (j 2) (j 1) := by
  funext j
  conv_lhs => rw [eq_ix3 j]
  refine (ending_apply _ _ _ _ _ _ (j 0) (j 1) (j 2)).trans ?_
  unfold plain
  refine congrArg₂ (· + ·) (congrArg₂ (· + ·) (Finset.sum_congr rfl fun ch _ => congrArg₂ (· * ·) ?_ rfl) rfl)
    (congrArg₂ (· + ·) (Finset.sum_congr rfl fun ch _ => congrArg₂ (· * ·) ?_ rfl) rfl)
  · refine (sloped_apply _ _ (j 0) ch (j 2)).trans ?_
    exact congrArg (prelu _) (first_norm V0 (j 0) ch (j 2))
  · refine (most_apply _ (j 0) ch (j 2)).trans ?_
    unfold nearPlain
    refine Finset.sup_congr rfl fun t _ => (slopedNear_apply _ _ (j 0) ch (j 2) t).trans ?_
    exact congrArg (prelu _) (second_norm V0 (j 0) ch (j 2) t)

end Cert.RefEnd

end
-- ==== Proof.Norm.lean ====
/-
  A group norm of finite numbers in two ways: from the channels' means and mean squares, and from the mean and the variance
  of all values of the group.
-/
module

public import proofs.«01_k».proof.Proof.Plain
public import proofs.«01_k».proof.Proof.Consts

@[expose] public section

noncomputable section

namespace Cert.Norm

open Idealize.ShloMosaic Cert.Full Cert.Plain

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

section

variable {C G : ℕ} (i : Fin C) (mem : Fin G → Fin C) (hmem : ∀ r, (mem r).val = i.val / G * G + r.val)
include hmem

theorem mem_injective : Function.Injective mem := fun a b h => Fin.ext (by
  have ha := hmem a
  rw [h, hmem b] at ha
  omega)

theorem group_eq (hG : 0 < G) : (Finset.univ.filter fun j : Fin C => i.val / G = j.val / G) = Finset.univ.image mem := by
  ext j
  simp only [Finset.mem_filter, Finset.mem_univ, true_and, Finset.mem_image]
  constructor
  · intro h
    refine ⟨⟨j.val % G, Nat.mod_lt _ hG⟩, Fin.ext ?_⟩
    rw [hmem, h]
    exact Nat.div_add_mod' j.val G
  · rintro ⟨r, rfl⟩
    rw [hmem, Nat.add_comm, Nat.add_mul_div_right _ _ hG, Nat.div_eq_of_lt r.isLt, Nat.zero_add]

/-- The average over a channel's group. -/
theorem average_eq (hG : 0 < G) (w : ℝ) (x : Fin C → EReal) (X : Fin C → ℝ) (hx : ∀ j, x j = (X j : EReal)) :
    average G (w : EReal) x i = ((w * ∑ r, X (mem r) : ℝ) : EReal) := by
  have h1 : average G (w : EReal) x i = ∑ j : Fin C, (((if i.val / G = j.val / G then w * X j else 0 : ℝ)) : EReal) := by
    unfold average
    refine Finset.sum_congr rfl fun j _ => ?_
    rw [hx j]
    by_cases h : i.val / G = j.val / G
    · rw [if_pos h, if_pos h, one_mul, EReal.coe_mul]
    · rw [if_neg h, if_neg h, zero_mul, zero_mul, EReal.coe_zero]
  rw [h1, coe_sum, ← Finset.sum_filter, group_eq i mem hmem hG, Finset.sum_image fun a _ b _ h => mem_injective i mem hmem h, Finset.mul_sum]

end

theorem square_sum {G : ℕ} {ι : Type} [Fintype ι] (X : Fin G → ι → ℝ) (M : ℝ) :
    ∑ r, ∑ p, (X r p - M) * (X r p - M) = (∑ r, ∑ p, X r p * X r p) - 2 * M * (∑ r, ∑ p, X r p) + (G * Fintype.card ι : ℝ) * (M * M) := by
  have h : ∀ r p, (X r p - M) * (X r p - M) = X r p * X r p - 2 * M * X r p + M * M := fun r p => by ring
  simp only [h, Finset.sum_add_distrib, Finset.sum_sub_distrib, ← Finset.mul_sum, Finset.sum_const, Finset.card_univ, Fintype.card_fin, nsmul_eq_mul]
  ring

/-- Both norms are the same shift and the same positive scale. -/
theorem norm_eq {C G : ℕ} {ι : Type} [Fintype ι] (i : Fin C) (mem : Fin G → Fin C) (hmem : ∀ r, (mem r).val = i.val / G * G + r.val)
    (hG : 0 < G) (hι : 0 < Fintype.card ι) (X : Fin C → ι → ℝ) (w N : ℝ) (hw : w = 1 / G) (hN : N = G * Fintype.card ι) (m e : Fin C → EReal)
    (hm : ∀ j, m j = (((∑ p, X j p) / Fintype.card ι : ℝ) : EReal)) (he : ∀ j, e j = (((∑ p, X j p * X j p) / Fintype.card ι : ℝ) : EReal)) :
    ∃ μ ρ : ℝ, 0 < ρ ∧ ∀ y : ℝ, centred G (w : EReal) m e i (y : EReal) = (((y - μ) * ρ : ℝ) : EReal)
      ∧ normed (fun r p => (X (mem r) p : EReal)) N (y : EReal) = (((y - μ) * ρ : ℝ) : EReal) := by
  obtain ⟨t, ht, htiny⟩ := Consts.tiny_eq
  have hGr : (0 : ℝ) < G := Nat.cast_pos.mpr hG
  have hcr : (0 : ℝ) < Fintype.card ι := Nat.cast_pos.mpr hι
  have hN0 : 0 < N := hN ▸ mul_pos hGr hcr
  set M : ℝ := (∑ r, ∑ p, X (mem r) p) / N with hM
  set S : ℝ := (∑ r, ∑ p, (X (mem r) p - M) * (X (mem r) p - M)) / N with hS
  have hS0 : 0 ≤ S := div_nonneg (Finset.sum_nonneg fun r _ => Finset.sum_nonneg fun p _ => mul_self_nonneg _) hN0.le
  have hSt : 0 < S + t := by linarith
  have hroot : 0 < Real.sqrt (S + t) := Real.sqrt_pos.mpr hSt
  have hmean : Plain.mean (fun r p => (X (mem r) p : EReal)) N = (M : EReal) := by
    unfold Plain.mean
    simp only [coe_sum]
    exact div_real _ _ hN0.ne'
  have hvar : variance (fun r p => (X (mem r) p : EReal)) N = (S : EReal) := by
    unfold variance
    simp only [hmean, ← EReal.coe_sub, ← EReal.coe_mul, coe_sum]
    exact div_real _ _ hN0.ne'
  have ham : average G (w : EReal) m i = (M : EReal) := by
    rw [average_eq i mem hmem hG w m _ hm, ← Finset.sum_div, hM, hw, hN]
    congr 1
    field_simp
  have hae : average G (w : EReal) e i - average G (w : EReal) m i * average G (w : EReal) m i = (S : EReal) := by
    rw [ham, average_eq i mem hmem hG w e _ he, ← Finset.sum_div, ← EReal.coe_mul, ← EReal.coe_sub]
    congr 1
    have hsum : (∑ r, ∑ p, X (mem r) p) = M * N := by
      rw [hM]
      field_simp
    rw [hS, square_sum, hsum, ← hN, hw]
    have : (1 : ℝ) / G * ((∑ r, ∑ p, X (mem r) p * X (mem r) p) / Fintype.card ι) = (∑ r, ∑ p, X (mem r) p * X (mem r) p) / N := by
      rw [hN]
      field_simp
    rw [this]
    field_simp
    ring
  refine ⟨M, (Real.sqrt (S + t))⁻¹, inv_pos.mpr hroot, fun y => ⟨?_, ?_⟩⟩
  · unfold centred tiny
    rw [hae, ham, htiny, ← EReal.coe_add, Ideal.rsqrt_coe, if_neg (not_lt.mpr hSt.le), if_neg hSt.ne', ← EReal.coe_sub, ← EReal.coe_mul]
  · unfold normed tiny
    rw [hvar, hmean, htiny, ← EReal.coe_add, Ideal.sqrt_coe, if_neg (not_lt.mpr hSt.le), ← EReal.coe_sub, div_real _ _ hroot.ne', div_eq_mul_inv]

/-! ## The slope and the greatest value -/

theorem prelu_mono {a : EReal} (ha : 0 ≤ a) {u v : EReal} (h : u ≤ v) : prelu a u ≤ prelu a v := by
  unfold prelu
  by_cases hv : 0 < v
  · by_cases hu : 0 < u
    · rwa [if_pos hu, if_pos hv]
    · rw [if_neg hu, if_pos hv]
      have h0 : a * u ≤ a * 0 := mul_le_mul_of_nonneg_left (not_lt.mp hu) ha
      rw [mul_zero] at h0
      exact h0.trans hv.le
  · rw [if_neg fun hu => hv (hu.trans_le h), if_neg hv]
    exact mul_le_mul_of_nonneg_left h ha

/-- A function that keeps the order of the finite numbers takes the greatest value to the greatest value. -/
theorem greatest_eq {ι : Type} [Fintype ι] [Nonempty ι] (x : ι → ℝ) (f : EReal → EReal) (hf : ∀ u v : ℝ, u ≤ v → f u ≤ f v) :
    f (Finset.univ.sup fun t => (x t : EReal)) = Finset.univ.sup fun t => f (x t) := by
  obtain ⟨t, -, ht⟩ := Finset.exists_mem_eq_sup (Finset.univ : Finset ι) Finset.univ_nonempty fun t => (x t : EReal)
  refine le_antisymm ?_ (Finset.sup_le fun s _ => ?_)
  · rw [ht]
    exact Finset.le_sup (f := fun t => f (x t)) (Finset.mem_univ t)
  · have hs : (x s : EReal) ≤ Finset.univ.sup fun t => (x t : EReal) := Finset.le_sup (f := fun t => (x t : EReal)) (Finset.mem_univ s)
    rw [ht] at hs ⊢
    exact hf _ _ (EReal.coe_le_coe_iff.mp hs)

end Cert.Norm

end
-- ==== Proof.Finite.lean ====
/-
  From finite features and weights come finite values: the first layer and the four values of a near candidate.
-/
module

public import proofs.«01_k».proof.Proof.Norm

@[expose] public section

noncomputable section

namespace Cert.Finite

open Idealize.ShloMosaic Cert.Model Cert.Full Cert.Knn

/-- A finite value. -/
def Fin' (x : EReal) : Prop := ∃ r : ℝ, x = (r : EReal)

theorem zero : Fin' 0 := ⟨0, rfl⟩

theorem add {x y : EReal} : Fin' x → Fin' y → Fin' (x + y) := fun ⟨r, hr⟩ ⟨s, hs⟩ => ⟨r + s, by rw [hr, hs, EReal.coe_add]⟩

theorem mul {x y : EReal} : Fin' x → Fin' y → Fin' (x * y) := fun ⟨r, hr⟩ ⟨s, hs⟩ => ⟨r * s, by rw [hr, hs, EReal.coe_mul]⟩

theorem sub {x y : EReal} : Fin' x → Fin' y → Fin' (x - y) := fun ⟨r, hr⟩ ⟨s, hs⟩ => ⟨r - s, by rw [hr, hs, EReal.coe_sub]⟩

theorem ite {p : Prop} [Decidable p] {x y : EReal} (hx : Fin' x) (hy : Fin' y) : Fin' (if p then x else y) := by
  by_cases h : p
  · rwa [if_pos h]
  · rwa [if_neg h]

theorem sum {ι : Type} [Fintype ι] (f : ι → EReal) (h : ∀ i, Fin' (f i)) : Fin' (∑ i, f i) := by
  choose g hg using h
  exact ⟨∑ i, g i, by simp only [hg, Norm.coe_sum]⟩

theorem max' {x y : EReal} : Fin' x → Fin' y → Fin' (max x y) := fun hx hy => by
  rcases max_choice x y with h | h
  · rwa [h]
  · rwa [h]

theorem min' {x y : EReal} : Fin' x → Fin' y → Fin' (min x y) := fun hx hy => by
  rcases min_choice x y with h | h
  · rwa [h]
  · rwa [h]

theorem quotient {x y : EReal} (hx : Fin' x) (hy : Fin' y) (h : 1 ≤ y) : Fin' (Ideal.div x y) := by
  obtain ⟨r, rfl⟩ := hx
  obtain ⟨s, rfl⟩ := hy
  have hs : (1 : ℝ) ≤ s := EReal.coe_le_coe_iff.mp h
  exact ⟨r / s, Norm.div_real r s (by linarith)⟩

open Classical in
theorem weight (size : EReal) (c : Place) (e : Entry) : Fin' (Model.weight size c e) := by
  unfold Model.weight weightAt
  exact ite ⟨1, rfl⟩ zero

theorem mean (size : EReal) (c : Place) (es : Fin 128 → Entry) (o : ℕ) (h : ∀ k, Fin' (es k).val) : Fin' (Model.mean size c es o) := by
  unfold Model.mean
  refine quotient (sum _ fun k => ?_) (min' ⟨4096, Consts.points_eq⟩ (max' ⟨1, rfl⟩ (sum _ fun k => ?_))) (le_min ?_ (le_max_left _ _))
  · unfold share
    exact ite (mul (h k) (weight _ _ _)) zero
  · unfold tally
    exact ite (weight _ _ _) zero
  · show (1 : EReal) ≤ Ideal.ofBits .f32 0x45800000#32
    rw [Consts.points_eq]
    exact EReal.coe_le_coe_iff.mpr (by norm_num)

theorem feature (c : Place) (es : Fin 128 → Entry) (f : ℕ) (h : ∀ k, Fin' (es k).val) : Fin' (Model.feature c es f) := by
  unfold Model.feature
  exact ite (mean _ _ _ _ h) (ite (mean _ _ _ _ h) (ite (mean _ _ _ _ h) zero))

/-! ## Finite distances -/

theorem square_nonneg (x : EReal) : 0 ≤ x * x := by
  induction x using EReal.rec with
  | bot => simp
  | top => simp
  | coe r => exact EReal.coe_nonneg.mpr (mul_self_nonneg r)

theorem of_square {x : EReal} (h : x * x ≠ ⊤) : Fin' x := by
  induction x using EReal.rec with
  | bot => exact absurd EReal.bot_mul_bot h
  | top => exact absurd EReal.top_mul_top h
  | coe r => exact ⟨r, rfl⟩

theorem summands {x y : EReal} (hx : 0 ≤ x) (hy : 0 ≤ y) (h : x + y ≠ ⊤) : x ≠ ⊤ ∧ y ≠ ⊤ := by
  refine ⟨fun e => h ?_, fun e => h ?_⟩
  · rw [e]
    exact EReal.top_add_of_ne_bot fun f => absurd hy (by rw [f]; simp)
  · rw [e]
    exact EReal.add_top_of_ne_bot fun f => absurd hx (by rw [f]; simp)

/-- The offsets of a candidate at a finite distance are finite. -/
theorem offsets {c : Place} {e : Entry} (h : ⊥ < Knn.close c e) : Fin' (e.at'.x - c.x) ∧ Fin' (e.at'.y - c.y) ∧ Fin' (e.at'.z - c.z) := by
  have hd : (e.at'.x - c.x) * (e.at'.x - c.x) + (e.at'.y - c.y) * (e.at'.y - c.y) + (e.at'.z - c.z) * (e.at'.z - c.z) ≠ ⊤ := fun ht =>
    h.ne' (by rw [Knn.close, ht, EReal.neg_top])
  have h1 := summands (add_nonneg (square_nonneg _) (square_nonneg _)) (square_nonneg _) hd
  have h2 := summands (square_nonneg _) (square_nonneg _) h1.1
  exact ⟨of_square h2.1, of_square h2.2, of_square h1.2⟩

/-- The features and the first layer's weights are finite. -/
structure Arrays' (I : Arrays) : Prop where
  f1 : ∀ b k n, Fin' (I.f1 b k n)
  f2 : ∀ b k n, Fin' (I.f2 b k n)
  w : ∀ c f, Fin' (I.w c f)
  b : ∀ c, Fin' (I.b c)

variable {I : Arrays} (h : Arrays' I)
include h

theorem score (b : Fin 2) (n m : Fin 4096) : Fin' (Model.score I b n m) := by
  unfold Model.score
  exact mul (sum _ fun k => mul (h.f1 _ _ _) (h.f2 _ _ _)) ⟨_, rfl⟩

theorem first (b : Fin 2) (n : Fin 4096) (ch : Fin 128) : Fin' (Model.first I b n ch) := by
  unfold Model.first featureOf
  exact add (sum _ fun f => mul (feature _ _ _ fun k => score h b n _) (h.w _ _)) (h.b _)

theorem parts (b : Fin 2) (n m : Fin 4096) (hd : ⊥ < Knn.close (here I b n) (candidate I b n m)) (a : Fin 4) :
    Fin' (Knn.parts (here I b n) (candidate I b n m) a) := by
  fin_cases a
  · exact score h b n m
  · exact (offsets hd).1
  · exact (offsets hd).2.1
  · exact (offsets hd).2.2

end Cert.Finite

end
-- ==== Proof.Moments.lean ====
/-
  The mean and the mean square of a linear channel from the sums of its four inputs and of their products, for finite numbers.
-/
module

public import proofs.«01_k».proof.Proof.Norm

@[expose] public section

noncomputable section

namespace Cert.Moments

open Idealize.ShloMosaic Cert.Full

/-- The 14 terms of four finite numbers. -/
def terms (k : Fin 4 → ℝ) : Fin 16 → ℝ :=
  ![k 0, k 1, k 2, k 3, k 0 * k 0, k 0 * k 1, k 0 * k 2, k 0 * k 3, k 1 * k 1, k 1 * k 2, k 1 * k 3, k 2 * k 2, k 2 * k 3, k 3 * k 3, 0, 0]

theorem term_coe (k : Fin 4 → ℝ) (i : Fin 16) : NearRow.term (fun a => (k a : EReal)) i = (terms k i : EReal) := by
  fin_cases i <;> first | rfl | exact (EReal.coe_mul _ _).symm

/-- A channel at four finite numbers. -/
def channel (w : Fin 4 → ℝ) (b : ℝ) (k : Fin 4 → ℝ) : ℝ := w 0 * k 0 + w 1 * k 1 + w 2 * k 2 + w 3 * k 3 + b

theorem linear_coe (w : Fin 4 → ℝ) (b : ℝ) (k : Fin 4 → ℝ) :
    linear (fun a => (w a : EReal)) (b : EReal) (fun a => (k a : EReal)) = (channel w b k : EReal) := by
  unfold linear channel
  simp only [EReal.coe_add, EReal.coe_mul]

section

variable {ι : Type} [Fintype ι] (K : ι → Fin 4 → ℝ) (w : Fin 4 → ℝ) (b : ℝ)

/-- The sum of a term. -/
def total (i : Fin 16) : ℝ := ∑ p, terms (K p) i

theorem sum_channel : ∑ p, channel w b (K p)
    = w 0 * total K 0 + w 1 * total K 1 + w 2 * total K 2 + w 3 * total K 3 + Fintype.card ι * b := by
  have h : ∀ p, channel w b (K p) = w 0 * terms (K p) 0 + w 1 * terms (K p) 1 + w 2 * terms (K p) 2 + w 3 * terms (K p) 3 + b := fun p => rfl
  unfold total
  simp only [h, Finset.sum_add_distrib, ← Finset.mul_sum, Finset.sum_const, Finset.card_univ, nsmul_eq_mul]

theorem square_channel (k : Fin 4 → ℝ) : channel w b k * channel w b k
    = b * b + 2 * b * w 0 * terms k 0 + 2 * b * w 1 * terms k 1 + 2 * b * w 2 * terms k 2 + 2 * b * w 3 * terms k 3
      + w 0 * w 0 * terms k 4 + 2 * w 0 * w 1 * terms k 5 + 2 * w 0 * w 2 * terms k 6 + 2 * w 0 * w 3 * terms k 7
      + w 1 * w 1 * terms k 8 + 2 * w 1 * w 2 * terms k 9 + 2 * w 1 * w 3 * terms k 10
      + w 2 * w 2 * terms k 11 + 2 * w 2 * w 3 * terms k 12 + w 3 * w 3 * terms k 13 := by
  show (w 0 * k 0 + w 1 * k 1 + w 2 * k 2 + w 3 * k 3 + b) * (w 0 * k 0 + w 1 * k 1 + w 2 * k 2 + w 3 * k 3 + b)
    = b * b + 2 * b * w 0 * k 0 + 2 * b * w 1 * k 1 + 2 * b * w 2 * k 2 + 2 * b * w 3 * k 3
      + w 0 * w 0 * (k 0 * k 0) + 2 * w 0 * w 1 * (k 0 * k 1) + 2 * w 0 * w 2 * (k 0 * k 2) + 2 * w 0 * w 3 * (k 0 * k 3)
      + w 1 * w 1 * (k 1 * k 1) + 2 * w 1 * w 2 * (k 1 * k 2) + 2 * w 1 * w 3 * (k 1 * k 3)
      + w 2 * w 2 * (k 2 * k 2) + 2 * w 2 * w 3 * (k 2 * k 3) + w 3 * w 3 * (k 3 * k 3)
  ring

theorem sum_square : ∑ p, channel w b (K p) * channel w b (K p)
    = Fintype.card ι * (b * b) + 2 * b * w 0 * total K 0 + 2 * b * w 1 * total K 1 + 2 * b * w 2 * total K 2 + 2 * b * w 3 * total K 3
      + w 0 * w 0 * total K 4 + 2 * w 0 * w 1 * total K 5 + 2 * w 0 * w 2 * total K 6 + 2 * w 0 * w 3 * total K 7
      + w 1 * w 1 * total K 8 + 2 * w 1 * w 2 * total K 9 + 2 * w 1 * w 3 * total K 10
      + w 2 * w 2 * total K 11 + 2 * w 2 * w 3 * total K 12 + w 3 * w 3 * total K 13 := by
  unfold total
  simp only [square_channel, Finset.sum_add_distrib, ← Finset.mul_sum, Finset.sum_const, Finset.card_univ, nsmul_eq_mul]
  ring

variable (hι : 0 < Fintype.card ι) (m : Fin 16 → EReal) (hm : ∀ i, m i = ((total K i / Fintype.card ι : ℝ) : EReal))
include hι hm

/-- The mean. -/
theorem meanOf_eq : meanOf (fun a => (w a : EReal)) (b : EReal) m = (((∑ p, channel w b (K p)) / Fintype.card ι : ℝ) : EReal) := by
  have hc : (Fintype.card ι : ℝ) ≠ 0 := (Nat.cast_pos.mpr hι).ne'
  unfold meanOf
  simp only [hm, ← EReal.coe_mul, ← EReal.coe_add]
  rw [sum_channel]
  congr 1
  field_simp
  ring

/-- The mean square. -/
theorem squareOf_eq : squareOf (fun a => (w a : EReal)) (b : EReal) m
    = (((∑ p, channel w b (K p) * channel w b (K p)) / Fintype.card ι : ℝ) : EReal) := by
  have hc : (Fintype.card ι : ℝ) ≠ 0 := (Nat.cast_pos.mpr hι).ne'
  unfold squareOf
  simp only [hm, Consts.two_eq, ← EReal.coe_mul, ← EReal.coe_add]
  rw [sum_square]
  congr 1
  field_simp
  ring

end

end Cert.Moments

end
-- ==== Proof.Sets.lean ====
/-
  The 32 nearest of the 128 candidates are the same in column order and in order of distance, unless the 32nd and the 33rd
  nearest are equally near.
-/
module

public import proofs.«01_k».proof.Proof.Knn

@[expose] public section

set_option maxRecDepth 16384

noncomputable section

namespace Cert.Sets

open Cert.Order

/-! ## The first `K` of a sorted row -/

section

variable {n : ℕ} {α : Type} [LinearOrder α] (x : Fin n → α) (K : ℕ) (hK : K ≤ n)

/-- An entry of the sorted row is at least a later one. -/
theorem sorted_antitone {i j : Fin n} (h : i ≤ j) : x (sorted x j) ≤ x (sorted x i) := by
  rcases h.eq_or_lt with rfl | h
  · exact le_rfl
  · rcases (before_sorted_iff x i j).mpr h with h | h
    · exact h.le
    · exact h.1.symm.le

/-- The positions of the first `K`, in any order. -/
def firsts : Finset (Fin n) := Finset.univ.image fun k : Fin K => sorted x (k.castLE hK)

/-- With a gap after the first `K`, they are the entries above the gap. -/
theorem mem_firsts (hn : K < n) (hpos : 0 < K) (gap : x (sorted x ⟨K, hn⟩) < x (sorted x ⟨K - 1, by omega⟩)) (m : Fin n) :
    m ∈ firsts x K hK ↔ x (sorted x ⟨K, hn⟩) < x m := by
  unfold firsts
  rw [Finset.mem_image]
  constructor
  · rintro ⟨k, -, rfl⟩
    exact gap.trans_le (sorted_antitone x (by show k.val ≤ K - 1; omega))
  · intro h
    obtain ⟨i, rfl⟩ := (sorted_bijective x).2 m
    have hi : i.val < K := by
      by_contra hc
      exact absurd h (not_lt.mpr (sorted_antitone x (by show K ≤ i.val; omega)))
    exact ⟨⟨i.val, hi⟩, Finset.mem_univ _, rfl⟩

/-- The `k`-th chosen position. -/
def at' (k : Fin K) : Fin n := ⟨kth x K k.val, (kth_facts x K hK k.val k.isLt).2.1⟩

theorem at_injective : Function.Injective (at' x K hK) := fun a b h => by
  have h' : kth x K a.val = kth x K b.val := congrArg Fin.val h
  have ha := (kth_facts x K hK a.val a.isLt).2.2
  rw [h', (kth_facts x K hK b.val b.isLt).2.2] at ha
  exact Fin.ext ha.symm

theorem image_at : Finset.univ.image (at' x K hK) = chosenSet x K := by
  refine Finset.eq_of_subset_of_card_le (fun m hm => ?_) ?_
  · obtain ⟨k, -, rfl⟩ := Finset.mem_image.mp hm
    exact Finset.mem_filter.mpr ⟨Finset.mem_univ _, (kth_facts x K hK k.val k.isLt).1⟩
  · rw [card_chosenSet x K hK, Finset.card_image_of_injective _ (at_injective x K hK), Finset.card_univ, Fintype.card_fin]

include hK in
/-- Where exactly `K` entries lie above a value, they are the chosen. -/
theorem above_eq (v : α) (h : (Finset.univ.filter fun k => v < x k).card = K) : (Finset.univ.filter fun k => v < x k) = chosenSet x K := by
  refine Finset.eq_of_subset_of_card_le (fun m hm => ?_) (by rw [card_chosenSet x K hK, h])
  refine Finset.mem_filter.mpr ⟨Finset.mem_univ _, m.isLt, ?_⟩
  have hlt : (Finset.univ.filter fun l => Before x l m) ⊂ Finset.univ.filter fun k => v < x k := by
    refine Finset.ssubset_iff_subset_ne.mpr ⟨fun l hl => ?_, fun e => ?_⟩
    · have hv := (Finset.mem_filter.mp hm).2
      refine Finset.mem_filter.mpr ⟨Finset.mem_univ _, ?_⟩
      rcases (Finset.mem_filter.mp hl).2 with hl | hl
      · exact hv.trans hl
      · rw [hl.1]
        exact hv
    · rw [← e] at hm
      rcases (Finset.mem_filter.mp hm).2 with hm | hm
      · exact lt_irrefl _ hm
      · exact lt_irrefl _ hm.2
  exact (Finset.card_lt_card hlt).trans_eq h

end

section

variable {n N : ℕ} {α : Type} [LinearOrder α] (d : Fin N → α)

/-- The positions above a value, from any enumeration. -/
theorem above_image (v : α) (p : Fin n → Fin N) : (Finset.univ.filter fun k => v < d (p k)).image p = (Finset.univ.image p).filter fun m => v < d m := by
  ext m
  simp only [Finset.mem_image, Finset.mem_filter, Finset.mem_univ, true_and]
  constructor
  · rintro ⟨k, hk, rfl⟩
    exact ⟨⟨k, rfl⟩, hk⟩
  · rintro ⟨⟨k, rfl⟩, hk⟩
    exact ⟨k, hk, rfl⟩

/-- Of two enumerations of the same positions the first `K` are the same, where there is a gap after them. -/
theorem same_firsts (p q : Fin n → Fin N) (hp : Function.Injective p) (hq : Function.Injective q)
    (himg : Finset.univ.image p = Finset.univ.image q) (K : ℕ) (hK : K ≤ n) (hn : K < n) (hpos : 0 < K)
    (gap : d (q (sorted (fun k => d (q k)) ⟨K, hn⟩)) < d (q (sorted (fun k => d (q k)) ⟨K - 1, by omega⟩))) :
    (Finset.univ.image fun t : Fin K => p (at' (fun k => d (p k)) K hK t))
      = Finset.univ.image fun t : Fin K => q (sorted (fun k => d (q k)) (t.castLE hK)) := by
  have hr : (Finset.univ.filter fun k => d (q (sorted (fun k => d (q k)) ⟨K, hn⟩)) < d (q k)) = firsts (fun k => d (q k)) K hK := by
    ext m
    rw [mem_firsts (fun k => d (q k)) K hK hn hpos gap m]
    simp only [Finset.mem_filter, Finset.mem_univ, true_and]
  have hR : (Finset.univ.image fun t : Fin K => q (sorted (fun k => d (q k)) (t.castLE hK))) = (firsts (fun k => d (q k)) K hK).image q := by
    unfold firsts
    rw [Finset.image_image]
    rfl
  have hinj : Function.Injective fun t : Fin K => q (sorted (fun k => d (q k)) (t.castLE hK)) := fun _ _ h =>
    sorted_castLE_injective (fun k => d (q k)) K hK (hq h)
  generalize d (q (sorted (fun k => d (q k)) ⟨K, hn⟩)) = v at hr
  rw [← hr, above_image, ← himg, ← above_image] at hR
  have hc : (Finset.univ.filter fun k => v < d (p k)).card = K := by
    rw [← Finset.card_image_of_injective _ hp, ← hR, Finset.card_image_of_injective _ hinj, Finset.card_univ, Fintype.card_fin]
  have hC := above_eq (fun k => d (p k)) K hK v hc
  rw [hR, hC, ← image_at _ K hK, Finset.image_image]
  rfl

end

/-! ## The nearest -/

open Cert.Knn Cert.Model

variable (s : Fin 4096 → EReal) (c : Place) (e : Fin 4096 → Entry)

theorem ranked_injective : Function.Injective (ranked s) := sorted_castLE_injective s 128 (by decide)

theorem column_eq : column s = at' s 128 (by decide) := rfl

theorem column_injective : Function.Injective (column s) := at_injective s 128 (by decide)

theorem candidates_eq : Finset.univ.image (column s) = Finset.univ.image (ranked s) :=
  (image_at s 128 (by decide)).trans (chosenSet_eq s 128 (by decide))

theorem nearRanked_injective : Function.Injective (nearRanked s c e) := fun _ _ h =>
  sorted_castLE_injective (fun k => close c (e (ranked s k))) 32 (by decide) (ranked_injective s h)

theorem nearColumn_injective : Function.Injective (nearColumn s c e) := fun _ _ h =>
  at_injective (fun k => close c (e (column s k))) 32 (by decide) (column_injective s h)

/-- The nearest are the same in both orders. -/
theorem nearest_eq (h : Untied s c e) : Finset.univ.image (nearColumn s c e) = Finset.univ.image (nearRanked s c e) :=
  same_firsts (fun m => close c (e m)) (column s) (ranked s) (column_injective s) (ranked_injective s) (candidates_eq s) 32 (by decide) (by decide)
    (by decide) h

theorem sum_nearest (h : Untied s c e) (f : Fin 4096 → EReal) : ∑ t, f (nearColumn s c e t) = ∑ t, f (nearRanked s c e t) := by
  rw [← Finset.sum_image (g := nearColumn s c e) fun a _ b _ h => nearColumn_injective s c e h, nearest_eq s c e h,
    Finset.sum_image fun a _ b _ h => nearRanked_injective s c e h]

theorem sup_nearest (h : Untied s c e) (f : Fin 4096 → EReal) :
    (Finset.univ.sup fun t => f (nearColumn s c e t)) = Finset.univ.sup fun t => f (nearRanked s c e t) := by
  have e1 := Finset.sup_image (Finset.univ : Finset (Fin 32)) (nearColumn s c e) f
  have e2 := Finset.sup_image (Finset.univ : Finset (Fin 32)) (nearRanked s c e) f
  rw [nearest_eq s c e h] at e1
  exact e1.symm.trans e2

/-- The nearest are at finite distances: there is one farther. -/
theorem nearRanked_close (h : Untied s c e) (t : Fin 32) : ⊥ < close c (e (nearRanked s c e t)) :=
  bot_le.trans_lt (h.trans_le (sorted_antitone (fun k => close c (e (ranked s k))) (i := t.castLE (by decide)) (j := 31)
    (Fin.mk_le_of_le_val (by have := t.isLt; show t.val ≤ 31; omega))))

theorem nearColumn_close (h : Untied s c e) (t : Fin 32) : ⊥ < close c (e (nearColumn s c e t)) := by
  have hm : nearColumn s c e t ∈ Finset.univ.image (nearRanked s c e) := nearest_eq s c e h ▸ Finset.mem_image_of_mem _ (Finset.mem_univ t)
  obtain ⟨u, -, hu⟩ := Finset.mem_image.mp hm
  rw [← hu]
  exact nearRanked_close s c e h u

end Cert.Sets

end
-- ==== Proof.Equal.lean ====
/-
  The kernel's formula is the reference's: for finite features, weights of the second half that keep the order, and no tie at
  the 32nd nearest.
-/
module

public import proofs.«01_k».proof.Proof.Finite
public import proofs.«01_k».proof.Proof.Moments
public import proofs.«01_k».proof.Proof.Sets

@[expose] public section

set_option maxRecDepth 16384

noncomputable section

namespace Cert.Equal

open Idealize.ShloMosaic Cert.Model Cert.Full Cert.Knn Cert.Plain Cert.Finite

/-- What the second half's arrays must be: the layer's weights finite, the norm's scale and the slope not negative. -/
structure Proper (W : Weights) : Prop where
  wk : ∀ c a, Fin' (W.wk c a)
  bk : ∀ c, Fin' (W.bk c)
  gk : ∀ c, 0 ≤ W.gk c
  ak : 0 ≤ W.ak

variable {I : Arrays} {W : Weights} (hI : Arrays' I) (hW : Proper W)
  (hU : ∀ b n, Untied (score I b n) (here I b n) (candidate I b n))

section
include hI

/-- The first half. -/
theorem voxel_eq (b : Fin 2) (n : Fin 4096) (ch : Fin 128) : voxelPart I W b n ch = voxelPlain I W b n ch := by
  choose X hX using fun (j : Fin 128) (n : Fin 4096) => Finite.first hI b n j
  obtain ⟨μ, ρ, -, h⟩ := Norm.norm_eq ch (of16 ch) (fun r => rfl) (by decide) (by simp) X (1 / 16) 65536 (by norm_num) (by norm_num)
    (fun j => Ideal.div (total I b 0 j) (Ideal.ofBits .f32 0x45800000#32)) (fun j => Ideal.div (total I b 1 j) (Ideal.ofBits .f32 0x45800000#32))
    (fun j => by
      have : total I b 0 j = ((∑ p, X j p : ℝ) : EReal) := by
        rw [← Norm.coe_sum]
        exact Finset.sum_congr rfl fun n _ => hX j n
      rw [this, Consts.points_eq, Norm.div_real _ _ (by norm_num)]
      simp)
    (fun j => by
      have : total I b 1 j = ((∑ p, X j p * X j p : ℝ) : EReal) := by
        rw [← Norm.coe_sum]
        refine Finset.sum_congr rfl fun n _ => ?_
        rw [EReal.coe_mul, ← hX]
        rfl
      rw [this, Consts.points_eq, Norm.div_real _ _ (by norm_num)]
      simp)
  unfold voxelPart voxelPlain
  rw [Consts.sixteenth, hX ch n, (h _).1, ← (h (X ch n)).2]
  simp only [hX]

end

/-- Families with the same sums have the same norm. -/
theorem normed_congr {G : ℕ} {ι : Type} [Fintype ι] (x x' : Fin G → ι → EReal) (h : ∀ r (f : EReal → EReal), ∑ p, f (x r p) = ∑ p, f (x' r p))
    (N : ℝ) (y : EReal) : normed x N y = normed x' N y := by
  have hm : Plain.mean x N = Plain.mean x' N := by
    unfold Plain.mean
    rw [Finset.sum_congr rfl fun r _ => h r fun z => z]
  unfold normed variance
  rw [hm, Finset.sum_congr rfl fun r _ => h r fun z => (z - Plain.mean x' N) * (z - Plain.mean x' N)]

section
include hU

theorem sum_parts (b : Fin 2) (f : (Fin 4 → EReal) → EReal) :
    ∑ p : Fin 4096 × Fin 32, f (columnParts I b p.1 p.2) = ∑ p : Fin 4096 × Fin 32, f (rankedParts I b p.1 p.2) := by
  rw [Fintype.sum_prod_type, Fintype.sum_prod_type]
  exact Finset.sum_congr rfl fun n _ => Sets.sum_nearest _ _ _ (hU b n) fun m => f (parts (here I b n) (candidate I b n m))

theorem greatest_parts (b : Fin 2) (n : Fin 4096) (w : Fin 4 → EReal) (v : EReal) :
    greatest w v (columnParts I b n) = Finset.univ.sup fun t : Fin 32 => linear w v (rankedParts I b n t) :=
  Sets.sup_nearest _ _ _ (hU b n) fun m => linear w v (parts (here I b n) (candidate I b n m))

include hI hW

/-- The second half. -/
theorem near_eq (b : Fin 2) (n : Fin 4096) (ch : Fin 64) : nearPart I W b n ch = nearPlain I W b n ch := by
  choose K hK using fun (p : Fin 4096 × Fin 32) (a : Fin 4) => Finite.parts hI b p.1 (nearColumn (score I b p.1) (here I b p.1) (candidate I b p.1) p.2)
    (Sets.nearColumn_close _ _ _ (hU b p.1) p.2) a
  choose R hR using fun (t : Fin 32) (a : Fin 4) => Finite.parts hI b n (nearRanked (score I b n) (here I b n) (candidate I b n) t)
    (Sets.nearRanked_close _ _ _ (hU b n) t) a
  have hK' : ∀ p : Fin 4096 × Fin 32, columnParts I b p.1 p.2 = fun a => (K p a : EReal) := fun p => funext (hK p)
  have hR' : ∀ t : Fin 32, rankedParts I b n t = fun a => (R t a : EReal) := fun t => funext (hR t)
  choose w hw using hW.wk
  choose v hv using hW.bk
  have hw' : ∀ j, W.wk j = fun a => (w j a : EReal) := fun j => funext (hw j)
  have hcard : Fintype.card (Fin 4096 × Fin 32) = 131072 := by simp
  have hmom : ∀ i, Ideal.div (moment I b i) (Ideal.ofBits .f32 0x48000000#32)
      = ((Moments.total K i / Fintype.card (Fin 4096 × Fin 32) : ℝ) : EReal) := by
    intro i
    have : moment I b i = ((Moments.total K i : ℝ) : EReal) := by
      unfold moment Moments.total
      rw [← Norm.coe_sum, ← Fintype.sum_prod_type fun p : Fin 4096 × Fin 32 => NearRow.term (columnParts I b p.1 p.2) i]
      refine Finset.sum_congr rfl fun p _ => ?_
      rw [hK']
      exact Moments.term_coe (K p) i
    rw [this, Consts.slots_eq, Norm.div_real _ _ (by norm_num), hcard]
    norm_num
  obtain ⟨μ, ρ, hρ, h⟩ := Norm.norm_eq ch (of8 ch) (fun r => rfl) (by decide) (by rw [hcard]; decide)
    (fun j p => Moments.channel (w j) (v j) (K p)) (1 / 8) 1048576 (by norm_num) (by rw [hcard]; norm_num)
    (fun j => meanOf (W.wk j) (W.bk j) fun i => Ideal.div (moment I b i) (Ideal.ofBits .f32 0x48000000#32))
    (fun j => squareOf (W.wk j) (W.bk j) fun i => Ideal.div (moment I b i) (Ideal.ofBits .f32 0x48000000#32))
    (fun j => by
      rw [hw', hv]
      exact Moments.meanOf_eq K (w j) (v j) (by rw [hcard]; decide) _ hmom)
    (fun j => by
      rw [hw', hv]
      exact Moments.squareOf_eq K (w j) (v j) (by rw [hcard]; decide) _ hmom)
  have hsame : ∀ y, normed (fun r (p : Fin 4096 × Fin 32) => near I W b (of8 ch r) p.1 p.2) 1048576 y
      = normed (fun r (p : Fin 4096 × Fin 32) => (Moments.channel (w (of8 ch r)) (v (of8 ch r)) (K p) : EReal)) 1048576 y := fun y =>
    normed_congr _ _ (fun r f => by
      unfold near
      rw [← sum_parts hU b fun k => f (linear (W.wk (of8 ch r)) (W.bk (of8 ch r)) k)]
      refine Finset.sum_congr rfl fun p _ => ?_
      rw [hK', hw', hv, Moments.linear_coe]) _ _
  unfold nearPart nearPlain
  rw [greatest_parts hU, Consts.eighth]
  have hlin : ∀ t, linear (W.wk ch) (W.bk ch) (rankedParts I b n t) = (Moments.channel (w ch) (v ch) (R t) : EReal) := fun t => by
    rw [hR', hw', hv, Moments.linear_coe]
  unfold near at hsame ⊢
  simp only [hsame, hlin]
  refine (Norm.greatest_eq (fun t => Moments.channel (w ch) (v ch) (R t)) (fun u => prelu W.ak (centred 8 ((1 / 8 : ℝ) : EReal)
    (fun j => meanOf (W.wk j) (W.bk j) fun i => Ideal.div (moment I b i) (Ideal.ofBits .f32 0x48000000#32))
    (fun j => squareOf (W.wk j) (W.bk j) fun i => Ideal.div (moment I b i) (Ideal.ofBits .f32 0x48000000#32)) ch u * W.gk ch + W.bek ch)) ?_).trans ?_
  · intro y z hyz
    show prelu _ _ ≤ prelu _ _
    rw [(h y).1, (h z).1]
    have h1 : (((y - μ) * ρ : ℝ) : EReal) ≤ (((z - μ) * ρ : ℝ) : EReal) :=
      EReal.coe_le_coe_iff.mpr (mul_le_mul_of_nonneg_right (by linarith) hρ.le)
    exact Norm.prelu_mono hW.ak (add_le_add (mul_le_mul_of_nonneg_right h1 (hW.gk ch)) le_rfl)
  · refine Finset.sup_congr rfl fun t _ => ?_
    show prelu _ _ = prelu _ _
    rw [(h _).1, (h _).2]

/-- The two formulas agree. -/
theorem whole_eq (b : Fin 2) (o : Fin 64) (n : Fin 4096) : whole I W b o n = plain I W b n o := by
  unfold whole plain
  rw [add_assoc]
  refine congrArg₂ (· + ·) (congrArg₂ (· + ·) (Finset.sum_congr rfl fun ch _ => ?_) rfl) (congrArg₂ (· + ·) (Finset.sum_congr rfl fun ch _ => ?_) rfl)
  · rw [voxel_eq hI, mul_comm]
  · rw [near_eq hI hW hU, mul_comm]

end

end Cert.Equal

end
-- ==== Proof.Regular.lean ====
/-
  What the precondition says of the arrays: the features and the layers' weights are finite, two arrays are not negative, and no
  point has its 32nd and 33rd nearest candidates equally near.
-/
module

public import proofs.«01_k».proof.Pre_regular
public import proofs.«01_k».proof.Proof.Equal
public import proofs.«01_k».proof.Proof.RefNear

@[expose] public section

set_option maxRecDepth 16384

noncomputable section

namespace Cert.Regular

open Cert.Pre_regular Idealize.ShloMosaic Cert.Finite

/-- The shapes of the precondition's operations fit. -/
theorem facts : Cert.Pre_regular.Facts where
  bcast_S_S2x4096x4096 := by decide
  sliceFits_S2x4096x4096_S2x4096x128 := by decide
  bcast_S2_S2x1x1_0 := by decide
  bcast_S_S2x1x1 := by decide
  bcast_S_S2x4096x128 := by decide
  bcast_S2x1x1_S2x4096x128_0_1_2 := by decide
  bcast_S2x4096x128_S2x4096x128x1_0_1_2 := by decide
  concatenates_S2x4096x128x1_S2x4096x128x1_S2x4096x128x2_d3 := by decide
  bcast_S2x4096x3_S2x4096x1x3_0_1_3 := by decide
  bcast_S2x4096x1x3_S2x4096x128x3_0_1_2_3 := by decide
  reducesTo_S2x4096x128x3_S2x4096x128_d3 := by decide
  h_S_ := by decide
  sliceFits_S2x4096x128_S2x4096x33 := by decide
  slices_S2x4096x33_S2x4096x1_0_0_31 := by decide
  shapeCasts_S2x4096x1_S2x4096 := by decide
  slices_S2x4096x33_S2x4096x1_0_0_32 := by decide
  bcast_S_S2x128x4096 := by decide
  bcast_S_S128x81 := by decide
  bcast_S_S128 := by decide
  bcast_S_S64x4 := by decide
  bcast_S_S64 := by decide
  dot_S2x128x4096_S2x128x4096_S2x4096x4096_1_1_2_2_0_0_wf := Cert.ReferenceIdeal.Gen.dot_S2x128x4096_S2x128x4096_S2x4096x4096_1_1_2_2_0_0_wf
  gather_S2x4096x3_S2x4096x128x2_S2x4096x128x3_3_01_n_n_01_3_113_wf := Cert.ReferenceIdeal.Gen.gather_S2x4096x3_S2x4096x128x2_S2x4096x128x3_3_01_n_n_01_3_113_wf

attribute [local instance] facts

theorem flag_iff (p : Prop) [Decidable p] : BitVec.ofBool (decide p) = 1#1 ↔ p := by
  by_cases h : p
  · rw [decide_eq_true h]
    exact ⟨fun _ => h, fun _ => rfl⟩
  · rw [decide_eq_false h]
    exact ⟨fun e => absurd e (by decide), fun e => absurd e h⟩

/-- A flag that the values are finite. -/
def finiteFlag (s : Shape) (h : S_.BroadcastsInDim s ![]) (x : FVec Ideal s .f32) : IVec s 1 :=
  cmpf .olt (Host.absf x) (broadcastInDim s ![] h (constant S_ .f32 0x7F800000#32))

theorem finite_of {s : Shape} {h : S_.BroadcastsInDim s ![]} {x : FVec Ideal s .f32} (hx : finiteFlag s h x = fun _ => 1#1) (i : s.Idx) : Fin' (x i) := by
  have hm : max (x i : EReal) (-(x i : EReal)) < Ideal.ofBits .f32 0x7F800000#32 := (flag_iff _).mp (congrFun hx i)
  rw [Consts.infinity_eq] at hm
  have h1 := (max_lt_iff.mp hm).1
  have h2 := (max_lt_iff.mp hm).2
  exact ⟨EReal.toReal (x i), (EReal.coe_toReal h1.ne fun hbot => by
    rw [hbot] at h2
    exact absurd h2 (by simp)).symm⟩

/-- A flag that the values are not negative. -/
def signFlag (s : Shape) (h : S_.BroadcastsInDim s ![]) (x : FVec Ideal s .f32) : IVec s 1 :=
  cmpf .oge x (broadcastInDim s ![] h (constant S_ .f32 0x00000000#32))

theorem nonneg_of {s : Shape} {h : S_.BroadcastsInDim s ![]} {x : FVec Ideal s .f32} (hx : signFlag s h x = fun _ => 1#1) (i : s.Idx) :
    (0 : EReal) ≤ x i := by
  have hm : Ideal.ofBits .f32 0x00000000#32 ≤ (x i : EReal) := (flag_iff _).mp (congrFun hx i)
  rwa [Consts.zero_eq] at hm

/-- A flag that the 32nd of a row's greatest is above the 33rd. -/
def gapFlag (x : FVec Ideal S2x4096x128 .f32) : IVec S2x4096 1 :=
  cmpf .ogt
    (shapeCast S2x4096 (extractStridedSlice S2x4096x1 ![0, 0, 31] (Host.topK S2x4096x33 2 (FloatOps.cmpfTotal .gt) x Facts.sliceFits_S2x4096x128_S2x4096x33).1
      Facts.slices_S2x4096x33_S2x4096x1_0_0_31) Facts.shapeCasts_S2x4096x1_S2x4096)
    (shapeCast S2x4096 (extractStridedSlice S2x4096x1 ![0, 0, 32] (Host.topK S2x4096x33 2 (FloatOps.cmpfTotal .gt) x Facts.sliceFits_S2x4096x128_S2x4096x33).1
      Facts.slices_S2x4096x33_S2x4096x1_0_0_32) Facts.shapeCasts_S2x4096x1_S2x4096)

theorem pick_apply (y : FVec Ideal S2x4096x33 .f32) (b : Fin 2) (n : Fin 4096) :
    cmpf .ogt (shapeCast S2x4096 (extractStridedSlice S2x4096x1 ![0, 0, 31] y Facts.slices_S2x4096x33_S2x4096x1_0_0_31) Facts.shapeCasts_S2x4096x1_S2x4096)
      (shapeCast S2x4096 (extractStridedSlice S2x4096x1 ![0, 0, 32] y Facts.slices_S2x4096x33_S2x4096x1_0_0_32) Facts.shapeCasts_S2x4096x1_S2x4096) (ix2 b n)
      = BitVec.ofBool (decide ((y (ix3 b n 32) : EReal) < y (ix3 b n 31))) := by
  pointwise

theorem gap_of {x : FVec Ideal S2x4096x128 .f32} (hx : gapFlag x = fun _ => 1#1) (b : Fin 2) (n : Fin 4096) (s : Fin 128 → EReal)
    (hs : ∀ k, (x (ix3 b n k) : EReal) = s k) : s (Order.sorted s 32) < s (Order.sorted s 31) := by
  have hm := (flag_iff _).mp ((pick_apply _ b n).symm.trans (congrFun hx (ix2 b n)))
  rw [TopK.values_apply x s b n (by decide) hs _ 32, TopK.values_apply x s b n (by decide) hs _ 31] at hm
  exact hm

/-- What the precondition says. -/
theorem regular (a0 : FVec Ideal S2x128x4096 .f32) (a1 : FVec Ideal S2x128x4096 .f32) (a2 : FVec Ideal S2x4096x3 .f32) (a3 : FVec Ideal S2x4096x3 .f32) (a4 : FVec Ideal S128x81 .f32) (a5 : FVec Ideal S128 .f32) (a6 : FVec Ideal S128 .f32) (a7 : FVec Ideal S128 .f32) (a8 : FVec Ideal S_ .f32) (a9 : FVec Ideal S64x128 .f32) (a10 : FVec Ideal S64 .f32) (a11 : FVec Ideal S64x4 .f32) (a12 : FVec Ideal S64 .f32) (a13 : FVec Ideal S64 .f32) (a14 : FVec Ideal S64 .f32) (a15 : FVec Ideal S_ .f32) (a16 : FVec Ideal S64x64 .f32) (a17 : FVec Ideal S64 .f32)
    (h : (Cert.Pre_regular.fn (F := Ideal) a0 a1 a2 a3 a4 a5 a6 a7 a8 a9 a10 a11 a12 a13 a14 a15 a16 a17).1 = (fun _ => 1#1)
      ∧ (Cert.Pre_regular.fn (F := Ideal) a0 a1 a2 a3 a4 a5 a6 a7 a8 a9 a10 a11 a12 a13 a14 a15 a16 a17).2.1 = (fun _ => 1#1)
      ∧ (Cert.Pre_regular.fn (F := Ideal) a0 a1 a2 a3 a4 a5 a6 a7 a8 a9 a10 a11 a12 a13 a14 a15 a16 a17).2.2.1 = (fun _ => 1#1)
      ∧ (Cert.Pre_regular.fn (F := Ideal) a0 a1 a2 a3 a4 a5 a6 a7 a8 a9 a10 a11 a12 a13 a14 a15 a16 a17).2.2.2.1 = (fun _ => 1#1)
      ∧ (Cert.Pre_regular.fn (F := Ideal) a0 a1 a2 a3 a4 a5 a6 a7 a8 a9 a10 a11 a12 a13 a14 a15 a16 a17).2.2.2.2.1 = (fun _ => 1#1)
      ∧ (Cert.Pre_regular.fn (F := Ideal) a0 a1 a2 a3 a4 a5 a6 a7 a8 a9 a10 a11 a12 a13 a14 a15 a16 a17).2.2.2.2.2.1 = (fun _ => 1#1)
      ∧ (Cert.Pre_regular.fn (F := Ideal) a0 a1 a2 a3 a4 a5 a6 a7 a8 a9 a10 a11 a12 a13 a14 a15 a16 a17).2.2.2.2.2.2.1 = (fun _ => 1#1)
      ∧ (Cert.Pre_regular.fn (F := Ideal) a0 a1 a2 a3 a4 a5 a6 a7 a8 a9 a10 a11 a12 a13 a14 a15 a16 a17).2.2.2.2.2.2.2.1 = (fun _ => 1#1)
      ∧ (Cert.Pre_regular.fn (F := Ideal) a0 a1 a2 a3 a4 a5 a6 a7 a8 a9 a10 a11 a12 a13 a14 a15 a16 a17).2.2.2.2.2.2.2.2 = (fun _ => 1#1))
    (V0 : Valuation Cert.ReferenceIdeal.τ Cert.ReferenceIdeal.sig (Elt Ideal)) (h0 : V0 (Proc.devRef .tc Cert.ReferenceIdeal.main_arg0) = a0) (h1 : V0 (Proc.devRef .tc Cert.ReferenceIdeal.main_arg1) = a1) (h2 : V0 (Proc.devRef .tc Cert.ReferenceIdeal.main_arg2) = a2) (h3 : V0 (Proc.devRef .tc Cert.ReferenceIdeal.main_arg3) = a3) (h4 : V0 (Proc.devRef .tc Cert.ReferenceIdeal.main_arg4) = a4) (h5 : V0 (Proc.devRef .tc Cert.ReferenceIdeal.main_arg5) = a5) (h11 : V0 (Proc.devRef .tc Cert.ReferenceIdeal.main_arg11) = a11) (h12 : V0 (Proc.devRef .tc Cert.ReferenceIdeal.main_arg12) = a12) (h13 : V0 (Proc.devRef .tc Cert.ReferenceIdeal.main_arg13) = a13) (h15 : V0 (Proc.devRef .tc Cert.ReferenceIdeal.main_arg15) = a15) :
    Arrays' (Ref.arrays V0) ∧ Equal.Proper (RefNear.weights V0)
      ∧ ∀ b n, Knn.Untied (Model.score (Ref.arrays V0) b n) (Full.here (Ref.arrays V0) b n) (Model.candidate (Ref.arrays V0) b n) := by
  subst h0 h1 h2 h3 h4 h5 h11 h12 h13 h15
  obtain ⟨p0, p1, p4, p5, p11, p12, p13, p15, gap⟩ := h
  refine ⟨⟨fun b k n => ?_, fun b k n => ?_, fun c f => ?_, fun c => ?_⟩,
    ⟨fun c a => ?_, fun c => ?_, fun c => ?_, ?_⟩, fun b n => ?_⟩
  · exact finite_of (h := Facts.bcast_S_S2x128x4096) p0 (ix3 b k n)
  · exact finite_of (h := Facts.bcast_S_S2x128x4096) p1 (ix3 b k n)
  · exact finite_of (h := Facts.bcast_S_S128x81) p4 (ix2 c f)
  · exact finite_of (h := Facts.bcast_S_S128) p5 (ix1 c)
  · exact finite_of (h := Facts.bcast_S_S64x4) p11 (ix2 c a)
  · exact finite_of (h := Facts.bcast_S_S64) p12 (ix1 c)
  · exact nonneg_of (h := Facts.bcast_S_S64) p13 (ix1 c)
  · have hm : Ideal.ofBits .f32 0x00000000#32 ≤ (V0 (Proc.devRef .tc Cert.ReferenceIdeal.main_arg15) ix0 : EReal) := (flag_iff _).mp (congrFun p15 ix0)
    rwa [Consts.zero_eq] at hm
  · have hg : gapFlag (Cert.ReferenceIdeal.Value.res_main_v194 V0) = fun _ => 1#1 := gap
    exact gap_of hg b n (RefNear.nearness (Ref.arrays V0) b n) (RefNear.nearness_apply V0 b n)

end Cert.Regular

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.FinishResults
public import proofs.«01_k».proof.Proof.Run
public import proofs.«01_k».proof.Proof.RefEnd
public import proofs.«01_k».proof.Proof.Equal
public import proofs.«01_k».proof.Proof.Regular
public import Idealize.ShloMosaic.Adequacy
public import Idealize.ShloMosaic.Init

@[expose] public section

noncomputable section

namespace Cert.Proof

open Idealize.ShloMosaic Idealize.SL.Sem

/-- Memories that agree on the arguments hold the same arrays. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.Ref.arrays (StableHlo.launchContents m' c) = Cert.Blocks.arrays m c := by
  unfold Cert.Ref.arrays Cert.Blocks.arrays
  have e0 := fun b k n => congrFun h0 (ix3 b k n)
  have e1 := fun b k n => congrFun h1 (ix3 b k n)
  have e2 := fun b n d => congrFun h2 (ix3 b n d)
  have e3 := fun b n d => congrFun h3 (ix3 b n d)
  have e4 := fun ch f => congrFun h4 (ix2 ch f)
  have e5 := fun ch => congrFun h5 (ix1 ch)
  congr 1
  · exact funext fun b => funext fun k => funext fun n => e0 b k n
  · exact funext fun b => funext fun k => funext fun n => e1 b k n
  · exact funext fun b => funext fun n => funext fun d => e2 b n d
  · exact funext fun b => funext fun n => funext fun d => e3 b n d
  · exact funext fun ch => funext fun f => e4 ch f
  · exact funext fun ch => e5 ch

/-- Memories that agree on the other arguments hold the same weights. -/
theorem weights_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.RefNear.weights (StableHlo.launchContents m' c) = Cert.NearResults.weights m c := by
  unfold Cert.RefNear.weights Cert.NearResults.weights
  congr 1
  · exact funext fun i => congrFun h6 (ix1 i)
  · exact funext fun i => congrFun h7 (ix1 i)
  · exact congrFun h8 ix0
  · exact funext fun o => funext fun i => congrFun h9 (ix2 o i)
  · exact funext fun i => congrFun h10 (ix1 i)
  · exact funext fun o => funext fun i => congrFun h11 (ix2 o i)
  · exact funext fun i => congrFun h12 (ix1 i)
  · exact funext fun i => congrFun h13 (ix1 i)
  · exact funext fun i => congrFun h14 (ix1 i)
  · exact congrFun h15 ix0
  · exact funext fun o => funext fun i => congrFun h16 (ix2 o i)
  · exact funext fun i => congrFun h17 (ix1 i)

section kernel

open Cert.KernelIdeal Cert.KernelIdeal.Gen

/-- What the kernel leaves. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v36)
        = (fun j : S2x64x4096.Idx => Cert.Full.whole (Cert.Blocks.arrays m c) (Cert.NearResults.weights m c) (j 0) (j 1) (j 2))
      ∧ r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17)) :=
  (θ_run defs _ _).mono (fun r h c =>
      ⟨(h c _ (mem_uc main_v36 (by decide))).trans ((W4_arr m ρ c 16).trans (Cert.FinishResults.result16 m ρ c)),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c),
        (h c _ (mem_uc main_arg5 (by decide))).trans (W4_main_arg5 m ρ c),
        (h c _ (mem_uc main_arg6 (by decide))).trans (W4_main_arg6 m ρ c),
        (h c _ (mem_uc main_arg7 (by decide))).trans (W4_main_arg7 m ρ c),
        (h c _ (mem_uc main_arg8 (by decide))).trans (W4_main_arg8 m ρ c),
        (h c _ (mem_uc main_arg9 (by decide))).trans (W4_main_arg9 m ρ c),
        (h c _ (mem_uc main_arg10 (by decide))).trans (W4_main_arg10 m ρ c),
        (h c _ (mem_uc main_arg11 (by decide))).trans (W4_main_arg11 m ρ c),
        (h c _ (mem_uc main_arg12 (by decide))).trans (W4_main_arg12 m ρ c),
        (h c _ (mem_uc main_arg13 (by decide))).trans (W4_main_arg13 m ρ c),
        (h c _ (mem_uc main_arg14 (by decide))).trans (W4_main_arg14 m ρ c),
        (h c _ (mem_uc main_arg15 (by decide))).trans (W4_main_arg15 m ρ c),
        (h c _ (mem_uc main_arg16 (by decide))).trans (W4_main_arg16 m ρ c),
        (h c _ (mem_uc main_arg17 (by decide))).trans (W4_main_arg17 m ρ c)⟩)
    (Cert.Run.run_all m ρ)

end kernel

/-- The kernel's result is the reference's. -/
theorem algebraic : Cert.algebraic_KernelIdeal_ReferenceIdeal_pre_regular (hKernelIdeal := Cert.KernelIdeal.Gen.facts)
    (hReferenceIdeal := Cert.ReferenceIdeal.Gen.facts) (hPre_regular := Cert.Regular.facts) := by
  intro m ρ m' ρ' hpre hagree
  have ha : ∀ c, Cert.Ref.arrays (StableHlo.launchContents m' c) = Cert.Blocks.arrays m c := fun c =>
    arrays_eq m m' c (hagree c).1 (hagree c).2.1 (hagree c).2.2.1 (hagree c).2.2.2.1 (hagree c).2.2.2.2.1 (hagree c).2.2.2.2.2.1
  have hw : ∀ c, Cert.RefNear.weights (StableHlo.launchContents m' c) = Cert.NearResults.weights m c := fun c =>
    weights_eq m m' c (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2
  have hr := fun c => Cert.Regular.regular _ _ _ _ _ _ _ _ _ _ _ _ _ _ _ _ _ _ (hpre c) (StableHlo.launchContents m' c)
    (hagree c).1 (hagree c).2.1 (hagree c).2.2.1 (hagree c).2.2.2.1 (hagree c).2.2.2.2.1 (hagree c).2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.2.1
  refine ⟨fun c => fun j : Cert.KernelIdeal.S2x64x4096.Idx =>
    Cert.Full.whole (Cert.Blocks.arrays m c) (Cert.NearResults.weights m c) (j 0) (j 1) (j 2), kernel_run m ρ, ?_⟩
  refine (θ_run Cert.ReferenceIdeal.defs _ _).mono (fun r h c => ⟨(h c).1.trans ((Cert.RefEnd.ending_eq (StableHlo.launchContents m' c)).trans ?_), (h c).2⟩)
    (Cert.ReferenceIdeal.Value.run (F := Ideal) m' ρ')
  funext j
  refine (Cert.Equal.whole_eq (hr c).1 (hr c).2.1 (hr c).2.2 (j 0) (j 1) (j 2)).symm.trans ?_
  rw [ha c, hw c]

/-- The reference runs and keeps its arguments. -/
theorem reference_frame : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Regular.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  IdealRules.named_const.statement Cert.KernelIdeal.κ "s" .f32 0x3DB504F3#32 (((Real.sqrt 128)⁻¹ : ℝ) : EReal) rfl, algebraic⟩

end Cert.Proof

end
